-- ==== Defs.lean ====
def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxRefIdeal (m : (ℓ : Loc Cert.AmaxRefIdeal.nD Cert.AmaxRefIdeal.τ Cert.AmaxRefIdeal.sig) → Buf (Elt Ideal) ℓ) : Prop :=
  True

def Pre_Quant (m : (ℓ : Loc Cert.Quant.nD Cert.Quant.τ Cert.Quant.sig) → Buf (Elt Bits) ℓ) : Prop :=
  True

def Pre_ScaleRef (m : (ℓ : Loc Cert.ScaleRef.nD Cert.ScaleRef.τ Cert.ScaleRef.sig) → Buf (Elt Bits) ℓ) : Prop :=
  True

def Pre_Codes (m : (ℓ : Loc Cert.Codes.nD Cert.Codes.τ Cert.Codes.sig) → Buf (Elt Bits) ℓ) : Prop :=
  True

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0)
      ∧ r.2.mem ((c.tc : Thread Cert.Amax.nD Cert.Amax.τ).loc Cert.Amax.main_arg1) = m ((c.tc : Thread Cert.Amax.nD Cert.Amax.τ).loc Cert.Amax.main_arg1))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
      ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1))
      ∧ r.2.sem = fun _ => 0)

def quiescent_AmaxRefIdeal [hAmaxRefIdeal : Cert.AmaxRefIdeal.Facts] : Prop :=
  ∀ (m : (ℓ : Loc Cert.AmaxRefIdeal.nD Cert.AmaxRefIdeal.τ Cert.AmaxRefIdeal.sig) → Buf (Elt Ideal) ℓ) (g : Dev Cert.AmaxRefIdeal.nD → PrngReg), Pre_AmaxRefIdeal m →
    θ_run (Cert.AmaxRefIdeal.defs (F := Ideal)) (onTc (τ := Cert.AmaxRefIdeal.τ) (Cert.AmaxRefIdeal.main (F := Ideal))) ⟨m, fun _ => 0, g⟩ (fun r => (∀ c : Dev Cert.AmaxRefIdeal.nD,
      r.2.mem ((c.tc : Thread Cert.AmaxRefIdeal.nD Cert.AmaxRefIdeal.τ).loc Cert.AmaxRefIdeal.main_arg0) = m ((c.tc : Thread Cert.AmaxRefIdeal.nD Cert.AmaxRefIdeal.τ).loc Cert.AmaxRefIdeal.main_arg0)
      ∧ r.2.mem ((c.tc : Thread Cert.AmaxRefIdeal.nD Cert.AmaxRefIdeal.τ).loc Cert.AmaxRefIdeal.main_arg1) = m ((c.tc : Thread Cert.AmaxRefIdeal.nD Cert.AmaxRefIdeal.τ).loc Cert.AmaxRefIdeal.main_arg1))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3)
      ∧ r.2.mem ((c.tc : Thread Cert.Quant.nD Cert.Quant.τ).loc Cert.Quant.main_arg4) = m ((c.tc : Thread Cert.Quant.nD Cert.Quant.τ).loc Cert.Quant.main_arg4))
      ∧ r.2.sem = fun _ => 0)

def quiescent_ScaleRef [hScaleRef : Cert.ScaleRef.Facts] : Prop :=
  ∀ (m : (ℓ : Loc Cert.ScaleRef.nD Cert.ScaleRef.τ Cert.ScaleRef.sig) → Buf (Elt Bits) ℓ) (g : Dev Cert.ScaleRef.nD → PrngReg), Pre_ScaleRef m →
    θ_run (Cert.ScaleRef.defs (F := Bits)) (onTc (τ := Cert.ScaleRef.τ) (Cert.ScaleRef.main (F := Bits))) ⟨m, fun _ => 0, g⟩ (fun r => (∀ c : Dev Cert.ScaleRef.nD,
      r.2.mem ((c.tc : Thread Cert.ScaleRef.nD Cert.ScaleRef.τ).loc Cert.ScaleRef.main_arg0) = m ((c.tc : Thread Cert.ScaleRef.nD Cert.ScaleRef.τ).loc Cert.ScaleRef.main_arg0)
      ∧ r.2.mem ((c.tc : Thread Cert.ScaleRef.nD Cert.ScaleRef.τ).loc Cert.ScaleRef.main_arg1) = m ((c.tc : Thread Cert.ScaleRef.nD Cert.ScaleRef.τ).loc Cert.ScaleRef.main_arg1)
      ∧ r.2.mem ((c.tc : Thread Cert.ScaleRef.nD Cert.ScaleRef.τ).loc Cert.ScaleRef.main_arg2) = m ((c.tc : Thread Cert.ScaleRef.nD Cert.ScaleRef.τ).loc Cert.ScaleRef.main_arg2)
      ∧ r.2.mem ((c.tc : Thread Cert.ScaleRef.nD Cert.ScaleRef.τ).loc Cert.ScaleRef.main_arg3) = m ((c.tc : Thread Cert.ScaleRef.nD Cert.ScaleRef.τ).loc Cert.ScaleRef.main_arg3)
      ∧ r.2.mem ((c.tc : Thread Cert.ScaleRef.nD Cert.ScaleRef.τ).loc Cert.ScaleRef.main_arg4) = m ((c.tc : Thread Cert.ScaleRef.nD Cert.ScaleRef.τ).loc Cert.ScaleRef.main_arg4))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3)
      ∧ r.2.mem ((c.tc : Thread Cert.Codes.nD Cert.Codes.τ).loc Cert.Codes.main_arg4) = m ((c.tc : Thread Cert.Codes.nD Cert.Codes.τ).loc Cert.Codes.main_arg4))
      ∧ r.2.sem = fun _ => 0)

def preserves_Amax_AmaxIdeal : Prop :=
  IdealRules.named_const.Statement Cert.AmaxIdeal.κ "inv2688" .f32 0x39C30C31#32 ((1 / 2688 : ℝ) : EReal)

def algebraic_AmaxIdeal_AmaxRefIdeal [hAmaxIdeal : Cert.AmaxIdeal.Facts] [hAmaxRefIdeal : Cert.AmaxRefIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxRefIdeal.nD Cert.AmaxRefIdeal.τ Cert.AmaxRefIdeal.sig) → Buf (Elt Ideal) ℓ) (g' : Dev Cert.AmaxRefIdeal.nD → PrngReg), Pre_AmaxIdeal m →
    (∀ c : Dev Cert.AmaxIdeal.nD,
      m' ((c.tc : Thread Cert.AmaxRefIdeal.nD Cert.AmaxRefIdeal.τ).loc Cert.AmaxRefIdeal.main_arg0) = m ((c.tc : Thread Cert.AmaxIdeal.nD Cert.AmaxIdeal.τ).loc Cert.AmaxIdeal.main_arg0)
      ∧ m' ((c.tc : Thread Cert.AmaxRefIdeal.nD Cert.AmaxRefIdeal.τ).loc Cert.AmaxRefIdeal.main_arg1) = m ((c.tc : Thread Cert.AmaxIdeal.nD Cert.AmaxIdeal.τ).loc Cert.AmaxIdeal.main_arg1)) →
    ∃ (v0 : (c : Dev Cert.AmaxIdeal.nD) → Buf (Elt Ideal) ((c.tc : Thread Cert.AmaxIdeal.nD Cert.AmaxIdeal.τ).loc Cert.AmaxIdeal.main_v3_0)) (v1 : (c : Dev Cert.AmaxIdeal.nD) → Buf (Elt Ideal) ((c.tc : Thread Cert.AmaxIdeal.nD Cert.AmaxIdeal.τ).loc Cert.AmaxIdeal.main_v3_1)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v3_0) = v0 c
          ∧ r.2.mem ((c.tc : Thread Cert.AmaxIdeal.nD Cert.AmaxIdeal.τ).loc Cert.AmaxIdeal.main_v3_1) = v1 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
          ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1))
      ∧ θ_run (Cert.AmaxRefIdeal.defs (F := Ideal)) (onTc (τ := Cert.AmaxRefIdeal.τ) (Cert.AmaxRefIdeal.main (F := Ideal))) ⟨m', fun _ => 0, g'⟩ (fun r => ∀ c : Dev Cert.AmaxRefIdeal.nD,
          r.2.mem ((c.tc : Thread Cert.AmaxRefIdeal.nD Cert.AmaxRefIdeal.τ).loc Cert.AmaxRefIdeal.main_v47) = v0 c
          ∧ r.2.mem ((c.tc : Thread Cert.AmaxRefIdeal.nD Cert.AmaxRefIdeal.τ).loc Cert.AmaxRefIdeal.main_v48) = v1 c
          ∧ r.2.mem ((c.tc : Thread Cert.AmaxRefIdeal.nD Cert.AmaxRefIdeal.τ).loc Cert.AmaxRefIdeal.main_arg0) = m' ((c.tc : Thread Cert.AmaxRefIdeal.nD Cert.AmaxRefIdeal.τ).loc Cert.AmaxRefIdeal.main_arg0)
          ∧ r.2.mem ((c.tc : Thread Cert.AmaxRefIdeal.nD Cert.AmaxRefIdeal.τ).loc Cert.AmaxRefIdeal.main_arg1) = m' ((c.tc : Thread Cert.AmaxRefIdeal.nD Cert.AmaxRefIdeal.τ).loc Cert.AmaxRefIdeal.main_arg1))

def bitexact_Quant_ScaleRef [hQuant : Cert.Quant.Facts] [hScaleRef : Cert.ScaleRef.Facts] : Prop :=
  ∀ (m : (ℓ : Loc Cert.Quant.nD Cert.Quant.τ Cert.Quant.sig) → Buf (Elt Bits) ℓ) (g : Dev Cert.Quant.nD → PrngReg)
    (m' : (ℓ : Loc Cert.ScaleRef.nD Cert.ScaleRef.τ Cert.ScaleRef.sig) → Buf (Elt Bits) ℓ) (g' : Dev Cert.ScaleRef.nD → PrngReg), Pre_Quant m →
    (∀ c : Dev Cert.Quant.nD,
      m' ((c.tc : Thread Cert.ScaleRef.nD Cert.ScaleRef.τ).loc Cert.ScaleRef.main_arg0) = m ((c.tc : Thread Cert.Quant.nD Cert.Quant.τ).loc Cert.Quant.main_arg0)
      ∧ m' ((c.tc : Thread Cert.ScaleRef.nD Cert.ScaleRef.τ).loc Cert.ScaleRef.main_arg1) = m ((c.tc : Thread Cert.Quant.nD Cert.Quant.τ).loc Cert.Quant.main_arg1)
      ∧ m' ((c.tc : Thread Cert.ScaleRef.nD Cert.ScaleRef.τ).loc Cert.ScaleRef.main_arg2) = m ((c.tc : Thread Cert.Quant.nD Cert.Quant.τ).loc Cert.Quant.main_arg2)
      ∧ m' ((c.tc : Thread Cert.ScaleRef.nD Cert.ScaleRef.τ).loc Cert.ScaleRef.main_arg3) = m ((c.tc : Thread Cert.Quant.nD Cert.Quant.τ).loc Cert.Quant.main_arg3)
      ∧ m' ((c.tc : Thread Cert.ScaleRef.nD Cert.ScaleRef.τ).loc Cert.ScaleRef.main_arg4) = m ((c.tc : Thread Cert.Quant.nD Cert.Quant.τ).loc Cert.Quant.main_arg4)) →
    ∃ (v0 : (c : Dev Cert.Quant.nD) → Buf (Elt Bits) ((c.tc : Thread Cert.Quant.nD Cert.Quant.τ).loc Cert.Quant.main_v4_1)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v4_1) = v0 c
          ∧ r.2.mem ((c.tc : Thread Cert.Quant.nD Cert.Quant.τ).loc Cert.Quant.main_arg0) = m ((c.tc : Thread Cert.Quant.nD Cert.Quant.τ).loc Cert.Quant.main_arg0)
          ∧ r.2.mem ((c.tc : Thread Cert.Quant.nD Cert.Quant.τ).loc Cert.Quant.main_arg1) = m ((c.tc : Thread Cert.Quant.nD Cert.Quant.τ).loc Cert.Quant.main_arg1)
          ∧ r.2.mem ((c.tc : Thread Cert.Quant.nD Cert.Quant.τ).loc Cert.Quant.main_arg2) = m ((c.tc : Thread Cert.Quant.nD Cert.Quant.τ).loc Cert.Quant.main_arg2)
          ∧ r.2.mem ((c.tc : Thread Cert.Quant.nD Cert.Quant.τ).loc Cert.Quant.main_arg3) = m ((c.tc : Thread Cert.Quant.nD Cert.Quant.τ).loc Cert.Quant.main_arg3)
          ∧ r.2.mem ((c.tc : Thread Cert.Quant.nD Cert.Quant.τ).loc Cert.Quant.main_arg4) = m ((c.tc : Thread Cert.Quant.nD Cert.Quant.τ).loc Cert.Quant.main_arg4))
      ∧ θ_run (Cert.ScaleRef.defs (F := Bits)) (onTc (τ := Cert.ScaleRef.τ) (Cert.ScaleRef.main (F := Bits))) ⟨m', fun _ => 0, g'⟩ (fun r => ∀ c : Dev Cert.ScaleRef.nD,
          r.2.mem ((c.tc : Thread Cert.ScaleRef.nD Cert.ScaleRef.τ).loc Cert.ScaleRef.main_v0) = v0 c
          ∧ r.2.mem ((c.tc : Thread Cert.ScaleRef.nD Cert.ScaleRef.τ).loc Cert.ScaleRef.main_arg0) = m' ((c.tc : Thread Cert.ScaleRef.nD Cert.ScaleRef.τ).loc Cert.ScaleRef.main_arg0)
          ∧ r.2.mem ((c.tc : Thread Cert.ScaleRef.nD Cert.ScaleRef.τ).loc Cert.ScaleRef.main_arg1) = m' ((c.tc : Thread Cert.ScaleRef.nD Cert.ScaleRef.τ).loc Cert.ScaleRef.main_arg1)
          ∧ r.2.mem ((c.tc : Thread Cert.ScaleRef.nD Cert.ScaleRef.τ).loc Cert.ScaleRef.main_arg2) = m' ((c.tc : Thread Cert.ScaleRef.nD Cert.ScaleRef.τ).loc Cert.ScaleRef.main_arg2)
          ∧ r.2.mem ((c.tc : Thread Cert.ScaleRef.nD Cert.ScaleRef.τ).loc Cert.ScaleRef.main_arg3) = m' ((c.tc : Thread Cert.ScaleRef.nD Cert.ScaleRef.τ).loc Cert.ScaleRef.main_arg3)
          ∧ r.2.mem ((c.tc : Thread Cert.ScaleRef.nD Cert.ScaleRef.τ).loc Cert.ScaleRef.main_arg4) = m' ((c.tc : Thread Cert.ScaleRef.nD Cert.ScaleRef.τ).loc Cert.ScaleRef.main_arg4))

def holds_Codes_no_negative_zero [hCodes : Cert.Codes.Facts] [hPost_no_negative_zero : Cert.Post_no_negative_zero.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => ∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3)
      ∧ r.2.mem ((c.tc : Thread Cert.Codes.nD Cert.Codes.τ).loc Cert.Codes.main_arg4) = m ((c.tc : Thread Cert.Codes.nD Cert.Codes.τ).loc Cert.Codes.main_arg4)
      ∧ (Cert.Post_no_negative_zero.fn (F := Bits) (m ((c.tc : Thread Cert.Codes.nD Cert.Codes.τ).loc Cert.Codes.main_arg0)) (m ((c.tc : Thread Cert.Codes.nD Cert.Codes.τ).loc Cert.Codes.main_arg1)) (m ((c.tc : Thread Cert.Codes.nD Cert.Codes.τ).loc Cert.Codes.main_arg2)) (m ((c.tc : Thread Cert.Codes.nD Cert.Codes.τ).loc Cert.Codes.main_arg3)) (m ((c.tc : Thread Cert.Codes.nD Cert.Codes.τ).loc Cert.Codes.main_arg4)) (r.2.mem ((c.tc : Thread Cert.Codes.nD Cert.Codes.τ).loc Cert.Codes.main_v4_0))) = (fun _ => 1#1))

def Claim : Prop :=
  ∃ (hAmax : Cert.Amax.Facts) (hAmaxIdeal : Cert.AmaxIdeal.Facts) (hAmaxRefIdeal : Cert.AmaxRefIdeal.Facts) (hQuant : Cert.Quant.Facts) (hScaleRef : Cert.ScaleRef.Facts) (hCodes : Cert.Codes.Facts) (hPost_no_negative_zero : Cert.Post_no_negative_zero.Facts),
    quiescent_Amax (hAmax := hAmax)
    ∧ quiescent_AmaxIdeal (hAmaxIdeal := hAmaxIdeal)
    ∧ quiescent_AmaxRefIdeal (hAmaxRefIdeal := hAmaxRefIdeal)
    ∧ quiescent_Quant (hQuant := hQuant)
    ∧ quiescent_ScaleRef (hScaleRef := hScaleRef)
    ∧ quiescent_Codes (hCodes := hCodes)
    ∧ preserves_Amax_AmaxIdeal
    ∧ algebraic_AmaxIdeal_AmaxRefIdeal (hAmaxIdeal := hAmaxIdeal) (hAmaxRefIdeal := hAmaxRefIdeal)
    ∧ bitexact_Quant_ScaleRef (hQuant := hQuant) (hScaleRef := hScaleRef)
    ∧ holds_Codes_no_negative_zero (hCodes := hCodes) (hPost_no_negative_zero := hPost_no_negative_zero)
-- ==== Post_no_negative_zero.lean ====
abbrev S1x1536x28672 : Shape := ⟨3, ![1, 1536, 28672]⟩
abbrev S16 : Shape := ⟨1, ![16]⟩
abbrev S1 : Shape := ⟨1, ![1]⟩
abbrev S96x28672 : Shape := ⟨2, ![96, 28672]⟩
abbrev S1x28672x1536 : Shape := ⟨3, ![1, 28672, 1536]⟩
abbrev S28672x768 : Shape := ⟨2, ![28672, 768]⟩
abbrev S_ : Shape := ⟨0, ![]⟩

class Facts : Prop where
  natLt_8_32 : 8 < 32
  bcast_S_S28672x768 : S_.BroadcastsInDim S28672x768 (![] : Fin 0 → Fin S28672x768.rank)

variable [Facts]

def fn {F : FTy → Type} [FloatOps F] (main_arg0 : FVec F S1x1536x28672 .bf16) (main_arg1 : FVec F S16 .f32) (main_arg2 : FVec F S1 .f32) (main_arg3 : FVec F S96x28672 .f32) (main_arg4 : IVec S1x28672x1536 8) (main_arg5 : IVec S28672x768 8) : IVec S28672x768 1 :=
  let main_v0 : IVec S28672x768 32 := (extui 32 · natLt_8_32) main_arg5
  let main_c : IVec S_ 32 := constantI S_ 32 15#32
  let main_v1 : IVec S28672x768 32 := broadcastInDim S28672x768 ![] bcast_S_S28672x768 main_c
  let main_v2 : IVec S28672x768 32 := andi main_v0 main_v1
  let main_c_0 : IVec S_ 32 := constantI S_ 32 8#32
  let main_v3 : IVec S28672x768 32 := broadcastInDim S28672x768 ![] bcast_S_S28672x768 main_c_0
  let main_v4 : IVec S28672x768 1 := cmpi .ne main_v2 main_v3
  let main_c_1 : IVec S_ 32 := constantI S_ 32 4#32
  let main_v5 : IVec S28672x768 32 := broadcastInDim S28672x768 ![] bcast_S_S28672x768 main_c_1
  let main_v6 : IVec S28672x768 32 := Host.shrsi main_v0 main_v5
  let main_c_2 : IVec S_ 32 := constantI S_ 32 8#32
  let main_v7 : IVec S28672x768 32 := broadcastInDim S28672x768 ![] bcast_S_S28672x768 main_c_2
  let main_v8 : IVec S28672x768 1 := cmpi .ne main_v6 main_v7
  let main_v9 : IVec S28672x768 1 := andi main_v4 main_v8
  main_v9
-- ==== Amax.lean ====
abbrev S1x1536x28672 : Shape := ⟨3, ![1, 1536, 28672]⟩
abbrev S16 : Shape := ⟨1, ![16]⟩
abbrev S192x8x112x2x128 : Shape := ⟨5, ![192, 8, 112, 2, 128]⟩
abbrev S192x112x2x8x128 : Shape := ⟨5, ![192, 112, 2, 8, 128]⟩
abbrev S192x112x16x128 : Shape := ⟨4, ![192, 112, 16, 128]⟩
abbrev S96x28672 : Shape := ⟨2, ![96, 28672]⟩
abbrev S1 : Shape := ⟨1, ![1]⟩
abbrev S192x4x16x128 : Shape := ⟨4, ![192, 4, 16, 128]⟩
abbrev S96x1024 : Shape := ⟨2, ![96, 1024]⟩
abbrev S256x256 : Shape := ⟨2, ![256, 256]⟩
abbrev S8x256 : Shape := ⟨2, ![8, 256]⟩
abbrev S16x1x16x128 : Shape := ⟨4, ![16, 1, 16, 128]⟩
abbrev S16x16x128 : Shape := ⟨3, ![16, 16, 128]⟩
abbrev S256x128 : Shape := ⟨2, ![256, 128]⟩
abbrev S8x128 : Shape := ⟨2, ![8, 128]⟩
abbrev S1x8x256 : Shape := ⟨3, ![1, 8, 256]⟩
abbrev S1x1x1 : Shape := ⟨3, ![1, 1, 1]⟩

abbrev nBuf : Space → Nat
  | .hbm => 7
  | .vmem => 6
  | .smem => 2
  | _ => 0

abbrev bufTy : (tb : Table) → Fin (tcTables nBuf tb) → BufTy
  | .hbm, ⟨0, _⟩ => ⟨S1x1536x28672, .bf16⟩
  | .hbm, ⟨1, _⟩ => ⟨S16, .f32⟩
  | .hbm, ⟨2, _⟩ => ⟨S192x8x112x2x128, .bf16⟩
  | .hbm, ⟨3, _⟩ => ⟨S192x112x2x8x128, .bf16⟩
  | .hbm, ⟨4, _⟩ => ⟨S192x112x16x128, .bf16⟩
  | .hbm, ⟨5, _⟩ => ⟨S96x28672, .f32⟩
  | .hbm, ⟨6, _⟩ => ⟨S1, .f32⟩
  | .local _ .vmem, ⟨0, _⟩ => ⟨S192x4x16x128, .bf16⟩
  | .local _ .vmem, ⟨1, _⟩ => ⟨S192x4x16x128, .bf16⟩
  | .local _ .vmem, ⟨2, _⟩ => ⟨S96x1024, .f32⟩
  | .local _ .vmem, ⟨3, _⟩ => ⟨S96x1024, .f32⟩
  | .local _ .vmem, ⟨4, _⟩ => ⟨S256x256, .bf16⟩
  | .local _ .vmem, ⟨5, _⟩ => ⟨S8x256, .f32⟩
  | .local _ .smem, ⟨0, _⟩ => ⟨S16, .f32⟩
  | .local _ .smem, ⟨1, _⟩ => ⟨S1, .f32⟩
  | _, _ => ⟨S1x1536x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32 : BitVec 32 := 27#32
  let v2163 : BitVec 1 := Scalar.cmpi .eq arg0 c27_i32
  let v2164 : BitVec 32 := Scalar.extui v2163
  let c0_i32_621 : BitVec 32 := 0#32
  let v2165 : BitVec 1 := Scalar.cmpi .ne v2164 c0_i32_621
  v2165

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S192x4x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AmaxIdeal.lean ====
variable {F : FTy → Type} [FloatOps F] [Named F]
def κ : String → Option EReal := fun
  | "inv2688" => some ((1 / 2688 : ℝ) : EReal)
  | _ => none
-- ==== AmaxRefIdeal.lean ====
abbrev S1x1536x28672 : Shape := ⟨3, ![1, 1536, 28672]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1x96x16x28672 : Shape := ⟨4, ![1, 96, 16, 28672]⟩
abbrev S16x1x96x28672 : Shape := ⟨4, ![16, 1, 96, 28672]⟩
abbrev S1x28672x96x16 : Shape := ⟨4, ![1, 28672, 96, 16]⟩
abbrev S1x28672x96 : Shape := ⟨3, ![1, 28672, 96]⟩
abbrev S28672x96 : Shape := ⟨2, ![28672, 96]⟩
abbrev S96x28672 : Shape := ⟨2, ![96, 28672]⟩
abbrev S1 : Shape := ⟨1, ![1]⟩

abbrev nBuf : Space → Nat
  | .hbm => 68
  | .vmem => 0
  | .smem => 0
  | _ => 0

abbrev bufTy : (tb : Table) → Fin (tcTables nBuf tb) → BufTy
  | .hbm, ⟨0, _⟩ => ⟨S1x1536x28672, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S16, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .i32⟩
  | .hbm, ⟨19, _⟩ => ⟨S_, .i32⟩
  | .hbm, ⟨20, _⟩ => ⟨S16x16, .i32⟩
  | .hbm, ⟨21, _⟩ => ⟨S16x16, .i32⟩
  | .hbm, ⟨22, _⟩ => ⟨S_, .i32⟩
  | .hbm, ⟨23, _⟩ => ⟨S16x16, .i32⟩
  | .hbm, ⟨24, _⟩ => ⟨S16x16, .i32⟩
  | .hbm, ⟨25, _⟩ => ⟨S16x16, .i32⟩
  | .hbm, ⟨26, _⟩ => ⟨S_, .i32⟩
  | .hbm, ⟨27, _⟩ => ⟨S16x16, .i32⟩
  | .hbm, ⟨28, _⟩ => ⟨S16x16, .i32⟩
  | .hbm, ⟨29, _⟩ => ⟨S_, .i32⟩
  | .hbm, ⟨30, _⟩ => ⟨S16x16, .i32⟩
  | .hbm, ⟨31, _⟩ => ⟨S16x16, .i32⟩
  | .hbm, ⟨32, _⟩ => ⟨S16x16, .i32⟩
  | .hbm, ⟨33, _⟩ => ⟨S_, .i32⟩
  | .hbm, ⟨34, _⟩ => ⟨S16x16, .i32⟩
  | .hbm, ⟨35, _⟩ => ⟨S16x16, .i32⟩
  | .hbm, ⟨36, _⟩ => ⟨S16x16, .f32⟩
  | .hbm, ⟨37, _⟩ => ⟨S_, .f32⟩
  | .hbm, ⟨38, _⟩ => ⟨S16x16, .f32⟩
  | .hbm, ⟨39, _⟩ => ⟨S16x16, .f32⟩
  | .hbm, ⟨40, _⟩ => ⟨S_, .f32⟩
  | .hbm, ⟨41, _⟩ => ⟨S16x16, .f32⟩
  | .hbm, ⟨42, _⟩ => ⟨S16x16, .f32⟩
  | .hbm, ⟨43, _⟩ => ⟨S_, .f32⟩
  | .hbm, ⟨44, _⟩ => ⟨S16x16, .f32⟩
  | .hbm, ⟨45, _⟩ => ⟨S16x16, .f32⟩
  | .hbm, ⟨46, _⟩ => ⟨S1x16, .f32⟩
  | .hbm, ⟨47, _⟩ => ⟨S16x16, .f32⟩
  | .hbm, ⟨48, _⟩ => ⟨S16x16, .f32⟩
  | .hbm, ⟨49, _⟩ => ⟨S16x16, .bf16⟩
  | .hbm, ⟨50, _⟩ => ⟨S1x96x16x28672, .bf16⟩
  | .hbm, ⟨51, _⟩ => ⟨S16x1x96x28672, .f32⟩
  | .hbm, ⟨52, _⟩ => ⟨S1x28672x96x16, .f32⟩
  | .hbm, ⟨53, _⟩ => ⟨S1x28672x96x16, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x28672x96, .f32⟩
  | .hbm, ⟨65, _⟩ => ⟨S28672x96, .f32⟩
  | .hbm, ⟨66, _⟩ => ⟨S96x28672, .f32⟩
  | .hbm, ⟨67, _⟩ => ⟨S1, .f32⟩
  | _, _ => ⟨S1x1536x28672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_cst_12 : Ref sig .tc := ⟨.hbm, 60, rfl⟩
abbrev main_call0_v0 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Quant.lean ====
abbrev S1x1536x28672 : Shape := ⟨3, ![1, 1536, 28672]⟩
abbrev S16 : Shape := ⟨1, ![16]⟩
abbrev S1 : Shape := ⟨1, ![1]⟩
abbrev S96x28672 : Shape := ⟨2, ![96, 28672]⟩
abbrev S1x28672x1536 : Shape := ⟨3, ![1, 28672, 1536]⟩
abbrev S192x8x112x2x128 : Shape := ⟨5, ![192, 8, 112, 2, 128]⟩
abbrev S192x112x2x8x128 : Shape := ⟨5, ![192, 112, 2, 8, 128]⟩
abbrev S192x112x16x128 : Shape := ⟨4, ![192, 112, 16, 128]⟩
abbrev S28672x1536 : Shape := ⟨2, ![28672, 1536]⟩
abbrev S28672x768 : Shape := ⟨2, ![28672, 768]⟩
abbrev S192x4x16x128 : Shape := ⟨4, ![192, 4, 16, 128]⟩
abbrev S96x1024 : Shape := ⟨2, ![96, 1024]⟩
abbrev S1024x1536 : Shape := ⟨2, ![1024, 1536]⟩
abbrev S1024x768 : Shape := ⟨2, ![1024, 768]⟩
abbrev S256x256 : Shape := ⟨2, ![256, 256]⟩
abbrev S2x2x2x96x128 : Shape := ⟨5, ![2, 2, 2, 96, 128]⟩
abbrev S96x128 : Shape := ⟨2, ![96, 128]⟩
abbrev S96x128x1 : Shape := ⟨3, ![96, 128, 1]⟩
abbrev S1x1x1x96x128 : Shape := ⟨5, ![1, 1, 1, 96, 128]⟩
abbrev S16x1x16x128 : Shape := ⟨4, ![16, 1, 16, 128]⟩
abbrev S16x16x128 : Shape := ⟨3, ![16, 16, 128]⟩
abbrev S256x128 : Shape := ⟨2, ![256, 128]⟩
abbrev S128x128 : Shape := ⟨2, ![128, 128]⟩
abbrev S32x128 : Shape := ⟨2, ![32, 128]⟩
abbrev S64x128 : Shape := ⟨2, ![64, 128]⟩
abbrev S8x128 : Shape := ⟨2, ![8, 128]⟩
abbrev S1x1x1x8x128 : Shape := ⟨5, ![1, 1, 1, 8, 128]⟩
abbrev S16x128 : Shape := ⟨2, ![16, 128]⟩

abbrev nBuf : Space → Nat
  | .hbm => 11
  | .vmem => 13
  | .smem => 2
  | _ => 0

abbrev bufTy : (tb : Table) → Fin (tcTables nBuf tb) → BufTy
  | .hbm, ⟨0, _⟩ => ⟨S1x1536x28672, .bf16⟩
  | .hbm, ⟨1, _⟩ => ⟨S16, .f32⟩
  | .hbm, ⟨2, _⟩ => ⟨S1, .f32⟩
  | .hbm, ⟨3, _⟩ => ⟨S96x28672, .f32⟩
  | .hbm, ⟨4, _⟩ => ⟨S1x28672x1536, .i8⟩
  | .hbm, ⟨5, _⟩ => ⟨S192x8x112x2x128, .bf16⟩
  | .hbm, ⟨6, _⟩ => ⟨S192x112x2x8x128, .bf16⟩
  | .hbm, ⟨7, _⟩ => ⟨S192x112x16x128, .bf16⟩
  | .hbm, ⟨8, _⟩ => ⟨S28672x1536, .i8⟩
  | .hbm, ⟨9, _⟩ => ⟨S28672x768, .i8⟩
  | .hbm, ⟨10, _⟩ => ⟨S96x28672, .fp8e4m3⟩
  | .local _ .vmem, ⟨0, _⟩ => ⟨S192x4x16x128, .bf16⟩
  | .local _ .vmem, ⟨1, _⟩ => ⟨S192x4x16x128, .bf16⟩
  | .local _ .vmem, ⟨2, _⟩ => ⟨S96x1024, .f32⟩
  | .local _ .vmem, ⟨3, _⟩ => ⟨S96x1024, .f32⟩
  | .local _ .vmem, ⟨4, _⟩ => ⟨S1024x1536, .i8⟩
  | .local _ .vmem, ⟨5, _⟩ => ⟨S1024x1536, .i8⟩
  | .local _ .vmem, ⟨6, _⟩ => ⟨S1024x768, .i8⟩
  | .local _ .vmem, ⟨7, _⟩ => ⟨S1024x768, .i8⟩
  | .local _ .vmem, ⟨8, _⟩ => ⟨S96x1024, .fp8e4m3⟩
  | .local _ .vmem, ⟨9, _⟩ => ⟨S96x1024, .fp8e4m3⟩
  | .local _ .vmem, ⟨10, _⟩ => ⟨S256x256, .bf16⟩
  | .local _ .vmem, ⟨11, _⟩ => ⟨S256x256, .bf16⟩
  | .local _ .vmem, ⟨12, _⟩ => ⟨S2x2x2x96x128, .f32⟩
  | .local _ .smem, ⟨0, _⟩ => ⟨S16, .f32⟩
  | .local _ .smem, ⟨1, _⟩ => ⟨S1, .f32⟩
  | _, _ => ⟨S1x1536x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨1, ![28], ![false]⟩

@[reducible] def k0_t1_loop : Scf.Loop 32 :=
  let c0_i32_140 : BitVec 32 := 0#32
  let c2_i32 : BitVec 32 := 2#32
  let v284 : BitVec 32 := Scalar.addi c0_i32_140 c2_i32
  let c1_i32_141 : BitVec 32 := 1#32
  ⟨c0_i32_140, v284, c1_i32_141⟩
def k0_off1 (k0_t1 : Fin k0_t1_loop.trips) (c0_i32_144 : BitVec 32) : Fin 4 → Nat :=
  let c0_145 : Index := 0#32
  let c2_i32_143 : BitVec 32 := 2#32
  let c0_i32_140 : BitVec 32 := 0#32
  let c1_i32_141 : BitVec 32 := 1#32
  let arg11 : BitVec 32 := Scf.iv c0_i32_140 c1_i32_141 k0_t1
  let v285 : BitVec 32 := Scalar.muli c2_i32_143 arg11
  let v286 : BitVec 32 := Scalar.addi v285 c0_i32_144
  let v287 : Index := Scalar.indexCast v286
  let c0_146 : Index := 0#32
  let c0_147 : Index := 0#32
  ![0, v287.toNat, 0, 0]
def k0_off2 (k0_t1 : Fin k0_t1_loop.trips) (c0_i32_160 : BitVec 32) : Fin 4 → Nat :=
  let c16 : Index := 16#32
  let c2_i32_159 : BitVec 32 := 2#32
  let c0_i32_140 : BitVec 32 := 0#32
  let c1_i32_141 : BitVec 32 := 1#32
  let arg11 : BitVec 32 := Scf.iv c0_i32_140 c1_i32_141 k0_t1
  let v303 : BitVec 32 := Scalar.muli c2_i32_159 arg11
  let v304 : BitVec 32 := Scalar.addi v303 c0_i32_160
  let v305 : Index := Scalar.indexCast v304
  let c0_161 : Index := 0#32
  let c0_162 : Index := 0#32
  ![16, v305.toNat, 0, 0]
def k0_mult1 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32 : BitVec 32 := 512#32
  let v321 : BitVec 32 := Scalar.muli arg11 c512_i32
  v321
def k0_off3 (k0_t1 : Fin k0_t1_loop.trips) (c0_i32_174 : BitVec 32) : Fin 2 → Nat :=
  let c0_i32_140 : BitVec 32 := 0#32
  let c1_i32_141 : BitVec 32 := 1#32
  let arg11 : BitVec 32 := Scf.iv c0_i32_140 c1_i32_141 k0_t1
  let c512_i32 : BitVec 32 := 512#32
  let v321 : BitVec 32 := Scalar.muli arg11 c512_i32
  let v322 : BitVec 32 := v321
  let v323 : BitVec 32 := Scalar.addi v322 c0_i32_174
  let v324 : Index := Scalar.indexCast v323
  let c0_175 : Index := 0#32
  ![v324.toNat, 0]
def k0_mult2 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_176 : BitVec 32 := 512#32
  let v329 : BitVec 32 := Scalar.muli arg11 c512_i32_176
  v329
def k0_off4 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v342 : Index := Scalar.indexCast arg11
  let c0_179 : Index := 0#32
  let c0_180 : Index := 0#32
  let c0_181 : Index := 0#32
  let c0_182 : Index := 0#32
  ![v342.toNat, 0, 0, 0, 0]
def k0_off5 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v345 : Index := Scalar.indexCast arg11
  let c0_183 : Index := 0#32
  let c1_184 : Index := 1#32
  let c0_185 : Index := 0#32
  let c0_186 : Index := 0#32
  ![v345.toNat, 0, 1, 0, 0]
def k0_off6 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v450 : Index := Scalar.indexCast arg11
  let c0_209 : Index := 0#32
  let c0_210 : Index := 0#32
  let c1_211 : Index := 1#32
  let c0_212 : Index := 0#32
  ![v450.toNat, 0, 0, 1, 0]
def k0_off7 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v453 : Index := Scalar.indexCast arg11
  let c0_213 : Index := 0#32
  let c1_214 : Index := 1#32
  let c1_215 : Index := 1#32
  let c0_216 : Index := 0#32
  ![v453.toNat, 0, 1, 1, 0]
def k0_off8 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v558 : Index := Scalar.indexCast arg11
  let c0_246 : Index := 0#32
  let c0_247 : Index := 0#32
  let c2 : Index := 2#32
  let c0_248 : Index := 0#32
  ![v558.toNat, 0, 0, 2, 0]
def k0_off9 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v561 : Index := Scalar.indexCast arg11
  let c0_249 : Index := 0#32
  let c1_250 : Index := 1#32
  let c2_251 : Index := 2#32
  let c0_252 : Index := 0#32
  ![v561.toNat, 0, 1, 2, 0]
def k0_off10 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v666 : Index := Scalar.indexCast arg11
  let c0_282 : Index := 0#32
  let c0_283 : Index := 0#32
  let c3 : Index := 3#32
  let c0_284 : Index := 0#32
  ![v666.toNat, 0, 0, 3, 0]
def k0_off11 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v669 : Index := Scalar.indexCast arg11
  let c0_285 : Index := 0#32
  let c1_286 : Index := 1#32
  let c3_287 : Index := 3#32
  let c0_288 : Index := 0#32
  ![v669.toNat, 0, 1, 3, 0]
def k0_off12 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v774 : Index := Scalar.indexCast arg11
  let c0_318 : Index := 0#32
  let c0_319 : Index := 0#32
  let c4 : Index := 4#32
  let c0_320 : Index := 0#32
  ![v774.toNat, 0, 0, 4, 0]
def k0_off13 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v777 : Index := Scalar.indexCast arg11
  let c0_321 : Index := 0#32
  let c1_322 : Index := 1#32
  let c4_323 : Index := 4#32
  let c0_324 : Index := 0#32
  ![v777.toNat, 0, 1, 4, 0]
def k0_off14 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v882 : Index := Scalar.indexCast arg11
  let c0_354 : Index := 0#32
  let c0_355 : Index := 0#32
  let c5 : Index := 5#32
  let c0_356 : Index := 0#32
  ![v882.toNat, 0, 0, 5, 0]
def k0_off15 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v885 : Index := Scalar.indexCast arg11
  let c0_357 : Index := 0#32
  let c1_358 : Index := 1#32
  let c5_359 : Index := 5#32
  let c0_360 : Index := 0#32
  ![v885.toNat, 0, 1, 5, 0]
def k0_off16 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v990 : Index := Scalar.indexCast arg11
  let c0_390 : Index := 0#32
  let c0_391 : Index := 0#32
  let c6 : Index := 6#32
  let c0_392 : Index := 0#32
  ![v990.toNat, 0, 0, 6, 0]
def k0_off17 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v993 : Index := Scalar.indexCast arg11
  let c0_393 : Index := 0#32
  let c1_394 : Index := 1#32
  let c6_395 : Index := 6#32
  let c0_396 : Index := 0#32
  ![v993.toNat, 0, 1, 6, 0]
def k0_off18 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1098 : Index := Scalar.indexCast arg11
  let c0_426 : Index := 0#32
  let c0_427 : Index := 0#32
  let c7 : Index := 7#32
  let c0_428 : Index := 0#32
  ![v1098.toNat, 0, 0, 7, 0]
def k0_off19 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1101 : Index := Scalar.indexCast arg11
  let c0_429 : Index := 0#32
  let c1_430 : Index := 1#32
  let c7_431 : Index := 7#32
  let c0_432 : Index := 0#32
  ![v1101.toNat, 0, 1, 7, 0]
def k0_mult3 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_462 : BitVec 32 := 512#32
  let v1205 : BitVec 32 := Scalar.muli arg11 c512_i32_462
  v1205
def k0_off20 (k0_t1 : Fin k0_t1_loop.trips) (c0_i32_463 : BitVec 32) : Fin 2 → Nat :=
  let c0_i32_140 : BitVec 32 := 0#32
  let c1_i32_141 : BitVec 32 := 1#32
  let arg11 : BitVec 32 := Scf.iv c0_i32_140 c1_i32_141 k0_t1
  let c512_i32_462 : BitVec 32 := 512#32
  let v1205 : BitVec 32 := Scalar.muli arg11 c512_i32_462
  let v1206 : BitVec 32 := v1205
  let v1207 : BitVec 32 := Scalar.addi v1206 c0_i32_463
  let v1208 : Index := Scalar.indexCast v1207
  let c128_464 : Index := 128#32
  ![v1208.toNat, 128]
def k0_mult4 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_465 : BitVec 32 := 512#32
  let v1213 : BitVec 32 := Scalar.muli arg11 c512_i32_465
  v1213
def k0_off21 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1226 : Index := Scalar.indexCast arg11
  let c0_469 : Index := 0#32
  let c0_470 : Index := 0#32
  let c8 : Index := 8#32
  let c0_471 : Index := 0#32
  ![v1226.toNat, 0, 0, 8, 0]
def k0_off22 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1229 : Index := Scalar.indexCast arg11
  let c0_472 : Index := 0#32
  let c1_473 : Index := 1#32
  let c8_474 : Index := 8#32
  let c0_475 : Index := 0#32
  ![v1229.toNat, 0, 1, 8, 0]
def k0_off23 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1334 : Index := Scalar.indexCast arg11
  let c0_505 : Index := 0#32
  let c0_506 : Index := 0#32
  let c9 : Index := 9#32
  let c0_507 : Index := 0#32
  ![v1334.toNat, 0, 0, 9, 0]
def k0_off24 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1337 : Index := Scalar.indexCast arg11
  let c0_508 : Index := 0#32
  let c1_509 : Index := 1#32
  let c9_510 : Index := 9#32
  let c0_511 : Index := 0#32
  ![v1337.toNat, 0, 1, 9, 0]
def k0_off25 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1442 : Index := Scalar.indexCast arg11
  let c0_541 : Index := 0#32
  let c0_542 : Index := 0#32
  let c10 : Index := 10#32
  let c0_543 : Index := 0#32
  ![v1442.toNat, 0, 0, 10, 0]
def k0_off26 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1445 : Index := Scalar.indexCast arg11
  let c0_544 : Index := 0#32
  let c1_545 : Index := 1#32
  let c10_546 : Index := 10#32
  let c0_547 : Index := 0#32
  ![v1445.toNat, 0, 1, 10, 0]
def k0_off27 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1550 : Index := Scalar.indexCast arg11
  let c0_577 : Index := 0#32
  let c0_578 : Index := 0#32
  let c11 : Index := 11#32
  let c0_579 : Index := 0#32
  ![v1550.toNat, 0, 0, 11, 0]
def k0_off28 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1553 : Index := Scalar.indexCast arg11
  let c0_580 : Index := 0#32
  let c1_581 : Index := 1#32
  let c11_582 : Index := 11#32
  let c0_583 : Index := 0#32
  ![v1553.toNat, 0, 1, 11, 0]
def k0_off29 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1658 : Index := Scalar.indexCast arg11
  let c0_613 : Index := 0#32
  let c0_614 : Index := 0#32
  let c12 : Index := 12#32
  let c0_615 : Index := 0#32
  ![v1658.toNat, 0, 0, 12, 0]
def k0_off30 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1661 : Index := Scalar.indexCast arg11
  let c0_616 : Index := 0#32
  let c1_617 : Index := 1#32
  let c12_618 : Index := 12#32
  let c0_619 : Index := 0#32
  ![v1661.toNat, 0, 1, 12, 0]
def k0_off31 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1766 : Index := Scalar.indexCast arg11
  let c0_649 : Index := 0#32
  let c0_650 : Index := 0#32
  let c13 : Index := 13#32
  let c0_651 : Index := 0#32
  ![v1766.toNat, 0, 0, 13, 0]
def k0_off32 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1769 : Index := Scalar.indexCast arg11
  let c0_652 : Index := 0#32
  let c1_653 : Index := 1#32
  let c13_654 : Index := 13#32
  let c0_655 : Index := 0#32
  ![v1769.toNat, 0, 1, 13, 0]
def k0_off33 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1874 : Index := Scalar.indexCast arg11
  let c0_685 : Index := 0#32
  let c0_686 : Index := 0#32
  let c14 : Index := 14#32
  let c0_687 : Index := 0#32
  ![v1874.toNat, 0, 0, 14, 0]
def k0_off34 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1877 : Index := Scalar.indexCast arg11
  let c0_688 : Index := 0#32
  let c1_689 : Index := 1#32
  let c14_690 : Index := 14#32
  let c0_691 : Index := 0#32
  ![v1877.toNat, 0, 1, 14, 0]
def k0_off35 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1982 : Index := Scalar.indexCast arg11
  let c0_721 : Index := 0#32
  let c0_722 : Index := 0#32
  let c15 : Index := 15#32
  let c0_723 : Index := 0#32
  ![v1982.toNat, 0, 0, 15, 0]
def k0_off36 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1985 : Index := Scalar.indexCast arg11
  let c0_724 : Index := 0#32
  let c1_725 : Index := 1#32
  let c15_726 : Index := 15#32
  let c0_727 : Index := 0#32
  ![v1985.toNat, 0, 1, 15, 0]
def k0_mult5 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_759 : BitVec 32 := 512#32
  let v2105 : BitVec 32 := Scalar.muli arg11 c512_i32_759
  v2105
def k0_off37 (k0_t1 : Fin k0_t1_loop.trips) (c0_i32_760 : BitVec 32) : Fin 2 → Nat :=
  let c0_i32_140 : BitVec 32 := 0#32
  let c1_i32_141 : BitVec 32 := 1#32
  let arg11 : BitVec 32 := Scf.iv c0_i32_140 c1_i32_141 k0_t1
  let c512_i32_759 : BitVec 32 := 512#32
  let v2105 : BitVec 32 := Scalar.muli arg11 c512_i32_759
  let v2106 : BitVec 32 := v2105
  let v2107 : BitVec 32 := Scalar.addi v2106 c0_i32_760
  let v2109 : Index := Scalar.indexCast v2107
  let c0_761 : Index := 0#32
  ![v2109.toNat, 0]
def k0_mult6 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_762 : BitVec 32 := 512#32
  let v2111 : BitVec 32 := Scalar.muli arg11 c512_i32_762
  v2111
def k0_mult7 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_765 : BitVec 32 := 512#32
  let v2117 : BitVec 32 := Scalar.muli arg11 c512_i32_765
  v2117
def k0_mult8 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_768 : BitVec 32 := 512#32
  let v2125 : BitVec 32 := Scalar.muli arg11 c512_i32_768
  v2125
def k0_off38 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2138 : Index := Scalar.indexCast arg11
  let c1_771 : Index := 1#32
  let c0_772 : Index := 0#32
  let c0_773 : Index := 0#32
  let c0_774 : Index := 0#32
  ![v2138.toNat, 1, 0, 0, 0]
def k0_off39 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2141 : Index := Scalar.indexCast arg11
  let c1_775 : Index := 1#32
  let c1_776 : Index := 1#32
  let c0_777 : Index := 0#32
  let c0_778 : Index := 0#32
  ![v2141.toNat, 1, 1, 0, 0]
def k0_off40 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2246 : Index := Scalar.indexCast arg11
  let c1_808 : Index := 1#32
  let c0_809 : Index := 0#32
  let c1_810 : Index := 1#32
  let c0_811 : Index := 0#32
  ![v2246.toNat, 1, 0, 1, 0]
def k0_off41 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2249 : Index := Scalar.indexCast arg11
  let c1_812 : Index := 1#32
  let c1_813 : Index := 1#32
  let c1_814 : Index := 1#32
  let c0_815 : Index := 0#32
  ![v2249.toNat, 1, 1, 1, 0]
def k0_off42 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2354 : Index := Scalar.indexCast arg11
  let c1_845 : Index := 1#32
  let c0_846 : Index := 0#32
  let c2_847 : Index := 2#32
  let c0_848 : Index := 0#32
  ![v2354.toNat, 1, 0, 2, 0]
def k0_off43 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2357 : Index := Scalar.indexCast arg11
  let c1_849 : Index := 1#32
  let c1_850 : Index := 1#32
  let c2_851 : Index := 2#32
  let c0_852 : Index := 0#32
  ![v2357.toNat, 1, 1, 2, 0]
def k0_off44 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2462 : Index := Scalar.indexCast arg11
  let c1_882 : Index := 1#32
  let c0_883 : Index := 0#32
  let c3_884 : Index := 3#32
  let c0_885 : Index := 0#32
  ![v2462.toNat, 1, 0, 3, 0]
def k0_off45 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2465 : Index := Scalar.indexCast arg11
  let c1_886 : Index := 1#32
  let c1_887 : Index := 1#32
  let c3_888 : Index := 3#32
  let c0_889 : Index := 0#32
  ![v2465.toNat, 1, 1, 3, 0]
def k0_off46 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2570 : Index := Scalar.indexCast arg11
  let c1_919 : Index := 1#32
  let c0_920 : Index := 0#32
  let c4_921 : Index := 4#32
  let c0_922 : Index := 0#32
  ![v2570.toNat, 1, 0, 4, 0]
def k0_off47 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2573 : Index := Scalar.indexCast arg11
  let c1_923 : Index := 1#32
  let c1_924 : Index := 1#32
  let c4_925 : Index := 4#32
  let c0_926 : Index := 0#32
  ![v2573.toNat, 1, 1, 4, 0]
def k0_off48 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2678 : Index := Scalar.indexCast arg11
  let c1_956 : Index := 1#32
  let c0_957 : Index := 0#32
  let c5_958 : Index := 5#32
  let c0_959 : Index := 0#32
  ![v2678.toNat, 1, 0, 5, 0]
def k0_off49 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2681 : Index := Scalar.indexCast arg11
  let c1_960 : Index := 1#32
  let c1_961 : Index := 1#32
  let c5_962 : Index := 5#32
  let c0_963 : Index := 0#32
  ![v2681.toNat, 1, 1, 5, 0]
def k0_off50 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2786 : Index := Scalar.indexCast arg11
  let c1_993 : Index := 1#32
  let c0_994 : Index := 0#32
  let c6_995 : Index := 6#32
  let c0_996 : Index := 0#32
  ![v2786.toNat, 1, 0, 6, 0]
def k0_off51 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2789 : Index := Scalar.indexCast arg11
  let c1_997 : Index := 1#32
  let c1_998 : Index := 1#32
  let c6_999 : Index := 6#32
  let c0_1000 : Index := 0#32
  ![v2789.toNat, 1, 1, 6, 0]
def k0_off52 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2894 : Index := Scalar.indexCast arg11
  let c1_1030 : Index := 1#32
  let c0_1031 : Index := 0#32
  let c7_1032 : Index := 7#32
  let c0_1033 : Index := 0#32
  ![v2894.toNat, 1, 0, 7, 0]
def k0_off53 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2897 : Index := Scalar.indexCast arg11
  let c1_1034 : Index := 1#32
  let c1_1035 : Index := 1#32
  let c7_1036 : Index := 7#32
  let c0_1037 : Index := 0#32
  ![v2897.toNat, 1, 1, 7, 0]
def k0_mult9 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1067 : BitVec 32 := 512#32
  let v3001 : BitVec 32 := Scalar.muli arg11 c512_i32_1067
  v3001
def k0_mult10 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1070 : BitVec 32 := 512#32
  let v3009 : BitVec 32 := Scalar.muli arg11 c512_i32_1070
  v3009
def k0_off54 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3022 : Index := Scalar.indexCast arg11
  let c1_1074 : Index := 1#32
  let c0_1075 : Index := 0#32
  let c8_1076 : Index := 8#32
  let c0_1077 : Index := 0#32
  ![v3022.toNat, 1, 0, 8, 0]
def k0_off55 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3025 : Index := Scalar.indexCast arg11
  let c1_1078 : Index := 1#32
  let c1_1079 : Index := 1#32
  let c8_1080 : Index := 8#32
  let c0_1081 : Index := 0#32
  ![v3025.toNat, 1, 1, 8, 0]
def k0_off56 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3130 : Index := Scalar.indexCast arg11
  let c1_1111 : Index := 1#32
  let c0_1112 : Index := 0#32
  let c9_1113 : Index := 9#32
  let c0_1114 : Index := 0#32
  ![v3130.toNat, 1, 0, 9, 0]
def k0_off57 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3133 : Index := Scalar.indexCast arg11
  let c1_1115 : Index := 1#32
  let c1_1116 : Index := 1#32
  let c9_1117 : Index := 9#32
  let c0_1118 : Index := 0#32
  ![v3133.toNat, 1, 1, 9, 0]
def k0_off58 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3238 : Index := Scalar.indexCast arg11
  let c1_1148 : Index := 1#32
  let c0_1149 : Index := 0#32
  let c10_1150 : Index := 10#32
  let c0_1151 : Index := 0#32
  ![v3238.toNat, 1, 0, 10, 0]
def k0_off59 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3241 : Index := Scalar.indexCast arg11
  let c1_1152 : Index := 1#32
  let c1_1153 : Index := 1#32
  let c10_1154 : Index := 10#32
  let c0_1155 : Index := 0#32
  ![v3241.toNat, 1, 1, 10, 0]
def k0_off60 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3346 : Index := Scalar.indexCast arg11
  let c1_1185 : Index := 1#32
  let c0_1186 : Index := 0#32
  let c11_1187 : Index := 11#32
  let c0_1188 : Index := 0#32
  ![v3346.toNat, 1, 0, 11, 0]
def k0_off61 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3349 : Index := Scalar.indexCast arg11
  let c1_1189 : Index := 1#32
  let c1_1190 : Index := 1#32
  let c11_1191 : Index := 11#32
  let c0_1192 : Index := 0#32
  ![v3349.toNat, 1, 1, 11, 0]
def k0_off62 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3454 : Index := Scalar.indexCast arg11
  let c1_1222 : Index := 1#32
  let c0_1223 : Index := 0#32
  let c12_1224 : Index := 12#32
  let c0_1225 : Index := 0#32
  ![v3454.toNat, 1, 0, 12, 0]
def k0_off63 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3457 : Index := Scalar.indexCast arg11
  let c1_1226 : Index := 1#32
  let c1_1227 : Index := 1#32
  let c12_1228 : Index := 12#32
  let c0_1229 : Index := 0#32
  ![v3457.toNat, 1, 1, 12, 0]
def k0_off64 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3562 : Index := Scalar.indexCast arg11
  let c1_1259 : Index := 1#32
  let c0_1260 : Index := 0#32
  let c13_1261 : Index := 13#32
  let c0_1262 : Index := 0#32
  ![v3562.toNat, 1, 0, 13, 0]
def k0_off65 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3565 : Index := Scalar.indexCast arg11
  let c1_1263 : Index := 1#32
  let c1_1264 : Index := 1#32
  let c13_1265 : Index := 13#32
  let c0_1266 : Index := 0#32
  ![v3565.toNat, 1, 1, 13, 0]
def k0_off66 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3670 : Index := Scalar.indexCast arg11
  let c1_1296 : Index := 1#32
  let c0_1297 : Index := 0#32
  let c14_1298 : Index := 14#32
  let c0_1299 : Index := 0#32
  ![v3670.toNat, 1, 0, 14, 0]
def k0_off67 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3673 : Index := Scalar.indexCast arg11
  let c1_1300 : Index := 1#32
  let c1_1301 : Index := 1#32
  let c14_1302 : Index := 14#32
  let c0_1303 : Index := 0#32
  ![v3673.toNat, 1, 1, 14, 0]
def k0_off68 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3778 : Index := Scalar.indexCast arg11
  let c1_1333 : Index := 1#32
  let c0_1334 : Index := 0#32
  let c15_1335 : Index := 15#32
  let c0_1336 : Index := 0#32
  ![v3778.toNat, 1, 0, 15, 0]
def k0_off69 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3781 : Index := Scalar.indexCast arg11
  let c1_1337 : Index := 1#32
  let c1_1338 : Index := 1#32
  let c15_1339 : Index := 15#32
  let c0_1340 : Index := 0#32
  ![v3781.toNat, 1, 1, 15, 0]
def k0_mult11 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1374 : BitVec 32 := 512#32
  let v3901 : BitVec 32 := Scalar.muli arg11 c512_i32_1374
  v3901
def k0_mult12 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1377 : BitVec 32 := 512#32
  let v3907 : BitVec 32 := Scalar.muli arg11 c512_i32_1377
  v3907
def k0_off70 (k0_t1 : Fin k0_t1_loop.trips) (c0_i32_1381 : BitVec 32) : Fin 4 → Nat :=
  let c32 : Index := 32#32
  let c2_i32_1380 : BitVec 32 := 2#32
  let c0_i32_140 : BitVec 32 := 0#32
  let c1_i32_141 : BitVec 32 := 1#32
  let arg11 : BitVec 32 := Scf.iv c0_i32_140 c1_i32_141 k0_t1
  let v3913 : BitVec 32 := Scalar.muli c2_i32_1380 arg11
  let v3914 : BitVec 32 := Scalar.addi v3913 c0_i32_1381
  let v3915 : Index := Scalar.indexCast v3914
  let c0_1382 : Index := 0#32
  let c0_1383 : Index := 0#32
  ![32, v3915.toNat, 0, 0]
def k0_off71 (k0_t1 : Fin k0_t1_loop.trips) (c0_i32_1396 : BitVec 32) : Fin 4 → Nat :=
  let c48 : Index := 48#32
  let c2_i32_1395 : BitVec 32 := 2#32
  let c0_i32_140 : BitVec 32 := 0#32
  let c1_i32_141 : BitVec 32 := 1#32
  let arg11 : BitVec 32 := Scf.iv c0_i32_140 c1_i32_141 k0_t1
  let v3931 : BitVec 32 := Scalar.muli c2_i32_1395 arg11
  let v3932 : BitVec 32 := Scalar.addi v3931 c0_i32_1396
  let v3933 : Index := Scalar.indexCast v3932
  let c0_1397 : Index := 0#32
  let c0_1398 : Index := 0#32
  ![48, v3933.toNat, 0, 0]
def k0_mult13 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1410 : BitVec 32 := 512#32
  let v3949 : BitVec 32 := Scalar.muli arg11 c512_i32_1410
  v3949
def k0_off72 (k0_t1 : Fin k0_t1_loop.trips) (c0_i32_1411 : BitVec 32) : Fin 2 → Nat :=
  let c0_i32_140 : BitVec 32 := 0#32
  let c1_i32_141 : BitVec 32 := 1#32
  let arg11 : BitVec 32 := Scf.iv c0_i32_140 c1_i32_141 k0_t1
  let c512_i32_1410 : BitVec 32 := 512#32
  let v3949 : BitVec 32 := Scalar.muli arg11 c512_i32_1410
  let v3950 : BitVec 32 := v3949
  let v3951 : BitVec 32 := Scalar.addi v3950 c0_i32_1411
  let v3952 : Index := Scalar.indexCast v3951
  let c256_1412 : Index := 256#32
  ![v3952.toNat, 256]
def k0_mult14 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1413 : BitVec 32 := 512#32
  let v3957 : BitVec 32 := Scalar.muli arg11 c512_i32_1413
  v3957
def k0_off73 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3970 : Index := Scalar.indexCast arg11
  let c0_1417 : Index := 0#32
  let c0_1418 : Index := 0#32
  let c16_1419 : Index := 16#32
  let c0_1420 : Index := 0#32
  ![v3970.toNat, 0, 0, 16, 0]
def k0_off74 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3973 : Index := Scalar.indexCast arg11
  let c0_1421 : Index := 0#32
  let c1_1422 : Index := 1#32
  let c16_1423 : Index := 16#32
  let c0_1424 : Index := 0#32
  ![v3973.toNat, 0, 1, 16, 0]
def k0_off75 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4078 : Index := Scalar.indexCast arg11
  let c0_1454 : Index := 0#32
  let c0_1455 : Index := 0#32
  let c17 : Index := 17#32
  let c0_1456 : Index := 0#32
  ![v4078.toNat, 0, 0, 17, 0]
def k0_off76 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4081 : Index := Scalar.indexCast arg11
  let c0_1457 : Index := 0#32
  let c1_1458 : Index := 1#32
  let c17_1459 : Index := 17#32
  let c0_1460 : Index := 0#32
  ![v4081.toNat, 0, 1, 17, 0]
def k0_off77 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4186 : Index := Scalar.indexCast arg11
  let c0_1490 : Index := 0#32
  let c0_1491 : Index := 0#32
  let c18 : Index := 18#32
  let c0_1492 : Index := 0#32
  ![v4186.toNat, 0, 0, 18, 0]
def k0_off78 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4189 : Index := Scalar.indexCast arg11
  let c0_1493 : Index := 0#32
  let c1_1494 : Index := 1#32
  let c18_1495 : Index := 18#32
  let c0_1496 : Index := 0#32
  ![v4189.toNat, 0, 1, 18, 0]
def k0_off79 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4294 : Index := Scalar.indexCast arg11
  let c0_1526 : Index := 0#32
  let c0_1527 : Index := 0#32
  let c19 : Index := 19#32
  let c0_1528 : Index := 0#32
  ![v4294.toNat, 0, 0, 19, 0]
def k0_off80 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4297 : Index := Scalar.indexCast arg11
  let c0_1529 : Index := 0#32
  let c1_1530 : Index := 1#32
  let c19_1531 : Index := 19#32
  let c0_1532 : Index := 0#32
  ![v4297.toNat, 0, 1, 19, 0]
def k0_off81 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4402 : Index := Scalar.indexCast arg11
  let c0_1562 : Index := 0#32
  let c0_1563 : Index := 0#32
  let c20 : Index := 20#32
  let c0_1564 : Index := 0#32
  ![v4402.toNat, 0, 0, 20, 0]
def k0_off82 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4405 : Index := Scalar.indexCast arg11
  let c0_1565 : Index := 0#32
  let c1_1566 : Index := 1#32
  let c20_1567 : Index := 20#32
  let c0_1568 : Index := 0#32
  ![v4405.toNat, 0, 1, 20, 0]
def k0_off83 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4510 : Index := Scalar.indexCast arg11
  let c0_1598 : Index := 0#32
  let c0_1599 : Index := 0#32
  let c21 : Index := 21#32
  let c0_1600 : Index := 0#32
  ![v4510.toNat, 0, 0, 21, 0]
def k0_off84 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4513 : Index := Scalar.indexCast arg11
  let c0_1601 : Index := 0#32
  let c1_1602 : Index := 1#32
  let c21_1603 : Index := 21#32
  let c0_1604 : Index := 0#32
  ![v4513.toNat, 0, 1, 21, 0]
def k0_off85 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4618 : Index := Scalar.indexCast arg11
  let c0_1634 : Index := 0#32
  let c0_1635 : Index := 0#32
  let c22 : Index := 22#32
  let c0_1636 : Index := 0#32
  ![v4618.toNat, 0, 0, 22, 0]
def k0_off86 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4621 : Index := Scalar.indexCast arg11
  let c0_1637 : Index := 0#32
  let c1_1638 : Index := 1#32
  let c22_1639 : Index := 22#32
  let c0_1640 : Index := 0#32
  ![v4621.toNat, 0, 1, 22, 0]
def k0_off87 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4726 : Index := Scalar.indexCast arg11
  let c0_1670 : Index := 0#32
  let c0_1671 : Index := 0#32
  let c23 : Index := 23#32
  let c0_1672 : Index := 0#32
  ![v4726.toNat, 0, 0, 23, 0]
def k0_off88 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4729 : Index := Scalar.indexCast arg11
  let c0_1673 : Index := 0#32
  let c1_1674 : Index := 1#32
  let c23_1675 : Index := 23#32
  let c0_1676 : Index := 0#32
  ![v4729.toNat, 0, 1, 23, 0]
def k0_mult15 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1706 : BitVec 32 := 512#32
  let v4833 : BitVec 32 := Scalar.muli arg11 c512_i32_1706
  v4833
def k0_off89 (k0_t1 : Fin k0_t1_loop.trips) (c0_i32_1707 : BitVec 32) : Fin 2 → Nat :=
  let c0_i32_140 : BitVec 32 := 0#32
  let c1_i32_141 : BitVec 32 := 1#32
  let arg11 : BitVec 32 := Scf.iv c0_i32_140 c1_i32_141 k0_t1
  let c512_i32_1706 : BitVec 32 := 512#32
  let v4833 : BitVec 32 := Scalar.muli arg11 c512_i32_1706
  let v4834 : BitVec 32 := v4833
  let v4835 : BitVec 32 := Scalar.addi v4834 c0_i32_1707
  let v4836 : Index := Scalar.indexCast v4835
  let c384_1708 : Index := 384#32
  ![v4836.toNat, 384]
def k0_mult16 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1709 : BitVec 32 := 512#32
  let v4841 : BitVec 32 := Scalar.muli arg11 c512_i32_1709
  v4841
def k0_off90 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4854 : Index := Scalar.indexCast arg11
  let c0_1713 : Index := 0#32
  let c0_1714 : Index := 0#32
  let c24 : Index := 24#32
  let c0_1715 : Index := 0#32
  ![v4854.toNat, 0, 0, 24, 0]
def k0_off91 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4857 : Index := Scalar.indexCast arg11
  let c0_1716 : Index := 0#32
  let c1_1717 : Index := 1#32
  let c24_1718 : Index := 24#32
  let c0_1719 : Index := 0#32
  ![v4857.toNat, 0, 1, 24, 0]
def k0_off92 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4962 : Index := Scalar.indexCast arg11
  let c0_1749 : Index := 0#32
  let c0_1750 : Index := 0#32
  let c25 : Index := 25#32
  let c0_1751 : Index := 0#32
  ![v4962.toNat, 0, 0, 25, 0]
def k0_off93 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4965 : Index := Scalar.indexCast arg11
  let c0_1752 : Index := 0#32
  let c1_1753 : Index := 1#32
  let c25_1754 : Index := 25#32
  let c0_1755 : Index := 0#32
  ![v4965.toNat, 0, 1, 25, 0]
def k0_off94 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5070 : Index := Scalar.indexCast arg11
  let c0_1785 : Index := 0#32
  let c0_1786 : Index := 0#32
  let c26 : Index := 26#32
  let c0_1787 : Index := 0#32
  ![v5070.toNat, 0, 0, 26, 0]
def k0_off95 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5073 : Index := Scalar.indexCast arg11
  let c0_1788 : Index := 0#32
  let c1_1789 : Index := 1#32
  let c26_1790 : Index := 26#32
  let c0_1791 : Index := 0#32
  ![v5073.toNat, 0, 1, 26, 0]
def k0_off96 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5178 : Index := Scalar.indexCast arg11
  let c0_1821 : Index := 0#32
  let c0_1822 : Index := 0#32
  let c27 : Index := 27#32
  let c0_1823 : Index := 0#32
  ![v5178.toNat, 0, 0, 27, 0]
def k0_off97 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5181 : Index := Scalar.indexCast arg11
  let c0_1824 : Index := 0#32
  let c1_1825 : Index := 1#32
  let c27_1826 : Index := 27#32
  let c0_1827 : Index := 0#32
  ![v5181.toNat, 0, 1, 27, 0]
def k0_off98 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5286 : Index := Scalar.indexCast arg11
  let c0_1857 : Index := 0#32
  let c0_1858 : Index := 0#32
  let c28 : Index := 28#32
  let c0_1859 : Index := 0#32
  ![v5286.toNat, 0, 0, 28, 0]
def k0_off99 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5289 : Index := Scalar.indexCast arg11
  let c0_1860 : Index := 0#32
  let c1_1861 : Index := 1#32
  let c28_1862 : Index := 28#32
  let c0_1863 : Index := 0#32
  ![v5289.toNat, 0, 1, 28, 0]
def k0_off100 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5394 : Index := Scalar.indexCast arg11
  let c0_1893 : Index := 0#32
  let c0_1894 : Index := 0#32
  let c29 : Index := 29#32
  let c0_1895 : Index := 0#32
  ![v5394.toNat, 0, 0, 29, 0]
def k0_off101 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5397 : Index := Scalar.indexCast arg11
  let c0_1896 : Index := 0#32
  let c1_1897 : Index := 1#32
  let c29_1898 : Index := 29#32
  let c0_1899 : Index := 0#32
  ![v5397.toNat, 0, 1, 29, 0]
def k0_off102 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5502 : Index := Scalar.indexCast arg11
  let c0_1929 : Index := 0#32
  let c0_1930 : Index := 0#32
  let c30 : Index := 30#32
  let c0_1931 : Index := 0#32
  ![v5502.toNat, 0, 0, 30, 0]
def k0_off103 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5505 : Index := Scalar.indexCast arg11
  let c0_1932 : Index := 0#32
  let c1_1933 : Index := 1#32
  let c30_1934 : Index := 30#32
  let c0_1935 : Index := 0#32
  ![v5505.toNat, 0, 1, 30, 0]
def k0_off104 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5610 : Index := Scalar.indexCast arg11
  let c0_1965 : Index := 0#32
  let c0_1966 : Index := 0#32
  let c31 : Index := 31#32
  let c0_1967 : Index := 0#32
  ![v5610.toNat, 0, 0, 31, 0]
def k0_off105 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5613 : Index := Scalar.indexCast arg11
  let c0_1968 : Index := 0#32
  let c1_1969 : Index := 1#32
  let c31_1970 : Index := 31#32
  let c0_1971 : Index := 0#32
  ![v5613.toNat, 0, 1, 31, 0]
def k0_mult17 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2005 : BitVec 32 := 512#32
  let v5733 : BitVec 32 := Scalar.muli arg11 c512_i32_2005
  v5733
def k0_off106 (k0_t1 : Fin k0_t1_loop.trips) (c0_i32_2006 : BitVec 32) : Fin 2 → Nat :=
  let c0_i32_140 : BitVec 32 := 0#32
  let c1_i32_141 : BitVec 32 := 1#32
  let arg11 : BitVec 32 := Scf.iv c0_i32_140 c1_i32_141 k0_t1
  let c512_i32_2005 : BitVec 32 := 512#32
  let v5733 : BitVec 32 := Scalar.muli arg11 c512_i32_2005
  let v5734 : BitVec 32 := v5733
  let v5735 : BitVec 32 := Scalar.addi v5734 c0_i32_2006
  let v5737 : Index := Scalar.indexCast v5735
  let c128_2007 : Index := 128#32
  ![v5737.toNat, 128]
def k0_mult18 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2008 : BitVec 32 := 512#32
  let v5739 : BitVec 32 := Scalar.muli arg11 c512_i32_2008
  v5739
def k0_mult19 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2011 : BitVec 32 := 512#32
  let v5745 : BitVec 32 := Scalar.muli arg11 c512_i32_2011
  v5745
def k0_mult20 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2014 : BitVec 32 := 512#32
  let v5753 : BitVec 32 := Scalar.muli arg11 c512_i32_2014
  v5753
def k0_off107 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5766 : Index := Scalar.indexCast arg11
  let c1_2018 : Index := 1#32
  let c0_2019 : Index := 0#32
  let c16_2020 : Index := 16#32
  let c0_2021 : Index := 0#32
  ![v5766.toNat, 1, 0, 16, 0]
def k0_off108 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5769 : Index := Scalar.indexCast arg11
  let c1_2022 : Index := 1#32
  let c1_2023 : Index := 1#32
  let c16_2024 : Index := 16#32
  let c0_2025 : Index := 0#32
  ![v5769.toNat, 1, 1, 16, 0]
def k0_off109 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5874 : Index := Scalar.indexCast arg11
  let c1_2055 : Index := 1#32
  let c0_2056 : Index := 0#32
  let c17_2057 : Index := 17#32
  let c0_2058 : Index := 0#32
  ![v5874.toNat, 1, 0, 17, 0]
def k0_off110 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5877 : Index := Scalar.indexCast arg11
  let c1_2059 : Index := 1#32
  let c1_2060 : Index := 1#32
  let c17_2061 : Index := 17#32
  let c0_2062 : Index := 0#32
  ![v5877.toNat, 1, 1, 17, 0]
def k0_off111 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5982 : Index := Scalar.indexCast arg11
  let c1_2092 : Index := 1#32
  let c0_2093 : Index := 0#32
  let c18_2094 : Index := 18#32
  let c0_2095 : Index := 0#32
  ![v5982.toNat, 1, 0, 18, 0]
def k0_off112 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5985 : Index := Scalar.indexCast arg11
  let c1_2096 : Index := 1#32
  let c1_2097 : Index := 1#32
  let c18_2098 : Index := 18#32
  let c0_2099 : Index := 0#32
  ![v5985.toNat, 1, 1, 18, 0]
def k0_off113 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6090 : Index := Scalar.indexCast arg11
  let c1_2129 : Index := 1#32
  let c0_2130 : Index := 0#32
  let c19_2131 : Index := 19#32
  let c0_2132 : Index := 0#32
  ![v6090.toNat, 1, 0, 19, 0]
def k0_off114 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6093 : Index := Scalar.indexCast arg11
  let c1_2133 : Index := 1#32
  let c1_2134 : Index := 1#32
  let c19_2135 : Index := 19#32
  let c0_2136 : Index := 0#32
  ![v6093.toNat, 1, 1, 19, 0]
def k0_off115 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6198 : Index := Scalar.indexCast arg11
  let c1_2166 : Index := 1#32
  let c0_2167 : Index := 0#32
  let c20_2168 : Index := 20#32
  let c0_2169 : Index := 0#32
  ![v6198.toNat, 1, 0, 20, 0]
def k0_off116 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6201 : Index := Scalar.indexCast arg11
  let c1_2170 : Index := 1#32
  let c1_2171 : Index := 1#32
  let c20_2172 : Index := 20#32
  let c0_2173 : Index := 0#32
  ![v6201.toNat, 1, 1, 20, 0]
def k0_off117 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6306 : Index := Scalar.indexCast arg11
  let c1_2203 : Index := 1#32
  let c0_2204 : Index := 0#32
  let c21_2205 : Index := 21#32
  let c0_2206 : Index := 0#32
  ![v6306.toNat, 1, 0, 21, 0]
def k0_off118 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6309 : Index := Scalar.indexCast arg11
  let c1_2207 : Index := 1#32
  let c1_2208 : Index := 1#32
  let c21_2209 : Index := 21#32
  let c0_2210 : Index := 0#32
  ![v6309.toNat, 1, 1, 21, 0]
def k0_off119 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6414 : Index := Scalar.indexCast arg11
  let c1_2240 : Index := 1#32
  let c0_2241 : Index := 0#32
  let c22_2242 : Index := 22#32
  let c0_2243 : Index := 0#32
  ![v6414.toNat, 1, 0, 22, 0]
def k0_off120 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6417 : Index := Scalar.indexCast arg11
  let c1_2244 : Index := 1#32
  let c1_2245 : Index := 1#32
  let c22_2246 : Index := 22#32
  let c0_2247 : Index := 0#32
  ![v6417.toNat, 1, 1, 22, 0]
def k0_off121 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6522 : Index := Scalar.indexCast arg11
  let c1_2277 : Index := 1#32
  let c0_2278 : Index := 0#32
  let c23_2279 : Index := 23#32
  let c0_2280 : Index := 0#32
  ![v6522.toNat, 1, 0, 23, 0]
def k0_off122 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6525 : Index := Scalar.indexCast arg11
  let c1_2281 : Index := 1#32
  let c1_2282 : Index := 1#32
  let c23_2283 : Index := 23#32
  let c0_2284 : Index := 0#32
  ![v6525.toNat, 1, 1, 23, 0]
def k0_mult21 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2314 : BitVec 32 := 512#32
  let v6629 : BitVec 32 := Scalar.muli arg11 c512_i32_2314
  v6629
def k0_mult22 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2317 : BitVec 32 := 512#32
  let v6637 : BitVec 32 := Scalar.muli arg11 c512_i32_2317
  v6637
def k0_off123 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6650 : Index := Scalar.indexCast arg11
  let c1_2321 : Index := 1#32
  let c0_2322 : Index := 0#32
  let c24_2323 : Index := 24#32
  let c0_2324 : Index := 0#32
  ![v6650.toNat, 1, 0, 24, 0]
def k0_off124 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6653 : Index := Scalar.indexCast arg11
  let c1_2325 : Index := 1#32
  let c1_2326 : Index := 1#32
  let c24_2327 : Index := 24#32
  let c0_2328 : Index := 0#32
  ![v6653.toNat, 1, 1, 24, 0]
def k0_off125 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6758 : Index := Scalar.indexCast arg11
  let c1_2358 : Index := 1#32
  let c0_2359 : Index := 0#32
  let c25_2360 : Index := 25#32
  let c0_2361 : Index := 0#32
  ![v6758.toNat, 1, 0, 25, 0]
def k0_off126 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6761 : Index := Scalar.indexCast arg11
  let c1_2362 : Index := 1#32
  let c1_2363 : Index := 1#32
  let c25_2364 : Index := 25#32
  let c0_2365 : Index := 0#32
  ![v6761.toNat, 1, 1, 25, 0]
def k0_off127 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6866 : Index := Scalar.indexCast arg11
  let c1_2395 : Index := 1#32
  let c0_2396 : Index := 0#32
  let c26_2397 : Index := 26#32
  let c0_2398 : Index := 0#32
  ![v6866.toNat, 1, 0, 26, 0]
def k0_off128 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6869 : Index := Scalar.indexCast arg11
  let c1_2399 : Index := 1#32
  let c1_2400 : Index := 1#32
  let c26_2401 : Index := 26#32
  let c0_2402 : Index := 0#32
  ![v6869.toNat, 1, 1, 26, 0]
def k0_off129 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6974 : Index := Scalar.indexCast arg11
  let c1_2432 : Index := 1#32
  let c0_2433 : Index := 0#32
  let c27_2434 : Index := 27#32
  let c0_2435 : Index := 0#32
  ![v6974.toNat, 1, 0, 27, 0]
def k0_off130 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6977 : Index := Scalar.indexCast arg11
  let c1_2436 : Index := 1#32
  let c1_2437 : Index := 1#32
  let c27_2438 : Index := 27#32
  let c0_2439 : Index := 0#32
  ![v6977.toNat, 1, 1, 27, 0]
def k0_off131 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7082 : Index := Scalar.indexCast arg11
  let c1_2469 : Index := 1#32
  let c0_2470 : Index := 0#32
  let c28_2471 : Index := 28#32
  let c0_2472 : Index := 0#32
  ![v7082.toNat, 1, 0, 28, 0]
def k0_off132 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7085 : Index := Scalar.indexCast arg11
  let c1_2473 : Index := 1#32
  let c1_2474 : Index := 1#32
  let c28_2475 : Index := 28#32
  let c0_2476 : Index := 0#32
  ![v7085.toNat, 1, 1, 28, 0]
def k0_off133 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7190 : Index := Scalar.indexCast arg11
  let c1_2506 : Index := 1#32
  let c0_2507 : Index := 0#32
  let c29_2508 : Index := 29#32
  let c0_2509 : Index := 0#32
  ![v7190.toNat, 1, 0, 29, 0]
def k0_off134 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7193 : Index := Scalar.indexCast arg11
  let c1_2510 : Index := 1#32
  let c1_2511 : Index := 1#32
  let c29_2512 : Index := 29#32
  let c0_2513 : Index := 0#32
  ![v7193.toNat, 1, 1, 29, 0]
def k0_off135 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7298 : Index := Scalar.indexCast arg11
  let c1_2543 : Index := 1#32
  let c0_2544 : Index := 0#32
  let c30_2545 : Index := 30#32
  let c0_2546 : Index := 0#32
  ![v7298.toNat, 1, 0, 30, 0]
def k0_off136 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7301 : Index := Scalar.indexCast arg11
  let c1_2547 : Index := 1#32
  let c1_2548 : Index := 1#32
  let c30_2549 : Index := 30#32
  let c0_2550 : Index := 0#32
  ![v7301.toNat, 1, 1, 30, 0]
def k0_off137 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7406 : Index := Scalar.indexCast arg11
  let c1_2580 : Index := 1#32
  let c0_2581 : Index := 0#32
  let c31_2582 : Index := 31#32
  let c0_2583 : Index := 0#32
  ![v7406.toNat, 1, 0, 31, 0]
def k0_off138 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7409 : Index := Scalar.indexCast arg11
  let c1_2584 : Index := 1#32
  let c1_2585 : Index := 1#32
  let c31_2586 : Index := 31#32
  let c0_2587 : Index := 0#32
  ![v7409.toNat, 1, 1, 31, 0]
def k0_mult23 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2621 : BitVec 32 := 512#32
  let v7529 : BitVec 32 := Scalar.muli arg11 c512_i32_2621
  v7529
def k0_mult24 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2624 : BitVec 32 := 512#32
  let v7535 : BitVec 32 := Scalar.muli arg11 c512_i32_2624
  v7535
def k0_off139 (k0_t1 : Fin k0_t1_loop.trips) (c0_i32_2628 : BitVec 32) : Fin 4 → Nat :=
  let c64 : Index := 64#32
  let c2_i32_2627 : BitVec 32 := 2#32
  let c0_i32_140 : BitVec 32 := 0#32
  let c1_i32_141 : BitVec 32 := 1#32
  let arg11 : BitVec 32 := Scf.iv c0_i32_140 c1_i32_141 k0_t1
  let v7541 : BitVec 32 := Scalar.muli c2_i32_2627 arg11
  let v7542 : BitVec 32 := Scalar.addi v7541 c0_i32_2628
  let v7543 : Index := Scalar.indexCast v7542
  let c0_2629 : Index := 0#32
  let c0_2630 : Index := 0#32
  ![64, v7543.toNat, 0, 0]
def k0_off140 (k0_t1 : Fin k0_t1_loop.trips) (c0_i32_2643 : BitVec 32) : Fin 4 → Nat :=
  let c80 : Index := 80#32
  let c2_i32_2642 : BitVec 32 := 2#32
  let c0_i32_140 : BitVec 32 := 0#32
  let c1_i32_141 : BitVec 32 := 1#32
  let arg11 : BitVec 32 := Scf.iv c0_i32_140 c1_i32_141 k0_t1
  let v7559 : BitVec 32 := Scalar.muli c2_i32_2642 arg11
  let v7560 : BitVec 32 := Scalar.addi v7559 c0_i32_2643
  let v7561 : Index := Scalar.indexCast v7560
  let c0_2644 : Index := 0#32
  let c0_2645 : Index := 0#32
  ![80, v7561.toNat, 0, 0]
def k0_mult25 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2657 : BitVec 32 := 512#32
  let v7577 : BitVec 32 := Scalar.muli arg11 c512_i32_2657
  v7577
def k0_off141 (k0_t1 : Fin k0_t1_loop.trips) (c0_i32_2658 : BitVec 32) : Fin 2 → Nat :=
  let c0_i32_140 : BitVec 32 := 0#32
  let c1_i32_141 : BitVec 32 := 1#32
  let arg11 : BitVec 32 := Scf.iv c0_i32_140 c1_i32_141 k0_t1
  let c512_i32_2657 : BitVec 32 := 512#32
  let v7577 : BitVec 32 := Scalar.muli arg11 c512_i32_2657
  let v7578 : BitVec 32 := v7577
  let v7579 : BitVec 32 := Scalar.addi v7578 c0_i32_2658
  let v7580 : Index := Scalar.indexCast v7579
  let c512_2659 : Index := 512#32
  ![v7580.toNat, 512]
def k0_mult26 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2660 : BitVec 32 := 512#32
  let v7585 : BitVec 32 := Scalar.muli arg11 c512_i32_2660
  v7585
def k0_off142 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7598 : Index := Scalar.indexCast arg11
  let c0_2664 : Index := 0#32
  let c0_2665 : Index := 0#32
  let c32_2666 : Index := 32#32
  let c0_2667 : Index := 0#32
  ![v7598.toNat, 0, 0, 32, 0]
def k0_off143 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7601 : Index := Scalar.indexCast arg11
  let c0_2668 : Index := 0#32
  let c1_2669 : Index := 1#32
  let c32_2670 : Index := 32#32
  let c0_2671 : Index := 0#32
  ![v7601.toNat, 0, 1, 32, 0]
def k0_off144 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7706 : Index := Scalar.indexCast arg11
  let c0_2701 : Index := 0#32
  let c0_2702 : Index := 0#32
  let c33 : Index := 33#32
  let c0_2703 : Index := 0#32
  ![v7706.toNat, 0, 0, 33, 0]
def k0_off145 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7709 : Index := Scalar.indexCast arg11
  let c0_2704 : Index := 0#32
  let c1_2705 : Index := 1#32
  let c33_2706 : Index := 33#32
  let c0_2707 : Index := 0#32
  ![v7709.toNat, 0, 1, 33, 0]
def k0_off146 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7814 : Index := Scalar.indexCast arg11
  let c0_2737 : Index := 0#32
  let c0_2738 : Index := 0#32
  let c34 : Index := 34#32
  let c0_2739 : Index := 0#32
  ![v7814.toNat, 0, 0, 34, 0]
def k0_off147 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7817 : Index := Scalar.indexCast arg11
  let c0_2740 : Index := 0#32
  let c1_2741 : Index := 1#32
  let c34_2742 : Index := 34#32
  let c0_2743 : Index := 0#32
  ![v7817.toNat, 0, 1, 34, 0]
def k0_off148 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7922 : Index := Scalar.indexCast arg11
  let c0_2773 : Index := 0#32
  let c0_2774 : Index := 0#32
  let c35 : Index := 35#32
  let c0_2775 : Index := 0#32
  ![v7922.toNat, 0, 0, 35, 0]
def k0_off149 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7925 : Index := Scalar.indexCast arg11
  let c0_2776 : Index := 0#32
  let c1_2777 : Index := 1#32
  let c35_2778 : Index := 35#32
  let c0_2779 : Index := 0#32
  ![v7925.toNat, 0, 1, 35, 0]
def k0_off150 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8030 : Index := Scalar.indexCast arg11
  let c0_2809 : Index := 0#32
  let c0_2810 : Index := 0#32
  let c36 : Index := 36#32
  let c0_2811 : Index := 0#32
  ![v8030.toNat, 0, 0, 36, 0]
def k0_off151 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8033 : Index := Scalar.indexCast arg11
  let c0_2812 : Index := 0#32
  let c1_2813 : Index := 1#32
  let c36_2814 : Index := 36#32
  let c0_2815 : Index := 0#32
  ![v8033.toNat, 0, 1, 36, 0]
def k0_off152 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8138 : Index := Scalar.indexCast arg11
  let c0_2845 : Index := 0#32
  let c0_2846 : Index := 0#32
  let c37 : Index := 37#32
  let c0_2847 : Index := 0#32
  ![v8138.toNat, 0, 0, 37, 0]
def k0_off153 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8141 : Index := Scalar.indexCast arg11
  let c0_2848 : Index := 0#32
  let c1_2849 : Index := 1#32
  let c37_2850 : Index := 37#32
  let c0_2851 : Index := 0#32
  ![v8141.toNat, 0, 1, 37, 0]
def k0_off154 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8246 : Index := Scalar.indexCast arg11
  let c0_2881 : Index := 0#32
  let c0_2882 : Index := 0#32
  let c38 : Index := 38#32
  let c0_2883 : Index := 0#32
  ![v8246.toNat, 0, 0, 38, 0]
def k0_off155 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8249 : Index := Scalar.indexCast arg11
  let c0_2884 : Index := 0#32
  let c1_2885 : Index := 1#32
  let c38_2886 : Index := 38#32
  let c0_2887 : Index := 0#32
  ![v8249.toNat, 0, 1, 38, 0]
def k0_off156 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8354 : Index := Scalar.indexCast arg11
  let c0_2917 : Index := 0#32
  let c0_2918 : Index := 0#32
  let c39 : Index := 39#32
  let c0_2919 : Index := 0#32
  ![v8354.toNat, 0, 0, 39, 0]
def k0_off157 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8357 : Index := Scalar.indexCast arg11
  let c0_2920 : Index := 0#32
  let c1_2921 : Index := 1#32
  let c39_2922 : Index := 39#32
  let c0_2923 : Index := 0#32
  ![v8357.toNat, 0, 1, 39, 0]
def k0_mult27 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2953 : BitVec 32 := 512#32
  let v8461 : BitVec 32 := Scalar.muli arg11 c512_i32_2953
  v8461
def k0_off158 (k0_t1 : Fin k0_t1_loop.trips) (c0_i32_2954 : BitVec 32) : Fin 2 → Nat :=
  let c0_i32_140 : BitVec 32 := 0#32
  let c1_i32_141 : BitVec 32 := 1#32
  let arg11 : BitVec 32 := Scf.iv c0_i32_140 c1_i32_141 k0_t1
  let c512_i32_2953 : BitVec 32 := 512#32
  let v8461 : BitVec 32 := Scalar.muli arg11 c512_i32_2953
  let v8462 : BitVec 32 := v8461
  let v8463 : BitVec 32 := Scalar.addi v8462 c0_i32_2954
  let v8464 : Index := Scalar.indexCast v8463
  let c640_2955 : Index := 640#32
  ![v8464.toNat, 640]
def k0_mult28 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2956 : BitVec 32 := 512#32
  let v8469 : BitVec 32 := Scalar.muli arg11 c512_i32_2956
  v8469
def k0_off159 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8482 : Index := Scalar.indexCast arg11
  let c0_2960 : Index := 0#32
  let c0_2961 : Index := 0#32
  let c40 : Index := 40#32
  let c0_2962 : Index := 0#32
  ![v8482.toNat, 0, 0, 40, 0]
def k0_off160 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8485 : Index := Scalar.indexCast arg11
  let c0_2963 : Index := 0#32
  let c1_2964 : Index := 1#32
  let c40_2965 : Index := 40#32
  let c0_2966 : Index := 0#32
  ![v8485.toNat, 0, 1, 40, 0]
def k0_off161 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8590 : Index := Scalar.indexCast arg11
  let c0_2996 : Index := 0#32
  let c0_2997 : Index := 0#32
  let c41 : Index := 41#32
  let c0_2998 : Index := 0#32
  ![v8590.toNat, 0, 0, 41, 0]
def k0_off162 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8593 : Index := Scalar.indexCast arg11
  let c0_2999 : Index := 0#32
  let c1_3000 : Index := 1#32
  let c41_3001 : Index := 41#32
  let c0_3002 : Index := 0#32
  ![v8593.toNat, 0, 1, 41, 0]
def k0_off163 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8698 : Index := Scalar.indexCast arg11
  let c0_3032 : Index := 0#32
  let c0_3033 : Index := 0#32
  let c42 : Index := 42#32
  let c0_3034 : Index := 0#32
  ![v8698.toNat, 0, 0, 42, 0]
def k0_off164 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8701 : Index := Scalar.indexCast arg11
  let c0_3035 : Index := 0#32
  let c1_3036 : Index := 1#32
  let c42_3037 : Index := 42#32
  let c0_3038 : Index := 0#32
  ![v8701.toNat, 0, 1, 42, 0]
def k0_off165 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8806 : Index := Scalar.indexCast arg11
  let c0_3068 : Index := 0#32
  let c0_3069 : Index := 0#32
  let c43 : Index := 43#32
  let c0_3070 : Index := 0#32
  ![v8806.toNat, 0, 0, 43, 0]
def k0_off166 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8809 : Index := Scalar.indexCast arg11
  let c0_3071 : Index := 0#32
  let c1_3072 : Index := 1#32
  let c43_3073 : Index := 43#32
  let c0_3074 : Index := 0#32
  ![v8809.toNat, 0, 1, 43, 0]
def k0_off167 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8914 : Index := Scalar.indexCast arg11
  let c0_3104 : Index := 0#32
  let c0_3105 : Index := 0#32
  let c44 : Index := 44#32
  let c0_3106 : Index := 0#32
  ![v8914.toNat, 0, 0, 44, 0]
def k0_off168 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8917 : Index := Scalar.indexCast arg11
  let c0_3107 : Index := 0#32
  let c1_3108 : Index := 1#32
  let c44_3109 : Index := 44#32
  let c0_3110 : Index := 0#32
  ![v8917.toNat, 0, 1, 44, 0]
def k0_off169 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9022 : Index := Scalar.indexCast arg11
  let c0_3140 : Index := 0#32
  let c0_3141 : Index := 0#32
  let c45 : Index := 45#32
  let c0_3142 : Index := 0#32
  ![v9022.toNat, 0, 0, 45, 0]
def k0_off170 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9025 : Index := Scalar.indexCast arg11
  let c0_3143 : Index := 0#32
  let c1_3144 : Index := 1#32
  let c45_3145 : Index := 45#32
  let c0_3146 : Index := 0#32
  ![v9025.toNat, 0, 1, 45, 0]
def k0_off171 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9130 : Index := Scalar.indexCast arg11
  let c0_3176 : Index := 0#32
  let c0_3177 : Index := 0#32
  let c46 : Index := 46#32
  let c0_3178 : Index := 0#32
  ![v9130.toNat, 0, 0, 46, 0]
def k0_off172 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9133 : Index := Scalar.indexCast arg11
  let c0_3179 : Index := 0#32
  let c1_3180 : Index := 1#32
  let c46_3181 : Index := 46#32
  let c0_3182 : Index := 0#32
  ![v9133.toNat, 0, 1, 46, 0]
def k0_off173 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9238 : Index := Scalar.indexCast arg11
  let c0_3212 : Index := 0#32
  let c0_3213 : Index := 0#32
  let c47 : Index := 47#32
  let c0_3214 : Index := 0#32
  ![v9238.toNat, 0, 0, 47, 0]
def k0_off174 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9241 : Index := Scalar.indexCast arg11
  let c0_3215 : Index := 0#32
  let c1_3216 : Index := 1#32
  let c47_3217 : Index := 47#32
  let c0_3218 : Index := 0#32
  ![v9241.toNat, 0, 1, 47, 0]
def k0_mult29 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3252 : BitVec 32 := 512#32
  let v9361 : BitVec 32 := Scalar.muli arg11 c512_i32_3252
  v9361
def k0_off175 (k0_t1 : Fin k0_t1_loop.trips) (c0_i32_3253 : BitVec 32) : Fin 2 → Nat :=
  let c0_i32_140 : BitVec 32 := 0#32
  let c1_i32_141 : BitVec 32 := 1#32
  let arg11 : BitVec 32 := Scf.iv c0_i32_140 c1_i32_141 k0_t1
  let c512_i32_3252 : BitVec 32 := 512#32
  let v9361 : BitVec 32 := Scalar.muli arg11 c512_i32_3252
  let v9362 : BitVec 32 := v9361
  let v9363 : BitVec 32 := Scalar.addi v9362 c0_i32_3253
  let v9365 : Index := Scalar.indexCast v9363
  let c256_3254 : Index := 256#32
  ![v9365.toNat, 256]
def k0_mult30 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3255 : BitVec 32 := 512#32
  let v9367 : BitVec 32 := Scalar.muli arg11 c512_i32_3255
  v9367
def k0_mult31 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3258 : BitVec 32 := 512#32
  let v9373 : BitVec 32 := Scalar.muli arg11 c512_i32_3258
  v9373
def k0_mult32 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3261 : BitVec 32 := 512#32
  let v9381 : BitVec 32 := Scalar.muli arg11 c512_i32_3261
  v9381
def k0_off176 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9394 : Index := Scalar.indexCast arg11
  let c1_3265 : Index := 1#32
  let c0_3266 : Index := 0#32
  let c32_3267 : Index := 32#32
  let c0_3268 : Index := 0#32
  ![v9394.toNat, 1, 0, 32, 0]
def k0_off177 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9397 : Index := Scalar.indexCast arg11
  let c1_3269 : Index := 1#32
  let c1_3270 : Index := 1#32
  let c32_3271 : Index := 32#32
  let c0_3272 : Index := 0#32
  ![v9397.toNat, 1, 1, 32, 0]
def k0_off178 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9502 : Index := Scalar.indexCast arg11
  let c1_3302 : Index := 1#32
  let c0_3303 : Index := 0#32
  let c33_3304 : Index := 33#32
  let c0_3305 : Index := 0#32
  ![v9502.toNat, 1, 0, 33, 0]
def k0_off179 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9505 : Index := Scalar.indexCast arg11
  let c1_3306 : Index := 1#32
  let c1_3307 : Index := 1#32
  let c33_3308 : Index := 33#32
  let c0_3309 : Index := 0#32
  ![v9505.toNat, 1, 1, 33, 0]
def k0_off180 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9610 : Index := Scalar.indexCast arg11
  let c1_3339 : Index := 1#32
  let c0_3340 : Index := 0#32
  let c34_3341 : Index := 34#32
  let c0_3342 : Index := 0#32
  ![v9610.toNat, 1, 0, 34, 0]
def k0_off181 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9613 : Index := Scalar.indexCast arg11
  let c1_3343 : Index := 1#32
  let c1_3344 : Index := 1#32
  let c34_3345 : Index := 34#32
  let c0_3346 : Index := 0#32
  ![v9613.toNat, 1, 1, 34, 0]
def k0_off182 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9718 : Index := Scalar.indexCast arg11
  let c1_3376 : Index := 1#32
  let c0_3377 : Index := 0#32
  let c35_3378 : Index := 35#32
  let c0_3379 : Index := 0#32
  ![v9718.toNat, 1, 0, 35, 0]
def k0_off183 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9721 : Index := Scalar.indexCast arg11
  let c1_3380 : Index := 1#32
  let c1_3381 : Index := 1#32
  let c35_3382 : Index := 35#32
  let c0_3383 : Index := 0#32
  ![v9721.toNat, 1, 1, 35, 0]
def k0_off184 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9826 : Index := Scalar.indexCast arg11
  let c1_3413 : Index := 1#32
  let c0_3414 : Index := 0#32
  let c36_3415 : Index := 36#32
  let c0_3416 : Index := 0#32
  ![v9826.toNat, 1, 0, 36, 0]
def k0_off185 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9829 : Index := Scalar.indexCast arg11
  let c1_3417 : Index := 1#32
  let c1_3418 : Index := 1#32
  let c36_3419 : Index := 36#32
  let c0_3420 : Index := 0#32
  ![v9829.toNat, 1, 1, 36, 0]
def k0_off186 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9934 : Index := Scalar.indexCast arg11
  let c1_3450 : Index := 1#32
  let c0_3451 : Index := 0#32
  let c37_3452 : Index := 37#32
  let c0_3453 : Index := 0#32
  ![v9934.toNat, 1, 0, 37, 0]
def k0_off187 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9937 : Index := Scalar.indexCast arg11
  let c1_3454 : Index := 1#32
  let c1_3455 : Index := 1#32
  let c37_3456 : Index := 37#32
  let c0_3457 : Index := 0#32
  ![v9937.toNat, 1, 1, 37, 0]
def k0_off188 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10042 : Index := Scalar.indexCast arg11
  let c1_3487 : Index := 1#32
  let c0_3488 : Index := 0#32
  let c38_3489 : Index := 38#32
  let c0_3490 : Index := 0#32
  ![v10042.toNat, 1, 0, 38, 0]
def k0_off189 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10045 : Index := Scalar.indexCast arg11
  let c1_3491 : Index := 1#32
  let c1_3492 : Index := 1#32
  let c38_3493 : Index := 38#32
  let c0_3494 : Index := 0#32
  ![v10045.toNat, 1, 1, 38, 0]
def k0_off190 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10150 : Index := Scalar.indexCast arg11
  let c1_3524 : Index := 1#32
  let c0_3525 : Index := 0#32
  let c39_3526 : Index := 39#32
  let c0_3527 : Index := 0#32
  ![v10150.toNat, 1, 0, 39, 0]
def k0_off191 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10153 : Index := Scalar.indexCast arg11
  let c1_3528 : Index := 1#32
  let c1_3529 : Index := 1#32
  let c39_3530 : Index := 39#32
  let c0_3531 : Index := 0#32
  ![v10153.toNat, 1, 1, 39, 0]
def k0_mult33 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3561 : BitVec 32 := 512#32
  let v10257 : BitVec 32 := Scalar.muli arg11 c512_i32_3561
  v10257
def k0_mult34 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3564 : BitVec 32 := 512#32
  let v10265 : BitVec 32 := Scalar.muli arg11 c512_i32_3564
  v10265
def k0_off192 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10278 : Index := Scalar.indexCast arg11
  let c1_3568 : Index := 1#32
  let c0_3569 : Index := 0#32
  let c40_3570 : Index := 40#32
  let c0_3571 : Index := 0#32
  ![v10278.toNat, 1, 0, 40, 0]
def k0_off193 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10281 : Index := Scalar.indexCast arg11
  let c1_3572 : Index := 1#32
  let c1_3573 : Index := 1#32
  let c40_3574 : Index := 40#32
  let c0_3575 : Index := 0#32
  ![v10281.toNat, 1, 1, 40, 0]
def k0_off194 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10386 : Index := Scalar.indexCast arg11
  let c1_3605 : Index := 1#32
  let c0_3606 : Index := 0#32
  let c41_3607 : Index := 41#32
  let c0_3608 : Index := 0#32
  ![v10386.toNat, 1, 0, 41, 0]
def k0_off195 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10389 : Index := Scalar.indexCast arg11
  let c1_3609 : Index := 1#32
  let c1_3610 : Index := 1#32
  let c41_3611 : Index := 41#32
  let c0_3612 : Index := 0#32
  ![v10389.toNat, 1, 1, 41, 0]
def k0_off196 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10494 : Index := Scalar.indexCast arg11
  let c1_3642 : Index := 1#32
  let c0_3643 : Index := 0#32
  let c42_3644 : Index := 42#32
  let c0_3645 : Index := 0#32
  ![v10494.toNat, 1, 0, 42, 0]
def k0_off197 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10497 : Index := Scalar.indexCast arg11
  let c1_3646 : Index := 1#32
  let c1_3647 : Index := 1#32
  let c42_3648 : Index := 42#32
  let c0_3649 : Index := 0#32
  ![v10497.toNat, 1, 1, 42, 0]
def k0_off198 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10602 : Index := Scalar.indexCast arg11
  let c1_3679 : Index := 1#32
  let c0_3680 : Index := 0#32
  let c43_3681 : Index := 43#32
  let c0_3682 : Index := 0#32
  ![v10602.toNat, 1, 0, 43, 0]
def k0_off199 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10605 : Index := Scalar.indexCast arg11
  let c1_3683 : Index := 1#32
  let c1_3684 : Index := 1#32
  let c43_3685 : Index := 43#32
  let c0_3686 : Index := 0#32
  ![v10605.toNat, 1, 1, 43, 0]
def k0_off200 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10710 : Index := Scalar.indexCast arg11
  let c1_3716 : Index := 1#32
  let c0_3717 : Index := 0#32
  let c44_3718 : Index := 44#32
  let c0_3719 : Index := 0#32
  ![v10710.toNat, 1, 0, 44, 0]
def k0_off201 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10713 : Index := Scalar.indexCast arg11
  let c1_3720 : Index := 1#32
  let c1_3721 : Index := 1#32
  let c44_3722 : Index := 44#32
  let c0_3723 : Index := 0#32
  ![v10713.toNat, 1, 1, 44, 0]
def k0_off202 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10818 : Index := Scalar.indexCast arg11
  let c1_3753 : Index := 1#32
  let c0_3754 : Index := 0#32
  let c45_3755 : Index := 45#32
  let c0_3756 : Index := 0#32
  ![v10818.toNat, 1, 0, 45, 0]
def k0_off203 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10821 : Index := Scalar.indexCast arg11
  let c1_3757 : Index := 1#32
  let c1_3758 : Index := 1#32
  let c45_3759 : Index := 45#32
  let c0_3760 : Index := 0#32
  ![v10821.toNat, 1, 1, 45, 0]
def k0_off204 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10926 : Index := Scalar.indexCast arg11
  let c1_3790 : Index := 1#32
  let c0_3791 : Index := 0#32
  let c46_3792 : Index := 46#32
  let c0_3793 : Index := 0#32
  ![v10926.toNat, 1, 0, 46, 0]
def k0_off205 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10929 : Index := Scalar.indexCast arg11
  let c1_3794 : Index := 1#32
  let c1_3795 : Index := 1#32
  let c46_3796 : Index := 46#32
  let c0_3797 : Index := 0#32
  ![v10929.toNat, 1, 1, 46, 0]
def k0_off206 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11034 : Index := Scalar.indexCast arg11
  let c1_3827 : Index := 1#32
  let c0_3828 : Index := 0#32
  let c47_3829 : Index := 47#32
  let c0_3830 : Index := 0#32
  ![v11034.toNat, 1, 0, 47, 0]
def k0_off207 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11037 : Index := Scalar.indexCast arg11
  let c1_3831 : Index := 1#32
  let c1_3832 : Index := 1#32
  let c47_3833 : Index := 47#32
  let c0_3834 : Index := 0#32
  ![v11037.toNat, 1, 1, 47, 0]
def k0_mult35 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3868 : BitVec 32 := 512#32
  let v11157 : BitVec 32 := Scalar.muli arg11 c512_i32_3868
  v11157
def k0_mult36 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3871 : BitVec 32 := 512#32
  let v11163 : BitVec 32 := Scalar.muli arg11 c512_i32_3871
  v11163
def k0_off208 (k0_t1 : Fin k0_t1_loop.trips) (c0_i32_3875 : BitVec 32) : Fin 4 → Nat :=
  let c96 : Index := 96#32
  let c2_i32_3874 : BitVec 32 := 2#32
  let c0_i32_140 : BitVec 32 := 0#32
  let c1_i32_141 : BitVec 32 := 1#32
  let arg11 : BitVec 32 := Scf.iv c0_i32_140 c1_i32_141 k0_t1
  let v11169 : BitVec 32 := Scalar.muli c2_i32_3874 arg11
  let v11170 : BitVec 32 := Scalar.addi v11169 c0_i32_3875
  let v11171 : Index := Scalar.indexCast v11170
  let c0_3876 : Index := 0#32
  let c0_3877 : Index := 0#32
  ![96, v11171.toNat, 0, 0]
def k0_off209 (k0_t1 : Fin k0_t1_loop.trips) (c0_i32_3890 : BitVec 32) : Fin 4 → Nat :=
  let c112 : Index := 112#32
  let c2_i32_3889 : BitVec 32 := 2#32
  let c0_i32_140 : BitVec 32 := 0#32
  let c1_i32_141 : BitVec 32 := 1#32
  let arg11 : BitVec 32 := Scf.iv c0_i32_140 c1_i32_141 k0_t1
  let v11187 : BitVec 32 := Scalar.muli c2_i32_3889 arg11
  let v11188 : BitVec 32 := Scalar.addi v11187 c0_i32_3890
  let v11189 : Index := Scalar.indexCast v11188
  let c0_3891 : Index := 0#32
  let c0_3892 : Index := 0#32
  ![112, v11189.toNat, 0, 0]
def k0_mult37 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3904 : BitVec 32 := 512#32
  let v11205 : BitVec 32 := Scalar.muli arg11 c512_i32_3904
  v11205
def k0_off210 (k0_t1 : Fin k0_t1_loop.trips) (c0_i32_3905 : BitVec 32) : Fin 2 → Nat :=
  let c0_i32_140 : BitVec 32 := 0#32
  let c1_i32_141 : BitVec 32 := 1#32
  let arg11 : BitVec 32 := Scf.iv c0_i32_140 c1_i32_141 k0_t1
  let c512_i32_3904 : BitVec 32 := 512#32
  let v11205 : BitVec 32 := Scalar.muli arg11 c512_i32_3904
  let v11206 : BitVec 32 := v11205
  let v11207 : BitVec 32 := Scalar.addi v11206 c0_i32_3905
  let v11208 : Index := Scalar.indexCast v11207
  let c768_3906 : Index := 768#32
  ![v11208.toNat, 768]
def k0_mult38 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3907 : BitVec 32 := 512#32
  let v11213 : BitVec 32 := Scalar.muli arg11 c512_i32_3907
  v11213
def k0_off211 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11226 : Index := Scalar.indexCast arg11
  let c0_3911 : Index := 0#32
  let c0_3912 : Index := 0#32
  let c48_3913 : Index := 48#32
  let c0_3914 : Index := 0#32
  ![v11226.toNat, 0, 0, 48, 0]
def k0_off212 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11229 : Index := Scalar.indexCast arg11
  let c0_3915 : Index := 0#32
  let c1_3916 : Index := 1#32
  let c48_3917 : Index := 48#32
  let c0_3918 : Index := 0#32
  ![v11229.toNat, 0, 1, 48, 0]
def k0_off213 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11334 : Index := Scalar.indexCast arg11
  let c0_3948 : Index := 0#32
  let c0_3949 : Index := 0#32
  let c49 : Index := 49#32
  let c0_3950 : Index := 0#32
  ![v11334.toNat, 0, 0, 49, 0]
def k0_off214 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11337 : Index := Scalar.indexCast arg11
  let c0_3951 : Index := 0#32
  let c1_3952 : Index := 1#32
  let c49_3953 : Index := 49#32
  let c0_3954 : Index := 0#32
  ![v11337.toNat, 0, 1, 49, 0]
def k0_off215 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11442 : Index := Scalar.indexCast arg11
  let c0_3984 : Index := 0#32
  let c0_3985 : Index := 0#32
  let c50 : Index := 50#32
  let c0_3986 : Index := 0#32
  ![v11442.toNat, 0, 0, 50, 0]
def k0_off216 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11445 : Index := Scalar.indexCast arg11
  let c0_3987 : Index := 0#32
  let c1_3988 : Index := 1#32
  let c50_3989 : Index := 50#32
  let c0_3990 : Index := 0#32
  ![v11445.toNat, 0, 1, 50, 0]
def k0_off217 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11550 : Index := Scalar.indexCast arg11
  let c0_4020 : Index := 0#32
  let c0_4021 : Index := 0#32
  let c51 : Index := 51#32
  let c0_4022 : Index := 0#32
  ![v11550.toNat, 0, 0, 51, 0]
def k0_off218 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11553 : Index := Scalar.indexCast arg11
  let c0_4023 : Index := 0#32
  let c1_4024 : Index := 1#32
  let c51_4025 : Index := 51#32
  let c0_4026 : Index := 0#32
  ![v11553.toNat, 0, 1, 51, 0]
def k0_off219 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11658 : Index := Scalar.indexCast arg11
  let c0_4056 : Index := 0#32
  let c0_4057 : Index := 0#32
  let c52 : Index := 52#32
  let c0_4058 : Index := 0#32
  ![v11658.toNat, 0, 0, 52, 0]
def k0_off220 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11661 : Index := Scalar.indexCast arg11
  let c0_4059 : Index := 0#32
  let c1_4060 : Index := 1#32
  let c52_4061 : Index := 52#32
  let c0_4062 : Index := 0#32
  ![v11661.toNat, 0, 1, 52, 0]
def k0_off221 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11766 : Index := Scalar.indexCast arg11
  let c0_4092 : Index := 0#32
  let c0_4093 : Index := 0#32
  let c53 : Index := 53#32
  let c0_4094 : Index := 0#32
  ![v11766.toNat, 0, 0, 53, 0]
def k0_off222 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11769 : Index := Scalar.indexCast arg11
  let c0_4095 : Index := 0#32
  let c1_4096 : Index := 1#32
  let c53_4097 : Index := 53#32
  let c0_4098 : Index := 0#32
  ![v11769.toNat, 0, 1, 53, 0]
def k0_off223 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11874 : Index := Scalar.indexCast arg11
  let c0_4128 : Index := 0#32
  let c0_4129 : Index := 0#32
  let c54 : Index := 54#32
  let c0_4130 : Index := 0#32
  ![v11874.toNat, 0, 0, 54, 0]
def k0_off224 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11877 : Index := Scalar.indexCast arg11
  let c0_4131 : Index := 0#32
  let c1_4132 : Index := 1#32
  let c54_4133 : Index := 54#32
  let c0_4134 : Index := 0#32
  ![v11877.toNat, 0, 1, 54, 0]
def k0_off225 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11982 : Index := Scalar.indexCast arg11
  let c0_4164 : Index := 0#32
  let c0_4165 : Index := 0#32
  let c55 : Index := 55#32
  let c0_4166 : Index := 0#32
  ![v11982.toNat, 0, 0, 55, 0]
def k0_off226 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11985 : Index := Scalar.indexCast arg11
  let c0_4167 : Index := 0#32
  let c1_4168 : Index := 1#32
  let c55_4169 : Index := 55#32
  let c0_4170 : Index := 0#32
  ![v11985.toNat, 0, 1, 55, 0]
def k0_mult39 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4200 : BitVec 32 := 512#32
  let v12089 : BitVec 32 := Scalar.muli arg11 c512_i32_4200
  v12089
def k0_off227 (k0_t1 : Fin k0_t1_loop.trips) (c0_i32_4201 : BitVec 32) : Fin 2 → Nat :=
  let c0_i32_140 : BitVec 32 := 0#32
  let c1_i32_141 : BitVec 32 := 1#32
  let arg11 : BitVec 32 := Scf.iv c0_i32_140 c1_i32_141 k0_t1
  let c512_i32_4200 : BitVec 32 := 512#32
  let v12089 : BitVec 32 := Scalar.muli arg11 c512_i32_4200
  let v12090 : BitVec 32 := v12089
  let v12091 : BitVec 32 := Scalar.addi v12090 c0_i32_4201
  let v12092 : Index := Scalar.indexCast v12091
  let c896_4202 : Index := 896#32
  ![v12092.toNat, 896]
def k0_mult40 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4203 : BitVec 32 := 512#32
  let v12097 : BitVec 32 := Scalar.muli arg11 c512_i32_4203
  v12097
def k0_off228 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12110 : Index := Scalar.indexCast arg11
  let c0_4207 : Index := 0#32
  let c0_4208 : Index := 0#32
  let c56 : Index := 56#32
  let c0_4209 : Index := 0#32
  ![v12110.toNat, 0, 0, 56, 0]
def k0_off229 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12113 : Index := Scalar.indexCast arg11
  let c0_4210 : Index := 0#32
  let c1_4211 : Index := 1#32
  let c56_4212 : Index := 56#32
  let c0_4213 : Index := 0#32
  ![v12113.toNat, 0, 1, 56, 0]
def k0_off230 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12218 : Index := Scalar.indexCast arg11
  let c0_4243 : Index := 0#32
  let c0_4244 : Index := 0#32
  let c57 : Index := 57#32
  let c0_4245 : Index := 0#32
  ![v12218.toNat, 0, 0, 57, 0]
def k0_off231 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12221 : Index := Scalar.indexCast arg11
  let c0_4246 : Index := 0#32
  let c1_4247 : Index := 1#32
  let c57_4248 : Index := 57#32
  let c0_4249 : Index := 0#32
  ![v12221.toNat, 0, 1, 57, 0]
def k0_off232 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12326 : Index := Scalar.indexCast arg11
  let c0_4279 : Index := 0#32
  let c0_4280 : Index := 0#32
  let c58 : Index := 58#32
  let c0_4281 : Index := 0#32
  ![v12326.toNat, 0, 0, 58, 0]
def k0_off233 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12329 : Index := Scalar.indexCast arg11
  let c0_4282 : Index := 0#32
  let c1_4283 : Index := 1#32
  let c58_4284 : Index := 58#32
  let c0_4285 : Index := 0#32
  ![v12329.toNat, 0, 1, 58, 0]
def k0_off234 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12434 : Index := Scalar.indexCast arg11
  let c0_4315 : Index := 0#32
  let c0_4316 : Index := 0#32
  let c59 : Index := 59#32
  let c0_4317 : Index := 0#32
  ![v12434.toNat, 0, 0, 59, 0]
def k0_off235 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12437 : Index := Scalar.indexCast arg11
  let c0_4318 : Index := 0#32
  let c1_4319 : Index := 1#32
  let c59_4320 : Index := 59#32
  let c0_4321 : Index := 0#32
  ![v12437.toNat, 0, 1, 59, 0]
def k0_off236 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12542 : Index := Scalar.indexCast arg11
  let c0_4351 : Index := 0#32
  let c0_4352 : Index := 0#32
  let c60 : Index := 60#32
  let c0_4353 : Index := 0#32
  ![v12542.toNat, 0, 0, 60, 0]
def k0_off237 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12545 : Index := Scalar.indexCast arg11
  let c0_4354 : Index := 0#32
  let c1_4355 : Index := 1#32
  let c60_4356 : Index := 60#32
  let c0_4357 : Index := 0#32
  ![v12545.toNat, 0, 1, 60, 0]
def k0_off238 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12650 : Index := Scalar.indexCast arg11
  let c0_4387 : Index := 0#32
  let c0_4388 : Index := 0#32
  let c61 : Index := 61#32
  let c0_4389 : Index := 0#32
  ![v12650.toNat, 0, 0, 61, 0]
def k0_off239 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12653 : Index := Scalar.indexCast arg11
  let c0_4390 : Index := 0#32
  let c1_4391 : Index := 1#32
  let c61_4392 : Index := 61#32
  let c0_4393 : Index := 0#32
  ![v12653.toNat, 0, 1, 61, 0]
def k0_off240 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12758 : Index := Scalar.indexCast arg11
  let c0_4423 : Index := 0#32
  let c0_4424 : Index := 0#32
  let c62 : Index := 62#32
  let c0_4425 : Index := 0#32
  ![v12758.toNat, 0, 0, 62, 0]
def k0_off241 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12761 : Index := Scalar.indexCast arg11
  let c0_4426 : Index := 0#32
  let c1_4427 : Index := 1#32
  let c62_4428 : Index := 62#32
  let c0_4429 : Index := 0#32
  ![v12761.toNat, 0, 1, 62, 0]
def k0_off242 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12866 : Index := Scalar.indexCast arg11
  let c0_4459 : Index := 0#32
  let c0_4460 : Index := 0#32
  let c63 : Index := 63#32
  let c0_4461 : Index := 0#32
  ![v12866.toNat, 0, 0, 63, 0]
def k0_off243 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12869 : Index := Scalar.indexCast arg11
  let c0_4462 : Index := 0#32
  let c1_4463 : Index := 1#32
  let c63_4464 : Index := 63#32
  let c0_4465 : Index := 0#32
  ![v12869.toNat, 0, 1, 63, 0]
def k0_mult41 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4499 : BitVec 32 := 512#32
  let v12989 : BitVec 32 := Scalar.muli arg11 c512_i32_4499
  v12989
def k0_off244 (k0_t1 : Fin k0_t1_loop.trips) (c0_i32_4500 : BitVec 32) : Fin 2 → Nat :=
  let c0_i32_140 : BitVec 32 := 0#32
  let c1_i32_141 : BitVec 32 := 1#32
  let arg11 : BitVec 32 := Scf.iv c0_i32_140 c1_i32_141 k0_t1
  let c512_i32_4499 : BitVec 32 := 512#32
  let v12989 : BitVec 32 := Scalar.muli arg11 c512_i32_4499
  let v12990 : BitVec 32 := v12989
  let v12991 : BitVec 32 := Scalar.addi v12990 c0_i32_4500
  let v12993 : Index := Scalar.indexCast v12991
  let c384_4501 : Index := 384#32
  ![v12993.toNat, 384]
def k0_mult42 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4502 : BitVec 32 := 512#32
  let v12995 : BitVec 32 := Scalar.muli arg11 c512_i32_4502
  v12995
def k0_mult43 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4505 : BitVec 32 := 512#32
  let v13001 : BitVec 32 := Scalar.muli arg11 c512_i32_4505
  v13001
def k0_mult44 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4508 : BitVec 32 := 512#32
  let v13009 : BitVec 32 := Scalar.muli arg11 c512_i32_4508
  v13009
def k0_off245 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13022 : Index := Scalar.indexCast arg11
  let c1_4512 : Index := 1#32
  let c0_4513 : Index := 0#32
  let c48_4514 : Index := 48#32
  let c0_4515 : Index := 0#32
  ![v13022.toNat, 1, 0, 48, 0]
def k0_off246 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13025 : Index := Scalar.indexCast arg11
  let c1_4516 : Index := 1#32
  let c1_4517 : Index := 1#32
  let c48_4518 : Index := 48#32
  let c0_4519 : Index := 0#32
  ![v13025.toNat, 1, 1, 48, 0]
def k0_off247 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13130 : Index := Scalar.indexCast arg11
  let c1_4549 : Index := 1#32
  let c0_4550 : Index := 0#32
  let c49_4551 : Index := 49#32
  let c0_4552 : Index := 0#32
  ![v13130.toNat, 1, 0, 49, 0]
def k0_off248 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13133 : Index := Scalar.indexCast arg11
  let c1_4553 : Index := 1#32
  let c1_4554 : Index := 1#32
  let c49_4555 : Index := 49#32
  let c0_4556 : Index := 0#32
  ![v13133.toNat, 1, 1, 49, 0]
def k0_off249 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13238 : Index := Scalar.indexCast arg11
  let c1_4586 : Index := 1#32
  let c0_4587 : Index := 0#32
  let c50_4588 : Index := 50#32
  let c0_4589 : Index := 0#32
  ![v13238.toNat, 1, 0, 50, 0]
def k0_off250 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13241 : Index := Scalar.indexCast arg11
  let c1_4590 : Index := 1#32
  let c1_4591 : Index := 1#32
  let c50_4592 : Index := 50#32
  let c0_4593 : Index := 0#32
  ![v13241.toNat, 1, 1, 50, 0]
def k0_off251 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13346 : Index := Scalar.indexCast arg11
  let c1_4623 : Index := 1#32
  let c0_4624 : Index := 0#32
  let c51_4625 : Index := 51#32
  let c0_4626 : Index := 0#32
  ![v13346.toNat, 1, 0, 51, 0]
def k0_off252 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13349 : Index := Scalar.indexCast arg11
  let c1_4627 : Index := 1#32
  let c1_4628 : Index := 1#32
  let c51_4629 : Index := 51#32
  let c0_4630 : Index := 0#32
  ![v13349.toNat, 1, 1, 51, 0]
def k0_off253 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13454 : Index := Scalar.indexCast arg11
  let c1_4660 : Index := 1#32
  let c0_4661 : Index := 0#32
  let c52_4662 : Index := 52#32
  let c0_4663 : Index := 0#32
  ![v13454.toNat, 1, 0, 52, 0]
def k0_off254 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13457 : Index := Scalar.indexCast arg11
  let c1_4664 : Index := 1#32
  let c1_4665 : Index := 1#32
  let c52_4666 : Index := 52#32
  let c0_4667 : Index := 0#32
  ![v13457.toNat, 1, 1, 52, 0]
def k0_off255 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13562 : Index := Scalar.indexCast arg11
  let c1_4697 : Index := 1#32
  let c0_4698 : Index := 0#32
  let c53_4699 : Index := 53#32
  let c0_4700 : Index := 0#32
  ![v13562.toNat, 1, 0, 53, 0]
def k0_off256 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13565 : Index := Scalar.indexCast arg11
  let c1_4701 : Index := 1#32
  let c1_4702 : Index := 1#32
  let c53_4703 : Index := 53#32
  let c0_4704 : Index := 0#32
  ![v13565.toNat, 1, 1, 53, 0]
def k0_off257 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13670 : Index := Scalar.indexCast arg11
  let c1_4734 : Index := 1#32
  let c0_4735 : Index := 0#32
  let c54_4736 : Index := 54#32
  let c0_4737 : Index := 0#32
  ![v13670.toNat, 1, 0, 54, 0]
def k0_off258 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13673 : Index := Scalar.indexCast arg11
  let c1_4738 : Index := 1#32
  let c1_4739 : Index := 1#32
  let c54_4740 : Index := 54#32
  let c0_4741 : Index := 0#32
  ![v13673.toNat, 1, 1, 54, 0]
def k0_off259 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13778 : Index := Scalar.indexCast arg11
  let c1_4771 : Index := 1#32
  let c0_4772 : Index := 0#32
  let c55_4773 : Index := 55#32
  let c0_4774 : Index := 0#32
  ![v13778.toNat, 1, 0, 55, 0]
def k0_off260 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13781 : Index := Scalar.indexCast arg11
  let c1_4775 : Index := 1#32
  let c1_4776 : Index := 1#32
  let c55_4777 : Index := 55#32
  let c0_4778 : Index := 0#32
  ![v13781.toNat, 1, 1, 55, 0]
def k0_mult45 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4808 : BitVec 32 := 512#32
  let v13885 : BitVec 32 := Scalar.muli arg11 c512_i32_4808
  v13885
def k0_mult46 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4811 : BitVec 32 := 512#32
  let v13893 : BitVec 32 := Scalar.muli arg11 c512_i32_4811
  v13893
def k0_off261 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13906 : Index := Scalar.indexCast arg11
  let c1_4815 : Index := 1#32
  let c0_4816 : Index := 0#32
  let c56_4817 : Index := 56#32
  let c0_4818 : Index := 0#32
  ![v13906.toNat, 1, 0, 56, 0]
def k0_off262 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13909 : Index := Scalar.indexCast arg11
  let c1_4819 : Index := 1#32
  let c1_4820 : Index := 1#32
  let c56_4821 : Index := 56#32
  let c0_4822 : Index := 0#32
  ![v13909.toNat, 1, 1, 56, 0]
def k0_off263 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14014 : Index := Scalar.indexCast arg11
  let c1_4852 : Index := 1#32
  let c0_4853 : Index := 0#32
  let c57_4854 : Index := 57#32
  let c0_4855 : Index := 0#32
  ![v14014.toNat, 1, 0, 57, 0]
def k0_off264 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14017 : Index := Scalar.indexCast arg11
  let c1_4856 : Index := 1#32
  let c1_4857 : Index := 1#32
  let c57_4858 : Index := 57#32
  let c0_4859 : Index := 0#32
  ![v14017.toNat, 1, 1, 57, 0]
def k0_off265 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14122 : Index := Scalar.indexCast arg11
  let c1_4889 : Index := 1#32
  let c0_4890 : Index := 0#32
  let c58_4891 : Index := 58#32
  let c0_4892 : Index := 0#32
  ![v14122.toNat, 1, 0, 58, 0]
def k0_off266 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14125 : Index := Scalar.indexCast arg11
  let c1_4893 : Index := 1#32
  let c1_4894 : Index := 1#32
  let c58_4895 : Index := 58#32
  let c0_4896 : Index := 0#32
  ![v14125.toNat, 1, 1, 58, 0]
def k0_off267 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14230 : Index := Scalar.indexCast arg11
  let c1_4926 : Index := 1#32
  let c0_4927 : Index := 0#32
  let c59_4928 : Index := 59#32
  let c0_4929 : Index := 0#32
  ![v14230.toNat, 1, 0, 59, 0]
def k0_off268 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14233 : Index := Scalar.indexCast arg11
  let c1_4930 : Index := 1#32
  let c1_4931 : Index := 1#32
  let c59_4932 : Index := 59#32
  let c0_4933 : Index := 0#32
  ![v14233.toNat, 1, 1, 59, 0]
def k0_off269 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14338 : Index := Scalar.indexCast arg11
  let c1_4963 : Index := 1#32
  let c0_4964 : Index := 0#32
  let c60_4965 : Index := 60#32
  let c0_4966 : Index := 0#32
  ![v14338.toNat, 1, 0, 60, 0]
def k0_off270 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14341 : Index := Scalar.indexCast arg11
  let c1_4967 : Index := 1#32
  let c1_4968 : Index := 1#32
  let c60_4969 : Index := 60#32
  let c0_4970 : Index := 0#32
  ![v14341.toNat, 1, 1, 60, 0]
def k0_off271 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14446 : Index := Scalar.indexCast arg11
  let c1_5000 : Index := 1#32
  let c0_5001 : Index := 0#32
  let c61_5002 : Index := 61#32
  let c0_5003 : Index := 0#32
  ![v14446.toNat, 1, 0, 61, 0]
def k0_off272 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14449 : Index := Scalar.indexCast arg11
  let c1_5004 : Index := 1#32
  let c1_5005 : Index := 1#32
  let c61_5006 : Index := 61#32
  let c0_5007 : Index := 0#32
  ![v14449.toNat, 1, 1, 61, 0]
def k0_off273 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14554 : Index := Scalar.indexCast arg11
  let c1_5037 : Index := 1#32
  let c0_5038 : Index := 0#32
  let c62_5039 : Index := 62#32
  let c0_5040 : Index := 0#32
  ![v14554.toNat, 1, 0, 62, 0]
def k0_off274 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14557 : Index := Scalar.indexCast arg11
  let c1_5041 : Index := 1#32
  let c1_5042 : Index := 1#32
  let c62_5043 : Index := 62#32
  let c0_5044 : Index := 0#32
  ![v14557.toNat, 1, 1, 62, 0]
def k0_off275 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14662 : Index := Scalar.indexCast arg11
  let c1_5074 : Index := 1#32
  let c0_5075 : Index := 0#32
  let c63_5076 : Index := 63#32
  let c0_5077 : Index := 0#32
  ![v14662.toNat, 1, 0, 63, 0]
def k0_off276 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14665 : Index := Scalar.indexCast arg11
  let c1_5078 : Index := 1#32
  let c1_5079 : Index := 1#32
  let c63_5080 : Index := 63#32
  let c0_5081 : Index := 0#32
  ![v14665.toNat, 1, 1, 63, 0]
def k0_mult47 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5115 : BitVec 32 := 512#32
  let v14785 : BitVec 32 := Scalar.muli arg11 c512_i32_5115
  v14785
def k0_mult48 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5118 : BitVec 32 := 512#32
  let v14791 : BitVec 32 := Scalar.muli arg11 c512_i32_5118
  v14791
def k0_off277 (k0_t1 : Fin k0_t1_loop.trips) (c0_i32_5122 : BitVec 32) : Fin 4 → Nat :=
  let c128_5123 : Index := 128#32
  let c2_i32_5121 : BitVec 32 := 2#32
  let c0_i32_140 : BitVec 32 := 0#32
  let c1_i32_141 : BitVec 32 := 1#32
  let arg11 : BitVec 32 := Scf.iv c0_i32_140 c1_i32_141 k0_t1
  let v14797 : BitVec 32 := Scalar.muli c2_i32_5121 arg11
  let v14798 : BitVec 32 := Scalar.addi v14797 c0_i32_5122
  let v14799 : Index := Scalar.indexCast v14798
  let c0_5124 : Index := 0#32
  let c0_5125 : Index := 0#32
  ![128, v14799.toNat, 0, 0]
def k0_off278 (k0_t1 : Fin k0_t1_loop.trips) (c0_i32_5138 : BitVec 32) : Fin 4 → Nat :=
  let c144 : Index := 144#32
  let c2_i32_5137 : BitVec 32 := 2#32
  let c0_i32_140 : BitVec 32 := 0#32
  let c1_i32_141 : BitVec 32 := 1#32
  let arg11 : BitVec 32 := Scf.iv c0_i32_140 c1_i32_141 k0_t1
  let v14815 : BitVec 32 := Scalar.muli c2_i32_5137 arg11
  let v14816 : BitVec 32 := Scalar.addi v14815 c0_i32_5138
  let v14817 : Index := Scalar.indexCast v14816
  let c0_5139 : Index := 0#32
  let c0_5140 : Index := 0#32
  ![144, v14817.toNat, 0, 0]
def k0_mult49 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5152 : BitVec 32 := 512#32
  let v14833 : BitVec 32 := Scalar.muli arg11 c512_i32_5152
  v14833
def k0_off279 (k0_t1 : Fin k0_t1_loop.trips) (c0_i32_5153 : BitVec 32) : Fin 2 → Nat :=
  let c0_i32_140 : BitVec 32 := 0#32
  let c1_i32_141 : BitVec 32 := 1#32
  let arg11 : BitVec 32 := Scf.iv c0_i32_140 c1_i32_141 k0_t1
  let c512_i32_5152 : BitVec 32 := 512#32
  let v14833 : BitVec 32 := Scalar.muli arg11 c512_i32_5152
  let v14834 : BitVec 32 := v14833
  let v14835 : BitVec 32 := Scalar.addi v14834 c0_i32_5153
  let v14836 : Index := Scalar.indexCast v14835
  let c1024 : Index := 1024#32
  ![v14836.toNat, 1024]
def k0_mult50 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5154 : BitVec 32 := 512#32
  let v14841 : BitVec 32 := Scalar.muli arg11 c512_i32_5154
  v14841
def k0_off280 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14854 : Index := Scalar.indexCast arg11
  let c0_5158 : Index := 0#32
  let c0_5159 : Index := 0#32
  let c64_5160 : Index := 64#32
  let c0_5161 : Index := 0#32
  ![v14854.toNat, 0, 0, 64, 0]
def k0_off281 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14857 : Index := Scalar.indexCast arg11
  let c0_5162 : Index := 0#32
  let c1_5163 : Index := 1#32
  let c64_5164 : Index := 64#32
  let c0_5165 : Index := 0#32
  ![v14857.toNat, 0, 1, 64, 0]
def k0_off282 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14962 : Index := Scalar.indexCast arg11
  let c0_5195 : Index := 0#32
  let c0_5196 : Index := 0#32
  let c65 : Index := 65#32
  let c0_5197 : Index := 0#32
  ![v14962.toNat, 0, 0, 65, 0]
def k0_off283 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14965 : Index := Scalar.indexCast arg11
  let c0_5198 : Index := 0#32
  let c1_5199 : Index := 1#32
  let c65_5200 : Index := 65#32
  let c0_5201 : Index := 0#32
  ![v14965.toNat, 0, 1, 65, 0]
def k0_off284 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15070 : Index := Scalar.indexCast arg11
  let c0_5231 : Index := 0#32
  let c0_5232 : Index := 0#32
  let c66 : Index := 66#32
  let c0_5233 : Index := 0#32
  ![v15070.toNat, 0, 0, 66, 0]
def k0_off285 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15073 : Index := Scalar.indexCast arg11
  let c0_5234 : Index := 0#32
  let c1_5235 : Index := 1#32
  let c66_5236 : Index := 66#32
  let c0_5237 : Index := 0#32
  ![v15073.toNat, 0, 1, 66, 0]
def k0_off286 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15178 : Index := Scalar.indexCast arg11
  let c0_5267 : Index := 0#32
  let c0_5268 : Index := 0#32
  let c67 : Index := 67#32
  let c0_5269 : Index := 0#32
  ![v15178.toNat, 0, 0, 67, 0]
def k0_off287 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15181 : Index := Scalar.indexCast arg11
  let c0_5270 : Index := 0#32
  let c1_5271 : Index := 1#32
  let c67_5272 : Index := 67#32
  let c0_5273 : Index := 0#32
  ![v15181.toNat, 0, 1, 67, 0]
def k0_off288 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15286 : Index := Scalar.indexCast arg11
  let c0_5303 : Index := 0#32
  let c0_5304 : Index := 0#32
  let c68 : Index := 68#32
  let c0_5305 : Index := 0#32
  ![v15286.toNat, 0, 0, 68, 0]
def k0_off289 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15289 : Index := Scalar.indexCast arg11
  let c0_5306 : Index := 0#32
  let c1_5307 : Index := 1#32
  let c68_5308 : Index := 68#32
  let c0_5309 : Index := 0#32
  ![v15289.toNat, 0, 1, 68, 0]
def k0_off290 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15394 : Index := Scalar.indexCast arg11
  let c0_5339 : Index := 0#32
  let c0_5340 : Index := 0#32
  let c69 : Index := 69#32
  let c0_5341 : Index := 0#32
  ![v15394.toNat, 0, 0, 69, 0]
def k0_off291 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15397 : Index := Scalar.indexCast arg11
  let c0_5342 : Index := 0#32
  let c1_5343 : Index := 1#32
  let c69_5344 : Index := 69#32
  let c0_5345 : Index := 0#32
  ![v15397.toNat, 0, 1, 69, 0]
def k0_off292 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15502 : Index := Scalar.indexCast arg11
  let c0_5375 : Index := 0#32
  let c0_5376 : Index := 0#32
  let c70 : Index := 70#32
  let c0_5377 : Index := 0#32
  ![v15502.toNat, 0, 0, 70, 0]
def k0_off293 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15505 : Index := Scalar.indexCast arg11
  let c0_5378 : Index := 0#32
  let c1_5379 : Index := 1#32
  let c70_5380 : Index := 70#32
  let c0_5381 : Index := 0#32
  ![v15505.toNat, 0, 1, 70, 0]
def k0_off294 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15610 : Index := Scalar.indexCast arg11
  let c0_5411 : Index := 0#32
  let c0_5412 : Index := 0#32
  let c71 : Index := 71#32
  let c0_5413 : Index := 0#32
  ![v15610.toNat, 0, 0, 71, 0]
def k0_off295 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15613 : Index := Scalar.indexCast arg11
  let c0_5414 : Index := 0#32
  let c1_5415 : Index := 1#32
  let c71_5416 : Index := 71#32
  let c0_5417 : Index := 0#32
  ![v15613.toNat, 0, 1, 71, 0]
def k0_mult51 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5447 : BitVec 32 := 512#32
  let v15717 : BitVec 32 := Scalar.muli arg11 c512_i32_5447
  v15717
def k0_off296 (k0_t1 : Fin k0_t1_loop.trips) (c0_i32_5448 : BitVec 32) : Fin 2 → Nat :=
  let c0_i32_140 : BitVec 32 := 0#32
  let c1_i32_141 : BitVec 32 := 1#32
  let arg11 : BitVec 32 := Scf.iv c0_i32_140 c1_i32_141 k0_t1
  let c512_i32_5447 : BitVec 32 := 512#32
  let v15717 : BitVec 32 := Scalar.muli arg11 c512_i32_5447
  let v15718 : BitVec 32 := v15717
  let v15719 : BitVec 32 := Scalar.addi v15718 c0_i32_5448
  let v15720 : Index := Scalar.indexCast v15719
  let c1152 : Index := 1152#32
  ![v15720.toNat, 1152]
def k0_mult52 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5449 : BitVec 32 := 512#32
  let v15725 : BitVec 32 := Scalar.muli arg11 c512_i32_5449
  v15725
def k0_off297 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15738 : Index := Scalar.indexCast arg11
  let c0_5453 : Index := 0#32
  let c0_5454 : Index := 0#32
  let c72 : Index := 72#32
  let c0_5455 : Index := 0#32
  ![v15738.toNat, 0, 0, 72, 0]
def k0_off298 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15741 : Index := Scalar.indexCast arg11
  let c0_5456 : Index := 0#32
  let c1_5457 : Index := 1#32
  let c72_5458 : Index := 72#32
  let c0_5459 : Index := 0#32
  ![v15741.toNat, 0, 1, 72, 0]
def k0_off299 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15846 : Index := Scalar.indexCast arg11
  let c0_5489 : Index := 0#32
  let c0_5490 : Index := 0#32
  let c73 : Index := 73#32
  let c0_5491 : Index := 0#32
  ![v15846.toNat, 0, 0, 73, 0]
def k0_off300 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15849 : Index := Scalar.indexCast arg11
  let c0_5492 : Index := 0#32
  let c1_5493 : Index := 1#32
  let c73_5494 : Index := 73#32
  let c0_5495 : Index := 0#32
  ![v15849.toNat, 0, 1, 73, 0]
def k0_off301 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15954 : Index := Scalar.indexCast arg11
  let c0_5525 : Index := 0#32
  let c0_5526 : Index := 0#32
  let c74 : Index := 74#32
  let c0_5527 : Index := 0#32
  ![v15954.toNat, 0, 0, 74, 0]
def k0_off302 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15957 : Index := Scalar.indexCast arg11
  let c0_5528 : Index := 0#32
  let c1_5529 : Index := 1#32
  let c74_5530 : Index := 74#32
  let c0_5531 : Index := 0#32
  ![v15957.toNat, 0, 1, 74, 0]
def k0_off303 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16062 : Index := Scalar.indexCast arg11
  let c0_5561 : Index := 0#32
  let c0_5562 : Index := 0#32
  let c75 : Index := 75#32
  let c0_5563 : Index := 0#32
  ![v16062.toNat, 0, 0, 75, 0]
def k0_off304 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16065 : Index := Scalar.indexCast arg11
  let c0_5564 : Index := 0#32
  let c1_5565 : Index := 1#32
  let c75_5566 : Index := 75#32
  let c0_5567 : Index := 0#32
  ![v16065.toNat, 0, 1, 75, 0]
def k0_off305 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16170 : Index := Scalar.indexCast arg11
  let c0_5597 : Index := 0#32
  let c0_5598 : Index := 0#32
  let c76 : Index := 76#32
  let c0_5599 : Index := 0#32
  ![v16170.toNat, 0, 0, 76, 0]
def k0_off306 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16173 : Index := Scalar.indexCast arg11
  let c0_5600 : Index := 0#32
  let c1_5601 : Index := 1#32
  let c76_5602 : Index := 76#32
  let c0_5603 : Index := 0#32
  ![v16173.toNat, 0, 1, 76, 0]
def k0_off307 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16278 : Index := Scalar.indexCast arg11
  let c0_5633 : Index := 0#32
  let c0_5634 : Index := 0#32
  let c77 : Index := 77#32
  let c0_5635 : Index := 0#32
  ![v16278.toNat, 0, 0, 77, 0]
def k0_off308 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16281 : Index := Scalar.indexCast arg11
  let c0_5636 : Index := 0#32
  let c1_5637 : Index := 1#32
  let c77_5638 : Index := 77#32
  let c0_5639 : Index := 0#32
  ![v16281.toNat, 0, 1, 77, 0]
def k0_off309 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16386 : Index := Scalar.indexCast arg11
  let c0_5669 : Index := 0#32
  let c0_5670 : Index := 0#32
  let c78 : Index := 78#32
  let c0_5671 : Index := 0#32
  ![v16386.toNat, 0, 0, 78, 0]
def k0_off310 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16389 : Index := Scalar.indexCast arg11
  let c0_5672 : Index := 0#32
  let c1_5673 : Index := 1#32
  let c78_5674 : Index := 78#32
  let c0_5675 : Index := 0#32
  ![v16389.toNat, 0, 1, 78, 0]
def k0_off311 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16494 : Index := Scalar.indexCast arg11
  let c0_5705 : Index := 0#32
  let c0_5706 : Index := 0#32
  let c79 : Index := 79#32
  let c0_5707 : Index := 0#32
  ![v16494.toNat, 0, 0, 79, 0]
def k0_off312 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16497 : Index := Scalar.indexCast arg11
  let c0_5708 : Index := 0#32
  let c1_5709 : Index := 1#32
  let c79_5710 : Index := 79#32
  let c0_5711 : Index := 0#32
  ![v16497.toNat, 0, 1, 79, 0]
def k0_mult53 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5745 : BitVec 32 := 512#32
  let v16617 : BitVec 32 := Scalar.muli arg11 c512_i32_5745
  v16617
def k0_off313 (k0_t1 : Fin k0_t1_loop.trips) (c0_i32_5746 : BitVec 32) : Fin 2 → Nat :=
  let c0_i32_140 : BitVec 32 := 0#32
  let c1_i32_141 : BitVec 32 := 1#32
  let arg11 : BitVec 32 := Scf.iv c0_i32_140 c1_i32_141 k0_t1
  let c512_i32_5745 : BitVec 32 := 512#32
  let v16617 : BitVec 32 := Scalar.muli arg11 c512_i32_5745
  let v16618 : BitVec 32 := v16617
  let v16619 : BitVec 32 := Scalar.addi v16618 c0_i32_5746
  let v16621 : Index := Scalar.indexCast v16619
  let c512_5747 : Index := 512#32
  ![v16621.toNat, 512]
def k0_mult54 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5748 : BitVec 32 := 512#32
  let v16623 : BitVec 32 := Scalar.muli arg11 c512_i32_5748
  v16623
def k0_mult55 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5751 : BitVec 32 := 512#32
  let v16629 : BitVec 32 := Scalar.muli arg11 c512_i32_5751
  v16629
def k0_mult56 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5754 : BitVec 32 := 512#32
  let v16637 : BitVec 32 := Scalar.muli arg11 c512_i32_5754
  v16637
def k0_off314 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16650 : Index := Scalar.indexCast arg11
  let c1_5758 : Index := 1#32
  let c0_5759 : Index := 0#32
  let c64_5760 : Index := 64#32
  let c0_5761 : Index := 0#32
  ![v16650.toNat, 1, 0, 64, 0]
def k0_off315 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16653 : Index := Scalar.indexCast arg11
  let c1_5762 : Index := 1#32
  let c1_5763 : Index := 1#32
  let c64_5764 : Index := 64#32
  let c0_5765 : Index := 0#32
  ![v16653.toNat, 1, 1, 64, 0]
def k0_off316 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16758 : Index := Scalar.indexCast arg11
  let c1_5795 : Index := 1#32
  let c0_5796 : Index := 0#32
  let c65_5797 : Index := 65#32
  let c0_5798 : Index := 0#32
  ![v16758.toNat, 1, 0, 65, 0]
def k0_off317 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16761 : Index := Scalar.indexCast arg11
  let c1_5799 : Index := 1#32
  let c1_5800 : Index := 1#32
  let c65_5801 : Index := 65#32
  let c0_5802 : Index := 0#32
  ![v16761.toNat, 1, 1, 65, 0]
def k0_off318 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16866 : Index := Scalar.indexCast arg11
  let c1_5832 : Index := 1#32
  let c0_5833 : Index := 0#32
  let c66_5834 : Index := 66#32
  let c0_5835 : Index := 0#32
  ![v16866.toNat, 1, 0, 66, 0]
def k0_off319 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16869 : Index := Scalar.indexCast arg11
  let c1_5836 : Index := 1#32
  let c1_5837 : Index := 1#32
  let c66_5838 : Index := 66#32
  let c0_5839 : Index := 0#32
  ![v16869.toNat, 1, 1, 66, 0]
def k0_off320 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16974 : Index := Scalar.indexCast arg11
  let c1_5869 : Index := 1#32
  let c0_5870 : Index := 0#32
  let c67_5871 : Index := 67#32
  let c0_5872 : Index := 0#32
  ![v16974.toNat, 1, 0, 67, 0]
def k0_off321 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16977 : Index := Scalar.indexCast arg11
  let c1_5873 : Index := 1#32
  let c1_5874 : Index := 1#32
  let c67_5875 : Index := 67#32
  let c0_5876 : Index := 0#32
  ![v16977.toNat, 1, 1, 67, 0]
def k0_off322 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17082 : Index := Scalar.indexCast arg11
  let c1_5906 : Index := 1#32
  let c0_5907 : Index := 0#32
  let c68_5908 : Index := 68#32
  let c0_5909 : Index := 0#32
  ![v17082.toNat, 1, 0, 68, 0]
def k0_off323 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17085 : Index := Scalar.indexCast arg11
  let c1_5910 : Index := 1#32
  let c1_5911 : Index := 1#32
  let c68_5912 : Index := 68#32
  let c0_5913 : Index := 0#32
  ![v17085.toNat, 1, 1, 68, 0]
def k0_off324 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17190 : Index := Scalar.indexCast arg11
  let c1_5943 : Index := 1#32
  let c0_5944 : Index := 0#32
  let c69_5945 : Index := 69#32
  let c0_5946 : Index := 0#32
  ![v17190.toNat, 1, 0, 69, 0]
def k0_off325 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17193 : Index := Scalar.indexCast arg11
  let c1_5947 : Index := 1#32
  let c1_5948 : Index := 1#32
  let c69_5949 : Index := 69#32
  let c0_5950 : Index := 0#32
  ![v17193.toNat, 1, 1, 69, 0]
def k0_off326 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17298 : Index := Scalar.indexCast arg11
  let c1_5980 : Index := 1#32
  let c0_5981 : Index := 0#32
  let c70_5982 : Index := 70#32
  let c0_5983 : Index := 0#32
  ![v17298.toNat, 1, 0, 70, 0]
def k0_off327 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17301 : Index := Scalar.indexCast arg11
  let c1_5984 : Index := 1#32
  let c1_5985 : Index := 1#32
  let c70_5986 : Index := 70#32
  let c0_5987 : Index := 0#32
  ![v17301.toNat, 1, 1, 70, 0]
def k0_off328 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17406 : Index := Scalar.indexCast arg11
  let c1_6017 : Index := 1#32
  let c0_6018 : Index := 0#32
  let c71_6019 : Index := 71#32
  let c0_6020 : Index := 0#32
  ![v17406.toNat, 1, 0, 71, 0]
def k0_off329 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17409 : Index := Scalar.indexCast arg11
  let c1_6021 : Index := 1#32
  let c1_6022 : Index := 1#32
  let c71_6023 : Index := 71#32
  let c0_6024 : Index := 0#32
  ![v17409.toNat, 1, 1, 71, 0]
def k0_mult57 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6054 : BitVec 32 := 512#32
  let v17513 : BitVec 32 := Scalar.muli arg11 c512_i32_6054
  v17513
def k0_mult58 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6057 : BitVec 32 := 512#32
  let v17521 : BitVec 32 := Scalar.muli arg11 c512_i32_6057
  v17521
def k0_off330 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17534 : Index := Scalar.indexCast arg11
  let c1_6061 : Index := 1#32
  let c0_6062 : Index := 0#32
  let c72_6063 : Index := 72#32
  let c0_6064 : Index := 0#32
  ![v17534.toNat, 1, 0, 72, 0]
def k0_off331 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17537 : Index := Scalar.indexCast arg11
  let c1_6065 : Index := 1#32
  let c1_6066 : Index := 1#32
  let c72_6067 : Index := 72#32
  let c0_6068 : Index := 0#32
  ![v17537.toNat, 1, 1, 72, 0]
def k0_off332 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17642 : Index := Scalar.indexCast arg11
  let c1_6098 : Index := 1#32
  let c0_6099 : Index := 0#32
  let c73_6100 : Index := 73#32
  let c0_6101 : Index := 0#32
  ![v17642.toNat, 1, 0, 73, 0]
def k0_off333 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17645 : Index := Scalar.indexCast arg11
  let c1_6102 : Index := 1#32
  let c1_6103 : Index := 1#32
  let c73_6104 : Index := 73#32
  let c0_6105 : Index := 0#32
  ![v17645.toNat, 1, 1, 73, 0]
def k0_off334 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17750 : Index := Scalar.indexCast arg11
  let c1_6135 : Index := 1#32
  let c0_6136 : Index := 0#32
  let c74_6137 : Index := 74#32
  let c0_6138 : Index := 0#32
  ![v17750.toNat, 1, 0, 74, 0]
def k0_off335 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17753 : Index := Scalar.indexCast arg11
  let c1_6139 : Index := 1#32
  let c1_6140 : Index := 1#32
  let c74_6141 : Index := 74#32
  let c0_6142 : Index := 0#32
  ![v17753.toNat, 1, 1, 74, 0]
def k0_off336 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17858 : Index := Scalar.indexCast arg11
  let c1_6172 : Index := 1#32
  let c0_6173 : Index := 0#32
  let c75_6174 : Index := 75#32
  let c0_6175 : Index := 0#32
  ![v17858.toNat, 1, 0, 75, 0]
def k0_off337 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17861 : Index := Scalar.indexCast arg11
  let c1_6176 : Index := 1#32
  let c1_6177 : Index := 1#32
  let c75_6178 : Index := 75#32
  let c0_6179 : Index := 0#32
  ![v17861.toNat, 1, 1, 75, 0]
def k0_off338 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17966 : Index := Scalar.indexCast arg11
  let c1_6209 : Index := 1#32
  let c0_6210 : Index := 0#32
  let c76_6211 : Index := 76#32
  let c0_6212 : Index := 0#32
  ![v17966.toNat, 1, 0, 76, 0]
def k0_off339 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17969 : Index := Scalar.indexCast arg11
  let c1_6213 : Index := 1#32
  let c1_6214 : Index := 1#32
  let c76_6215 : Index := 76#32
  let c0_6216 : Index := 0#32
  ![v17969.toNat, 1, 1, 76, 0]
def k0_off340 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18074 : Index := Scalar.indexCast arg11
  let c1_6246 : Index := 1#32
  let c0_6247 : Index := 0#32
  let c77_6248 : Index := 77#32
  let c0_6249 : Index := 0#32
  ![v18074.toNat, 1, 0, 77, 0]
def k0_off341 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18077 : Index := Scalar.indexCast arg11
  let c1_6250 : Index := 1#32
  let c1_6251 : Index := 1#32
  let c77_6252 : Index := 77#32
  let c0_6253 : Index := 0#32
  ![v18077.toNat, 1, 1, 77, 0]
def k0_off342 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18182 : Index := Scalar.indexCast arg11
  let c1_6283 : Index := 1#32
  let c0_6284 : Index := 0#32
  let c78_6285 : Index := 78#32
  let c0_6286 : Index := 0#32
  ![v18182.toNat, 1, 0, 78, 0]
def k0_off343 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18185 : Index := Scalar.indexCast arg11
  let c1_6287 : Index := 1#32
  let c1_6288 : Index := 1#32
  let c78_6289 : Index := 78#32
  let c0_6290 : Index := 0#32
  ![v18185.toNat, 1, 1, 78, 0]
def k0_off344 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18290 : Index := Scalar.indexCast arg11
  let c1_6320 : Index := 1#32
  let c0_6321 : Index := 0#32
  let c79_6322 : Index := 79#32
  let c0_6323 : Index := 0#32
  ![v18290.toNat, 1, 0, 79, 0]
def k0_off345 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18293 : Index := Scalar.indexCast arg11
  let c1_6324 : Index := 1#32
  let c1_6325 : Index := 1#32
  let c79_6326 : Index := 79#32
  let c0_6327 : Index := 0#32
  ![v18293.toNat, 1, 1, 79, 0]
def k0_mult59 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6361 : BitVec 32 := 512#32
  let v18413 : BitVec 32 := Scalar.muli arg11 c512_i32_6361
  v18413
def k0_mult60 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6364 : BitVec 32 := 512#32
  let v18419 : BitVec 32 := Scalar.muli arg11 c512_i32_6364
  v18419
def k0_off346 (k0_t1 : Fin k0_t1_loop.trips) (c0_i32_6368 : BitVec 32) : Fin 4 → Nat :=
  let c160 : Index := 160#32
  let c2_i32_6367 : BitVec 32 := 2#32
  let c0_i32_140 : BitVec 32 := 0#32
  let c1_i32_141 : BitVec 32 := 1#32
  let arg11 : BitVec 32 := Scf.iv c0_i32_140 c1_i32_141 k0_t1
  let v18425 : BitVec 32 := Scalar.muli c2_i32_6367 arg11
  let v18426 : BitVec 32 := Scalar.addi v18425 c0_i32_6368
  let v18427 : Index := Scalar.indexCast v18426
  let c0_6369 : Index := 0#32
  let c0_6370 : Index := 0#32
  ![160, v18427.toNat, 0, 0]
def k0_off347 (k0_t1 : Fin k0_t1_loop.trips) (c0_i32_6383 : BitVec 32) : Fin 4 → Nat :=
  let c176 : Index := 176#32
  let c2_i32_6382 : BitVec 32 := 2#32
  let c0_i32_140 : BitVec 32 := 0#32
  let c1_i32_141 : BitVec 32 := 1#32
  let arg11 : BitVec 32 := Scf.iv c0_i32_140 c1_i32_141 k0_t1
  let v18443 : BitVec 32 := Scalar.muli c2_i32_6382 arg11
  let v18444 : BitVec 32 := Scalar.addi v18443 c0_i32_6383
  let v18445 : Index := Scalar.indexCast v18444
  let c0_6384 : Index := 0#32
  let c0_6385 : Index := 0#32
  ![176, v18445.toNat, 0, 0]
def k0_mult61 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6397 : BitVec 32 := 512#32
  let v18461 : BitVec 32 := Scalar.muli arg11 c512_i32_6397
  v18461
def k0_off348 (k0_t1 : Fin k0_t1_loop.trips) (c0_i32_6398 : BitVec 32) : Fin 2 → Nat :=
  let c0_i32_140 : BitVec 32 := 0#32
  let c1_i32_141 : BitVec 32 := 1#32
  let arg11 : BitVec 32 := Scf.iv c0_i32_140 c1_i32_141 k0_t1
  let c512_i32_6397 : BitVec 32 := 512#32
  let v18461 : BitVec 32 := Scalar.muli arg11 c512_i32_6397
  let v18462 : BitVec 32 := v18461
  let v18463 : BitVec 32 := Scalar.addi v18462 c0_i32_6398
  let v18464 : Index := Scalar.indexCast v18463
  let c1280 : Index := 1280#32
  ![v18464.toNat, 1280]
def k0_mult62 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6399 : BitVec 32 := 512#32
  let v18469 : BitVec 32 := Scalar.muli arg11 c512_i32_6399
  v18469
def k0_off349 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18482 : Index := Scalar.indexCast arg11
  let c0_6403 : Index := 0#32
  let c0_6404 : Index := 0#32
  let c80_6405 : Index := 80#32
  let c0_6406 : Index := 0#32
  ![v18482.toNat, 0, 0, 80, 0]
def k0_off350 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18485 : Index := Scalar.indexCast arg11
  let c0_6407 : Index := 0#32
  let c1_6408 : Index := 1#32
  let c80_6409 : Index := 80#32
  let c0_6410 : Index := 0#32
  ![v18485.toNat, 0, 1, 80, 0]
def k0_off351 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18590 : Index := Scalar.indexCast arg11
  let c0_6440 : Index := 0#32
  let c0_6441 : Index := 0#32
  let c81 : Index := 81#32
  let c0_6442 : Index := 0#32
  ![v18590.toNat, 0, 0, 81, 0]
def k0_off352 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18593 : Index := Scalar.indexCast arg11
  let c0_6443 : Index := 0#32
  let c1_6444 : Index := 1#32
  let c81_6445 : Index := 81#32
  let c0_6446 : Index := 0#32
  ![v18593.toNat, 0, 1, 81, 0]
def k0_off353 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18698 : Index := Scalar.indexCast arg11
  let c0_6476 : Index := 0#32
  let c0_6477 : Index := 0#32
  let c82 : Index := 82#32
  let c0_6478 : Index := 0#32
  ![v18698.toNat, 0, 0, 82, 0]
def k0_off354 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18701 : Index := Scalar.indexCast arg11
  let c0_6479 : Index := 0#32
  let c1_6480 : Index := 1#32
  let c82_6481 : Index := 82#32
  let c0_6482 : Index := 0#32
  ![v18701.toNat, 0, 1, 82, 0]
def k0_off355 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18806 : Index := Scalar.indexCast arg11
  let c0_6512 : Index := 0#32
  let c0_6513 : Index := 0#32
  let c83 : Index := 83#32
  let c0_6514 : Index := 0#32
  ![v18806.toNat, 0, 0, 83, 0]
def k0_off356 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18809 : Index := Scalar.indexCast arg11
  let c0_6515 : Index := 0#32
  let c1_6516 : Index := 1#32
  let c83_6517 : Index := 83#32
  let c0_6518 : Index := 0#32
  ![v18809.toNat, 0, 1, 83, 0]
def k0_off357 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18914 : Index := Scalar.indexCast arg11
  let c0_6548 : Index := 0#32
  let c0_6549 : Index := 0#32
  let c84 : Index := 84#32
  let c0_6550 : Index := 0#32
  ![v18914.toNat, 0, 0, 84, 0]
def k0_off358 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18917 : Index := Scalar.indexCast arg11
  let c0_6551 : Index := 0#32
  let c1_6552 : Index := 1#32
  let c84_6553 : Index := 84#32
  let c0_6554 : Index := 0#32
  ![v18917.toNat, 0, 1, 84, 0]
def k0_off359 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19022 : Index := Scalar.indexCast arg11
  let c0_6584 : Index := 0#32
  let c0_6585 : Index := 0#32
  let c85 : Index := 85#32
  let c0_6586 : Index := 0#32
  ![v19022.toNat, 0, 0, 85, 0]
def k0_off360 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19025 : Index := Scalar.indexCast arg11
  let c0_6587 : Index := 0#32
  let c1_6588 : Index := 1#32
  let c85_6589 : Index := 85#32
  let c0_6590 : Index := 0#32
  ![v19025.toNat, 0, 1, 85, 0]
def k0_off361 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19130 : Index := Scalar.indexCast arg11
  let c0_6620 : Index := 0#32
  let c0_6621 : Index := 0#32
  let c86 : Index := 86#32
  let c0_6622 : Index := 0#32
  ![v19130.toNat, 0, 0, 86, 0]
def k0_off362 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19133 : Index := Scalar.indexCast arg11
  let c0_6623 : Index := 0#32
  let c1_6624 : Index := 1#32
  let c86_6625 : Index := 86#32
  let c0_6626 : Index := 0#32
  ![v19133.toNat, 0, 1, 86, 0]
def k0_off363 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19238 : Index := Scalar.indexCast arg11
  let c0_6656 : Index := 0#32
  let c0_6657 : Index := 0#32
  let c87 : Index := 87#32
  let c0_6658 : Index := 0#32
  ![v19238.toNat, 0, 0, 87, 0]
def k0_off364 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19241 : Index := Scalar.indexCast arg11
  let c0_6659 : Index := 0#32
  let c1_6660 : Index := 1#32
  let c87_6661 : Index := 87#32
  let c0_6662 : Index := 0#32
  ![v19241.toNat, 0, 1, 87, 0]
def k0_mult63 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6692 : BitVec 32 := 512#32
  let v19345 : BitVec 32 := Scalar.muli arg11 c512_i32_6692
  v19345
def k0_off365 (k0_t1 : Fin k0_t1_loop.trips) (c0_i32_6693 : BitVec 32) : Fin 2 → Nat :=
  let c0_i32_140 : BitVec 32 := 0#32
  let c1_i32_141 : BitVec 32 := 1#32
  let arg11 : BitVec 32 := Scf.iv c0_i32_140 c1_i32_141 k0_t1
  let c512_i32_6692 : BitVec 32 := 512#32
  let v19345 : BitVec 32 := Scalar.muli arg11 c512_i32_6692
  let v19346 : BitVec 32 := v19345
  let v19347 : BitVec 32 := Scalar.addi v19346 c0_i32_6693
  let v19348 : Index := Scalar.indexCast v19347
  let c1408 : Index := 1408#32
  ![v19348.toNat, 1408]
def k0_mult64 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6694 : BitVec 32 := 512#32
  let v19353 : BitVec 32 := Scalar.muli arg11 c512_i32_6694
  v19353
def k0_off366 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19366 : Index := Scalar.indexCast arg11
  let c0_6698 : Index := 0#32
  let c0_6699 : Index := 0#32
  let c88 : Index := 88#32
  let c0_6700 : Index := 0#32
  ![v19366.toNat, 0, 0, 88, 0]
def k0_off367 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19369 : Index := Scalar.indexCast arg11
  let c0_6701 : Index := 0#32
  let c1_6702 : Index := 1#32
  let c88_6703 : Index := 88#32
  let c0_6704 : Index := 0#32
  ![v19369.toNat, 0, 1, 88, 0]
def k0_off368 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19474 : Index := Scalar.indexCast arg11
  let c0_6734 : Index := 0#32
  let c0_6735 : Index := 0#32
  let c89 : Index := 89#32
  let c0_6736 : Index := 0#32
  ![v19474.toNat, 0, 0, 89, 0]
def k0_off369 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19477 : Index := Scalar.indexCast arg11
  let c0_6737 : Index := 0#32
  let c1_6738 : Index := 1#32
  let c89_6739 : Index := 89#32
  let c0_6740 : Index := 0#32
  ![v19477.toNat, 0, 1, 89, 0]
def k0_off370 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19582 : Index := Scalar.indexCast arg11
  let c0_6770 : Index := 0#32
  let c0_6771 : Index := 0#32
  let c90 : Index := 90#32
  let c0_6772 : Index := 0#32
  ![v19582.toNat, 0, 0, 90, 0]
def k0_off371 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19585 : Index := Scalar.indexCast arg11
  let c0_6773 : Index := 0#32
  let c1_6774 : Index := 1#32
  let c90_6775 : Index := 90#32
  let c0_6776 : Index := 0#32
  ![v19585.toNat, 0, 1, 90, 0]
def k0_off372 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19690 : Index := Scalar.indexCast arg11
  let c0_6806 : Index := 0#32
  let c0_6807 : Index := 0#32
  let c91 : Index := 91#32
  let c0_6808 : Index := 0#32
  ![v19690.toNat, 0, 0, 91, 0]
def k0_off373 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19693 : Index := Scalar.indexCast arg11
  let c0_6809 : Index := 0#32
  let c1_6810 : Index := 1#32
  let c91_6811 : Index := 91#32
  let c0_6812 : Index := 0#32
  ![v19693.toNat, 0, 1, 91, 0]
def k0_off374 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19798 : Index := Scalar.indexCast arg11
  let c0_6842 : Index := 0#32
  let c0_6843 : Index := 0#32
  let c92 : Index := 92#32
  let c0_6844 : Index := 0#32
  ![v19798.toNat, 0, 0, 92, 0]
def k0_off375 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19801 : Index := Scalar.indexCast arg11
  let c0_6845 : Index := 0#32
  let c1_6846 : Index := 1#32
  let c92_6847 : Index := 92#32
  let c0_6848 : Index := 0#32
  ![v19801.toNat, 0, 1, 92, 0]
def k0_off376 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19906 : Index := Scalar.indexCast arg11
  let c0_6878 : Index := 0#32
  let c0_6879 : Index := 0#32
  let c93 : Index := 93#32
  let c0_6880 : Index := 0#32
  ![v19906.toNat, 0, 0, 93, 0]
def k0_off377 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19909 : Index := Scalar.indexCast arg11
  let c0_6881 : Index := 0#32
  let c1_6882 : Index := 1#32
  let c93_6883 : Index := 93#32
  let c0_6884 : Index := 0#32
  ![v19909.toNat, 0, 1, 93, 0]
def k0_off378 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20014 : Index := Scalar.indexCast arg11
  let c0_6914 : Index := 0#32
  let c0_6915 : Index := 0#32
  let c94 : Index := 94#32
  let c0_6916 : Index := 0#32
  ![v20014.toNat, 0, 0, 94, 0]
def k0_off379 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20017 : Index := Scalar.indexCast arg11
  let c0_6917 : Index := 0#32
  let c1_6918 : Index := 1#32
  let c94_6919 : Index := 94#32
  let c0_6920 : Index := 0#32
  ![v20017.toNat, 0, 1, 94, 0]
def k0_off380 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20122 : Index := Scalar.indexCast arg11
  let c0_6950 : Index := 0#32
  let c0_6951 : Index := 0#32
  let c95 : Index := 95#32
  let c0_6952 : Index := 0#32
  ![v20122.toNat, 0, 0, 95, 0]
def k0_off381 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20125 : Index := Scalar.indexCast arg11
  let c0_6953 : Index := 0#32
  let c1_6954 : Index := 1#32
  let c95_6955 : Index := 95#32
  let c0_6956 : Index := 0#32
  ![v20125.toNat, 0, 1, 95, 0]
def k0_mult65 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6990 : BitVec 32 := 512#32
  let v20245 : BitVec 32 := Scalar.muli arg11 c512_i32_6990
  v20245
def k0_off382 (k0_t1 : Fin k0_t1_loop.trips) (c0_i32_6991 : BitVec 32) : Fin 2 → Nat :=
  let c0_i32_140 : BitVec 32 := 0#32
  let c1_i32_141 : BitVec 32 := 1#32
  let arg11 : BitVec 32 := Scf.iv c0_i32_140 c1_i32_141 k0_t1
  let c512_i32_6990 : BitVec 32 := 512#32
  let v20245 : BitVec 32 := Scalar.muli arg11 c512_i32_6990
  let v20246 : BitVec 32 := v20245
  let v20247 : BitVec 32 := Scalar.addi v20246 c0_i32_6991
  let v20249 : Index := Scalar.indexCast v20247
  let c640_6992 : Index := 640#32
  ![v20249.toNat, 640]
def k0_mult66 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6993 : BitVec 32 := 512#32
  let v20251 : BitVec 32 := Scalar.muli arg11 c512_i32_6993
  v20251
def k0_mult67 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6996 : BitVec 32 := 512#32
  let v20257 : BitVec 32 := Scalar.muli arg11 c512_i32_6996
  v20257
def k0_mult68 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6999 : BitVec 32 := 512#32
  let v20265 : BitVec 32 := Scalar.muli arg11 c512_i32_6999
  v20265
def k0_off383 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20278 : Index := Scalar.indexCast arg11
  let c1_7003 : Index := 1#32
  let c0_7004 : Index := 0#32
  let c80_7005 : Index := 80#32
  let c0_7006 : Index := 0#32
  ![v20278.toNat, 1, 0, 80, 0]
def k0_off384 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20281 : Index := Scalar.indexCast arg11
  let c1_7007 : Index := 1#32
  let c1_7008 : Index := 1#32
  let c80_7009 : Index := 80#32
  let c0_7010 : Index := 0#32
  ![v20281.toNat, 1, 1, 80, 0]
def k0_off385 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20386 : Index := Scalar.indexCast arg11
  let c1_7040 : Index := 1#32
  let c0_7041 : Index := 0#32
  let c81_7042 : Index := 81#32
  let c0_7043 : Index := 0#32
  ![v20386.toNat, 1, 0, 81, 0]
def k0_off386 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20389 : Index := Scalar.indexCast arg11
  let c1_7044 : Index := 1#32
  let c1_7045 : Index := 1#32
  let c81_7046 : Index := 81#32
  let c0_7047 : Index := 0#32
  ![v20389.toNat, 1, 1, 81, 0]
def k0_off387 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20494 : Index := Scalar.indexCast arg11
  let c1_7077 : Index := 1#32
  let c0_7078 : Index := 0#32
  let c82_7079 : Index := 82#32
  let c0_7080 : Index := 0#32
  ![v20494.toNat, 1, 0, 82, 0]
def k0_off388 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20497 : Index := Scalar.indexCast arg11
  let c1_7081 : Index := 1#32
  let c1_7082 : Index := 1#32
  let c82_7083 : Index := 82#32
  let c0_7084 : Index := 0#32
  ![v20497.toNat, 1, 1, 82, 0]
def k0_off389 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20602 : Index := Scalar.indexCast arg11
  let c1_7114 : Index := 1#32
  let c0_7115 : Index := 0#32
  let c83_7116 : Index := 83#32
  let c0_7117 : Index := 0#32
  ![v20602.toNat, 1, 0, 83, 0]
def k0_off390 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20605 : Index := Scalar.indexCast arg11
  let c1_7118 : Index := 1#32
  let c1_7119 : Index := 1#32
  let c83_7120 : Index := 83#32
  let c0_7121 : Index := 0#32
  ![v20605.toNat, 1, 1, 83, 0]
def k0_off391 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20710 : Index := Scalar.indexCast arg11
  let c1_7151 : Index := 1#32
  let c0_7152 : Index := 0#32
  let c84_7153 : Index := 84#32
  let c0_7154 : Index := 0#32
  ![v20710.toNat, 1, 0, 84, 0]
def k0_off392 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20713 : Index := Scalar.indexCast arg11
  let c1_7155 : Index := 1#32
  let c1_7156 : Index := 1#32
  let c84_7157 : Index := 84#32
  let c0_7158 : Index := 0#32
  ![v20713.toNat, 1, 1, 84, 0]
def k0_off393 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20818 : Index := Scalar.indexCast arg11
  let c1_7188 : Index := 1#32
  let c0_7189 : Index := 0#32
  let c85_7190 : Index := 85#32
  let c0_7191 : Index := 0#32
  ![v20818.toNat, 1, 0, 85, 0]
def k0_off394 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20821 : Index := Scalar.indexCast arg11
  let c1_7192 : Index := 1#32
  let c1_7193 : Index := 1#32
  let c85_7194 : Index := 85#32
  let c0_7195 : Index := 0#32
  ![v20821.toNat, 1, 1, 85, 0]
def k0_off395 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20926 : Index := Scalar.indexCast arg11
  let c1_7225 : Index := 1#32
  let c0_7226 : Index := 0#32
  let c86_7227 : Index := 86#32
  let c0_7228 : Index := 0#32
  ![v20926.toNat, 1, 0, 86, 0]
def k0_off396 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20929 : Index := Scalar.indexCast arg11
  let c1_7229 : Index := 1#32
  let c1_7230 : Index := 1#32
  let c86_7231 : Index := 86#32
  let c0_7232 : Index := 0#32
  ![v20929.toNat, 1, 1, 86, 0]
def k0_off397 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21034 : Index := Scalar.indexCast arg11
  let c1_7262 : Index := 1#32
  let c0_7263 : Index := 0#32
  let c87_7264 : Index := 87#32
  let c0_7265 : Index := 0#32
  ![v21034.toNat, 1, 0, 87, 0]
def k0_off398 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21037 : Index := Scalar.indexCast arg11
  let c1_7266 : Index := 1#32
  let c1_7267 : Index := 1#32
  let c87_7268 : Index := 87#32
  let c0_7269 : Index := 0#32
  ![v21037.toNat, 1, 1, 87, 0]
def k0_mult69 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_7299 : BitVec 32 := 512#32
  let v21141 : BitVec 32 := Scalar.muli arg11 c512_i32_7299
  v21141
def k0_mult70 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_7302 : BitVec 32 := 512#32
  let v21149 : BitVec 32 := Scalar.muli arg11 c512_i32_7302
  v21149
def k0_off399 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21162 : Index := Scalar.indexCast arg11
  let c1_7306 : Index := 1#32
  let c0_7307 : Index := 0#32
  let c88_7308 : Index := 88#32
  let c0_7309 : Index := 0#32
  ![v21162.toNat, 1, 0, 88, 0]
def k0_off400 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21165 : Index := Scalar.indexCast arg11
  let c1_7310 : Index := 1#32
  let c1_7311 : Index := 1#32
  let c88_7312 : Index := 88#32
  let c0_7313 : Index := 0#32
  ![v21165.toNat, 1, 1, 88, 0]
def k0_off401 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21270 : Index := Scalar.indexCast arg11
  let c1_7343 : Index := 1#32
  let c0_7344 : Index := 0#32
  let c89_7345 : Index := 89#32
  let c0_7346 : Index := 0#32
  ![v21270.toNat, 1, 0, 89, 0]
def k0_off402 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21273 : Index := Scalar.indexCast arg11
  let c1_7347 : Index := 1#32
  let c1_7348 : Index := 1#32
  let c89_7349 : Index := 89#32
  let c0_7350 : Index := 0#32
  ![v21273.toNat, 1, 1, 89, 0]
def k0_off403 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21378 : Index := Scalar.indexCast arg11
  let c1_7380 : Index := 1#32
  let c0_7381 : Index := 0#32
  let c90_7382 : Index := 90#32
  let c0_7383 : Index := 0#32
  ![v21378.toNat, 1, 0, 90, 0]
def k0_off404 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21381 : Index := Scalar.indexCast arg11
  let c1_7384 : Index := 1#32
  let c1_7385 : Index := 1#32
  let c90_7386 : Index := 90#32
  let c0_7387 : Index := 0#32
  ![v21381.toNat, 1, 1, 90, 0]
def k0_off405 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21486 : Index := Scalar.indexCast arg11
  let c1_7417 : Index := 1#32
  let c0_7418 : Index := 0#32
  let c91_7419 : Index := 91#32
  let c0_7420 : Index := 0#32
  ![v21486.toNat, 1, 0, 91, 0]
def k0_off406 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21489 : Index := Scalar.indexCast arg11
  let c1_7421 : Index := 1#32
  let c1_7422 : Index := 1#32
  let c91_7423 : Index := 91#32
  let c0_7424 : Index := 0#32
  ![v21489.toNat, 1, 1, 91, 0]
def k0_off407 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21594 : Index := Scalar.indexCast arg11
  let c1_7454 : Index := 1#32
  let c0_7455 : Index := 0#32
  let c92_7456 : Index := 92#32
  let c0_7457 : Index := 0#32
  ![v21594.toNat, 1, 0, 92, 0]
def k0_off408 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21597 : Index := Scalar.indexCast arg11
  let c1_7458 : Index := 1#32
  let c1_7459 : Index := 1#32
  let c92_7460 : Index := 92#32
  let c0_7461 : Index := 0#32
  ![v21597.toNat, 1, 1, 92, 0]
def k0_off409 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21702 : Index := Scalar.indexCast arg11
  let c1_7491 : Index := 1#32
  let c0_7492 : Index := 0#32
  let c93_7493 : Index := 93#32
  let c0_7494 : Index := 0#32
  ![v21702.toNat, 1, 0, 93, 0]
def k0_off410 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21705 : Index := Scalar.indexCast arg11
  let c1_7495 : Index := 1#32
  let c1_7496 : Index := 1#32
  let c93_7497 : Index := 93#32
  let c0_7498 : Index := 0#32
  ![v21705.toNat, 1, 1, 93, 0]
def k0_off411 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21810 : Index := Scalar.indexCast arg11
  let c1_7528 : Index := 1#32
  let c0_7529 : Index := 0#32
  let c94_7530 : Index := 94#32
  let c0_7531 : Index := 0#32
  ![v21810.toNat, 1, 0, 94, 0]
def k0_off412 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21813 : Index := Scalar.indexCast arg11
  let c1_7532 : Index := 1#32
  let c1_7533 : Index := 1#32
  let c94_7534 : Index := 94#32
  let c0_7535 : Index := 0#32
  ![v21813.toNat, 1, 1, 94, 0]
def k0_off413 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21918 : Index := Scalar.indexCast arg11
  let c1_7565 : Index := 1#32
  let c0_7566 : Index := 0#32
  let c95_7567 : Index := 95#32
  let c0_7568 : Index := 0#32
  ![v21918.toNat, 1, 0, 95, 0]
def k0_off414 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21921 : Index := Scalar.indexCast arg11
  let c1_7569 : Index := 1#32
  let c1_7570 : Index := 1#32
  let c95_7571 : Index := 95#32
  let c0_7572 : Index := 0#32
  ![v21921.toNat, 1, 1, 95, 0]
def k0_mult71 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_7606 : BitVec 32 := 512#32
  let v22041 : BitVec 32 := Scalar.muli arg11 c512_i32_7606
  v22041
def k0_mult72 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_7609 : BitVec 32 := 512#32
  let v22047 : BitVec 32 := Scalar.muli arg11 c512_i32_7609
  v22047
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x4x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScaleRef.lean ====
abbrev S1x1536x28672 : Shape := ⟨3, ![1, 1536, 28672]⟩
abbrev S16 : Shape := ⟨1, ![16]⟩
abbrev S1 : Shape := ⟨1, ![1]⟩
abbrev S96x28672 : Shape := ⟨2, ![96, 28672]⟩
abbrev S1x28672x1536 : Shape := ⟨3, ![1, 28672, 1536]⟩

abbrev nBuf : Space → Nat
  | .hbm => 6
  | .vmem => 2
  | .smem => 1
  | _ => 0

abbrev bufTy : (tb : Table) → Fin (tcTables nBuf tb) → BufTy
  | .hbm, ⟨0, _⟩ => ⟨S1x1536x28672, .bf16⟩
  | .hbm, ⟨1, _⟩ => ⟨S16, .f32⟩
  | .hbm, ⟨2, _⟩ => ⟨S1, .f32⟩
  | .hbm, ⟨3, _⟩ => ⟨S96x28672, .f32⟩
  | .hbm, ⟨4, _⟩ => ⟨S1x28672x1536, .i8⟩
  | .hbm, ⟨5, _⟩ => ⟨S96x28672, .fp8e4m3⟩
  | .local _ .vmem, ⟨0, _⟩ => ⟨S96x28672, .f32⟩
  | .local _ .vmem, ⟨1, _⟩ => ⟨S96x28672, .fp8e4m3⟩
  | .local _ .smem, ⟨0, _⟩ => ⟨S1, .f32⟩
  | _, _ => ⟨S1x1536x28672, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x28672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x28672 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Codes.lean ====
abbrev S1x1536x28672 : Shape := ⟨3, ![1, 1536, 28672]⟩
abbrev S16 : Shape := ⟨1, ![16]⟩
abbrev S1 : Shape := ⟨1, ![1]⟩
abbrev S96x28672 : Shape := ⟨2, ![96, 28672]⟩
abbrev S1x28672x1536 : Shape := ⟨3, ![1, 28672, 1536]⟩
abbrev S192x8x112x2x128 : Shape := ⟨5, ![192, 8, 112, 2, 128]⟩
abbrev S192x112x2x8x128 : Shape := ⟨5, ![192, 112, 2, 8, 128]⟩
abbrev S192x112x16x128 : Shape := ⟨4, ![192, 112, 16, 128]⟩
abbrev S28672x1536 : Shape := ⟨2, ![28672, 1536]⟩
abbrev S28672x768 : Shape := ⟨2, ![28672, 768]⟩
abbrev S192x4x16x128 : Shape := ⟨4, ![192, 4, 16, 128]⟩
abbrev S96x1024 : Shape := ⟨2, ![96, 1024]⟩
abbrev S1024x1536 : Shape := ⟨2, ![1024, 1536]⟩
abbrev S1024x768 : Shape := ⟨2, ![1024, 768]⟩
abbrev S256x256 : Shape := ⟨2, ![256, 256]⟩
abbrev S2x2x2x96x128 : Shape := ⟨5, ![2, 2, 2, 96, 128]⟩
abbrev S96x128 : Shape := ⟨2, ![96, 128]⟩
abbrev S96x128x1 : Shape := ⟨3, ![96, 128, 1]⟩
abbrev S1x1x1x96x128 : Shape := ⟨5, ![1, 1, 1, 96, 128]⟩
abbrev S16x1x16x128 : Shape := ⟨4, ![16, 1, 16, 128]⟩
abbrev S16x16x128 : Shape := ⟨3, ![16, 16, 128]⟩
abbrev S256x128 : Shape := ⟨2, ![256, 128]⟩
abbrev S128x128 : Shape := ⟨2, ![128, 128]⟩
abbrev S32x128 : Shape := ⟨2, ![32, 128]⟩
abbrev S64x128 : Shape := ⟨2, ![64, 128]⟩
abbrev S8x128 : Shape := ⟨2, ![8, 128]⟩
abbrev S1x1x1x8x128 : Shape := ⟨5, ![1, 1, 1, 8, 128]⟩
abbrev S16x128 : Shape := ⟨2, ![16, 128]⟩

abbrev nBuf : Space → Nat
  | .hbm => 11
  | .vmem => 13
  | .smem => 2
  | _ => 0

abbrev bufTy : (tb : Table) → Fin (tcTables nBuf tb) → BufTy
  | .hbm, ⟨0, _⟩ => ⟨S1x1536x28672, .bf16⟩
  | .hbm, ⟨1, _⟩ => ⟨S16, .f32⟩
  | .hbm, ⟨2, _⟩ => ⟨S1, .f32⟩
  | .hbm, ⟨3, _⟩ => ⟨S96x28672, .f32⟩
  | .hbm, ⟨4, _⟩ => ⟨S1x28672x1536, .i8⟩
  | .hbm, ⟨5, _⟩ => ⟨S192x8x112x2x128, .bf16⟩
  | .hbm, ⟨6, _⟩ => ⟨S192x112x2x8x128, .bf16⟩
  | .hbm, ⟨7, _⟩ => ⟨S192x112x16x128, .bf16⟩
  | .hbm, ⟨8, _⟩ => ⟨S28672x1536, .i8⟩
  | .hbm, ⟨9, _⟩ => ⟨S28672x768, .i8⟩
  | .hbm, ⟨10, _⟩ => ⟨S96x28672, .fp8e4m3⟩
  | .local _ .vmem, ⟨0, _⟩ => ⟨S192x4x16x128, .bf16⟩
  | .local _ .vmem, ⟨1, _⟩ => ⟨S192x4x16x128, .bf16⟩
  | .local _ .vmem, ⟨2, _⟩ => ⟨S96x1024, .f32⟩
  | .local _ .vmem, ⟨3, _⟩ => ⟨S96x1024, .f32⟩
  | .local _ .vmem, ⟨4, _⟩ => ⟨S1024x1536, .i8⟩
  | .local _ .vmem, ⟨5, _⟩ => ⟨S1024x1536, .i8⟩
  | .local _ .vmem, ⟨6, _⟩ => ⟨S1024x768, .i8⟩
  | .local _ .vmem, ⟨7, _⟩ => ⟨S1024x768, .i8⟩
  | .local _ .vmem, ⟨8, _⟩ => ⟨S96x1024, .fp8e4m3⟩
  | .local _ .vmem, ⟨9, _⟩ => ⟨S96x1024, .fp8e4m3⟩
  | .local _ .vmem, ⟨10, _⟩ => ⟨S256x256, .bf16⟩
  | .local _ .vmem, ⟨11, _⟩ => ⟨S256x256, .bf16⟩
  | .local _ .vmem, ⟨12, _⟩ => ⟨S2x2x2x96x128, .f32⟩
  | .local _ .smem, ⟨0, _⟩ => ⟨S16, .f32⟩
  | .local _ .smem, ⟨1, _⟩ => ⟨S1, .f32⟩
  | _, _ => ⟨S1x1536x28672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨1, ![28], ![false]⟩

@[reducible] def k0_t1_loop : Scf.Loop 32 :=
  let c0_i32_140 : BitVec 32 := 0#32
  let c2_i32 : BitVec 32 := 2#32
  let v284 : BitVec 32 := Scalar.addi c0_i32_140 c2_i32
  let c1_i32_141 : BitVec 32 := 1#32
  ⟨c0_i32_140, v284, c1_i32_141⟩
def k0_off1 (k0_t1 : Fin k0_t1_loop.trips) (c0_i32_144 : BitVec 32) : Fin 4 → Nat :=
  let c0_145 : Index := 0#32
  let c2_i32_143 : BitVec 32 := 2#32
  let c0_i32_140 : BitVec 32 := 0#32
  let c1_i32_141 : BitVec 32 := 1#32
  let arg11 : BitVec 32 := Scf.iv c0_i32_140 c1_i32_141 k0_t1
  let v285 : BitVec 32 := Scalar.muli c2_i32_143 arg11
  let v286 : BitVec 32 := Scalar.addi v285 c0_i32_144
  let v287 : Index := Scalar.indexCast v286
  let c0_146 : Index := 0#32
  let c0_147 : Index := 0#32
  ![0, v287.toNat, 0, 0]
def k0_off2 (k0_t1 : Fin k0_t1_loop.trips) (c0_i32_160 : BitVec 32) : Fin 4 → Nat :=
  let c16 : Index := 16#32
  let c2_i32_159 : BitVec 32 := 2#32
  let c0_i32_140 : BitVec 32 := 0#32
  let c1_i32_141 : BitVec 32 := 1#32
  let arg11 : BitVec 32 := Scf.iv c0_i32_140 c1_i32_141 k0_t1
  let v303 : BitVec 32 := Scalar.muli c2_i32_159 arg11
  let v304 : BitVec 32 := Scalar.addi v303 c0_i32_160
  let v305 : Index := Scalar.indexCast v304
  let c0_161 : Index := 0#32
  let c0_162 : Index := 0#32
  ![16, v305.toNat, 0, 0]
def k0_mult1 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32 : BitVec 32 := 512#32
  let v321 : BitVec 32 := Scalar.muli arg11 c512_i32
  v321
def k0_off3 (k0_t1 : Fin k0_t1_loop.trips) (c0_i32_174 : BitVec 32) : Fin 2 → Nat :=
  let c0_i32_140 : BitVec 32 := 0#32
  let c1_i32_141 : BitVec 32 := 1#32
  let arg11 : BitVec 32 := Scf.iv c0_i32_140 c1_i32_141 k0_t1
  let c512_i32 : BitVec 32 := 512#32
  let v321 : BitVec 32 := Scalar.muli arg11 c512_i32
  let v322 : BitVec 32 := v321
  let v323 : BitVec 32 := Scalar.addi v322 c0_i32_174
  let v324 : Index := Scalar.indexCast v323
  let c0_175 : Index := 0#32
  ![v324.toNat, 0]
def k0_mult2 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_176 : BitVec 32 := 512#32
  let v329 : BitVec 32 := Scalar.muli arg11 c512_i32_176
  v329
def k0_off4 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v342 : Index := Scalar.indexCast arg11
  let c0_179 : Index := 0#32
  let c0_180 : Index := 0#32
  let c0_181 : Index := 0#32
  let c0_182 : Index := 0#32
  ![v342.toNat, 0, 0, 0, 0]
def k0_off5 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v345 : Index := Scalar.indexCast arg11
  let c0_183 : Index := 0#32
  let c1_184 : Index := 1#32
  let c0_185 : Index := 0#32
  let c0_186 : Index := 0#32
  ![v345.toNat, 0, 1, 0, 0]
def k0_off6 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v450 : Index := Scalar.indexCast arg11
  let c0_209 : Index := 0#32
  let c0_210 : Index := 0#32
  let c1_211 : Index := 1#32
  let c0_212 : Index := 0#32
  ![v450.toNat, 0, 0, 1, 0]
def k0_off7 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v453 : Index := Scalar.indexCast arg11
  let c0_213 : Index := 0#32
  let c1_214 : Index := 1#32
  let c1_215 : Index := 1#32
  let c0_216 : Index := 0#32
  ![v453.toNat, 0, 1, 1, 0]
def k0_off8 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v558 : Index := Scalar.indexCast arg11
  let c0_246 : Index := 0#32
  let c0_247 : Index := 0#32
  let c2 : Index := 2#32
  let c0_248 : Index := 0#32
  ![v558.toNat, 0, 0, 2, 0]
def k0_off9 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v561 : Index := Scalar.indexCast arg11
  let c0_249 : Index := 0#32
  let c1_250 : Index := 1#32
  let c2_251 : Index := 2#32
  let c0_252 : Index := 0#32
  ![v561.toNat, 0, 1, 2, 0]
def k0_off10 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v666 : Index := Scalar.indexCast arg11
  let c0_282 : Index := 0#32
  let c0_283 : Index := 0#32
  let c3 : Index := 3#32
  let c0_284 : Index := 0#32
  ![v666.toNat, 0, 0, 3, 0]
def k0_off11 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v669 : Index := Scalar.indexCast arg11
  let c0_285 : Index := 0#32
  let c1_286 : Index := 1#32
  let c3_287 : Index := 3#32
  let c0_288 : Index := 0#32
  ![v669.toNat, 0, 1, 3, 0]
def k0_off12 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v774 : Index := Scalar.indexCast arg11
  let c0_318 : Index := 0#32
  let c0_319 : Index := 0#32
  let c4 : Index := 4#32
  let c0_320 : Index := 0#32
  ![v774.toNat, 0, 0, 4, 0]
def k0_off13 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v777 : Index := Scalar.indexCast arg11
  let c0_321 : Index := 0#32
  let c1_322 : Index := 1#32
  let c4_323 : Index := 4#32
  let c0_324 : Index := 0#32
  ![v777.toNat, 0, 1, 4, 0]
def k0_off14 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v882 : Index := Scalar.indexCast arg11
  let c0_354 : Index := 0#32
  let c0_355 : Index := 0#32
  let c5 : Index := 5#32
  let c0_356 : Index := 0#32
  ![v882.toNat, 0, 0, 5, 0]
def k0_off15 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v885 : Index := Scalar.indexCast arg11
  let c0_357 : Index := 0#32
  let c1_358 : Index := 1#32
  let c5_359 : Index := 5#32
  let c0_360 : Index := 0#32
  ![v885.toNat, 0, 1, 5, 0]
def k0_off16 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v990 : Index := Scalar.indexCast arg11
  let c0_390 : Index := 0#32
  let c0_391 : Index := 0#32
  let c6 : Index := 6#32
  let c0_392 : Index := 0#32
  ![v990.toNat, 0, 0, 6, 0]
def k0_off17 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v993 : Index := Scalar.indexCast arg11
  let c0_393 : Index := 0#32
  let c1_394 : Index := 1#32
  let c6_395 : Index := 6#32
  let c0_396 : Index := 0#32
  ![v993.toNat, 0, 1, 6, 0]
def k0_off18 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1098 : Index := Scalar.indexCast arg11
  let c0_426 : Index := 0#32
  let c0_427 : Index := 0#32
  let c7 : Index := 7#32
  let c0_428 : Index := 0#32
  ![v1098.toNat, 0, 0, 7, 0]
def k0_off19 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1101 : Index := Scalar.indexCast arg11
  let c0_429 : Index := 0#32
  let c1_430 : Index := 1#32
  let c7_431 : Index := 7#32
  let c0_432 : Index := 0#32
  ![v1101.toNat, 0, 1, 7, 0]
def k0_mult3 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_462 : BitVec 32 := 512#32
  let v1205 : BitVec 32 := Scalar.muli arg11 c512_i32_462
  v1205
def k0_off20 (k0_t1 : Fin k0_t1_loop.trips) (c0_i32_463 : BitVec 32) : Fin 2 → Nat :=
  let c0_i32_140 : BitVec 32 := 0#32
  let c1_i32_141 : BitVec 32 := 1#32
  let arg11 : BitVec 32 := Scf.iv c0_i32_140 c1_i32_141 k0_t1
  let c512_i32_462 : BitVec 32 := 512#32
  let v1205 : BitVec 32 := Scalar.muli arg11 c512_i32_462
  let v1206 : BitVec 32 := v1205
  let v1207 : BitVec 32 := Scalar.addi v1206 c0_i32_463
  let v1208 : Index := Scalar.indexCast v1207
  let c128_464 : Index := 128#32
  ![v1208.toNat, 128]
def k0_mult4 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_465 : BitVec 32 := 512#32
  let v1213 : BitVec 32 := Scalar.muli arg11 c512_i32_465
  v1213
def k0_off21 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1226 : Index := Scalar.indexCast arg11
  let c0_469 : Index := 0#32
  let c0_470 : Index := 0#32
  let c8 : Index := 8#32
  let c0_471 : Index := 0#32
  ![v1226.toNat, 0, 0, 8, 0]
def k0_off22 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1229 : Index := Scalar.indexCast arg11
  let c0_472 : Index := 0#32
  let c1_473 : Index := 1#32
  let c8_474 : Index := 8#32
  let c0_475 : Index := 0#32
  ![v1229.toNat, 0, 1, 8, 0]
def k0_off23 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1334 : Index := Scalar.indexCast arg11
  let c0_505 : Index := 0#32
  let c0_506 : Index := 0#32
  let c9 : Index := 9#32
  let c0_507 : Index := 0#32
  ![v1334.toNat, 0, 0, 9, 0]
def k0_off24 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1337 : Index := Scalar.indexCast arg11
  let c0_508 : Index := 0#32
  let c1_509 : Index := 1#32
  let c9_510 : Index := 9#32
  let c0_511 : Index := 0#32
  ![v1337.toNat, 0, 1, 9, 0]
def k0_off25 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1442 : Index := Scalar.indexCast arg11
  let c0_541 : Index := 0#32
  let c0_542 : Index := 0#32
  let c10 : Index := 10#32
  let c0_543 : Index := 0#32
  ![v1442.toNat, 0, 0, 10, 0]
def k0_off26 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1445 : Index := Scalar.indexCast arg11
  let c0_544 : Index := 0#32
  let c1_545 : Index := 1#32
  let c10_546 : Index := 10#32
  let c0_547 : Index := 0#32
  ![v1445.toNat, 0, 1, 10, 0]
def k0_off27 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1550 : Index := Scalar.indexCast arg11
  let c0_577 : Index := 0#32
  let c0_578 : Index := 0#32
  let c11 : Index := 11#32
  let c0_579 : Index := 0#32
  ![v1550.toNat, 0, 0, 11, 0]
def k0_off28 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1553 : Index := Scalar.indexCast arg11
  let c0_580 : Index := 0#32
  let c1_581 : Index := 1#32
  let c11_582 : Index := 11#32
  let c0_583 : Index := 0#32
  ![v1553.toNat, 0, 1, 11, 0]
def k0_off29 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1658 : Index := Scalar.indexCast arg11
  let c0_613 : Index := 0#32
  let c0_614 : Index := 0#32
  let c12 : Index := 12#32
  let c0_615 : Index := 0#32
  ![v1658.toNat, 0, 0, 12, 0]
def k0_off30 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1661 : Index := Scalar.indexCast arg11
  let c0_616 : Index := 0#32
  let c1_617 : Index := 1#32
  let c12_618 : Index := 12#32
  let c0_619 : Index := 0#32
  ![v1661.toNat, 0, 1, 12, 0]
def k0_off31 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1766 : Index := Scalar.indexCast arg11
  let c0_649 : Index := 0#32
  let c0_650 : Index := 0#32
  let c13 : Index := 13#32
  let c0_651 : Index := 0#32
  ![v1766.toNat, 0, 0, 13, 0]
def k0_off32 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1769 : Index := Scalar.indexCast arg11
  let c0_652 : Index := 0#32
  let c1_653 : Index := 1#32
  let c13_654 : Index := 13#32
  let c0_655 : Index := 0#32
  ![v1769.toNat, 0, 1, 13, 0]
def k0_off33 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1874 : Index := Scalar.indexCast arg11
  let c0_685 : Index := 0#32
  let c0_686 : Index := 0#32
  let c14 : Index := 14#32
  let c0_687 : Index := 0#32
  ![v1874.toNat, 0, 0, 14, 0]
def k0_off34 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1877 : Index := Scalar.indexCast arg11
  let c0_688 : Index := 0#32
  let c1_689 : Index := 1#32
  let c14_690 : Index := 14#32
  let c0_691 : Index := 0#32
  ![v1877.toNat, 0, 1, 14, 0]
def k0_off35 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1982 : Index := Scalar.indexCast arg11
  let c0_721 : Index := 0#32
  let c0_722 : Index := 0#32
  let c15 : Index := 15#32
  let c0_723 : Index := 0#32
  ![v1982.toNat, 0, 0, 15, 0]
def k0_off36 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v1985 : Index := Scalar.indexCast arg11
  let c0_724 : Index := 0#32
  let c1_725 : Index := 1#32
  let c15_726 : Index := 15#32
  let c0_727 : Index := 0#32
  ![v1985.toNat, 0, 1, 15, 0]
def k0_mult5 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_759 : BitVec 32 := 512#32
  let v2105 : BitVec 32 := Scalar.muli arg11 c512_i32_759
  v2105
def k0_off37 (k0_t1 : Fin k0_t1_loop.trips) (c0_i32_760 : BitVec 32) : Fin 2 → Nat :=
  let c0_i32_140 : BitVec 32 := 0#32
  let c1_i32_141 : BitVec 32 := 1#32
  let arg11 : BitVec 32 := Scf.iv c0_i32_140 c1_i32_141 k0_t1
  let c512_i32_759 : BitVec 32 := 512#32
  let v2105 : BitVec 32 := Scalar.muli arg11 c512_i32_759
  let v2106 : BitVec 32 := v2105
  let v2107 : BitVec 32 := Scalar.addi v2106 c0_i32_760
  let v2109 : Index := Scalar.indexCast v2107
  let c0_761 : Index := 0#32
  ![v2109.toNat, 0]
def k0_mult6 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_762 : BitVec 32 := 512#32
  let v2111 : BitVec 32 := Scalar.muli arg11 c512_i32_762
  v2111
def k0_mult7 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_765 : BitVec 32 := 512#32
  let v2117 : BitVec 32 := Scalar.muli arg11 c512_i32_765
  v2117
def k0_mult8 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_768 : BitVec 32 := 512#32
  let v2125 : BitVec 32 := Scalar.muli arg11 c512_i32_768
  v2125
def k0_off38 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2138 : Index := Scalar.indexCast arg11
  let c1_771 : Index := 1#32
  let c0_772 : Index := 0#32
  let c0_773 : Index := 0#32
  let c0_774 : Index := 0#32
  ![v2138.toNat, 1, 0, 0, 0]
def k0_off39 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2141 : Index := Scalar.indexCast arg11
  let c1_775 : Index := 1#32
  let c1_776 : Index := 1#32
  let c0_777 : Index := 0#32
  let c0_778 : Index := 0#32
  ![v2141.toNat, 1, 1, 0, 0]
def k0_off40 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2246 : Index := Scalar.indexCast arg11
  let c1_808 : Index := 1#32
  let c0_809 : Index := 0#32
  let c1_810 : Index := 1#32
  let c0_811 : Index := 0#32
  ![v2246.toNat, 1, 0, 1, 0]
def k0_off41 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2249 : Index := Scalar.indexCast arg11
  let c1_812 : Index := 1#32
  let c1_813 : Index := 1#32
  let c1_814 : Index := 1#32
  let c0_815 : Index := 0#32
  ![v2249.toNat, 1, 1, 1, 0]
def k0_off42 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2354 : Index := Scalar.indexCast arg11
  let c1_845 : Index := 1#32
  let c0_846 : Index := 0#32
  let c2_847 : Index := 2#32
  let c0_848 : Index := 0#32
  ![v2354.toNat, 1, 0, 2, 0]
def k0_off43 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2357 : Index := Scalar.indexCast arg11
  let c1_849 : Index := 1#32
  let c1_850 : Index := 1#32
  let c2_851 : Index := 2#32
  let c0_852 : Index := 0#32
  ![v2357.toNat, 1, 1, 2, 0]
def k0_off44 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2462 : Index := Scalar.indexCast arg11
  let c1_882 : Index := 1#32
  let c0_883 : Index := 0#32
  let c3_884 : Index := 3#32
  let c0_885 : Index := 0#32
  ![v2462.toNat, 1, 0, 3, 0]
def k0_off45 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2465 : Index := Scalar.indexCast arg11
  let c1_886 : Index := 1#32
  let c1_887 : Index := 1#32
  let c3_888 : Index := 3#32
  let c0_889 : Index := 0#32
  ![v2465.toNat, 1, 1, 3, 0]
def k0_off46 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2570 : Index := Scalar.indexCast arg11
  let c1_919 : Index := 1#32
  let c0_920 : Index := 0#32
  let c4_921 : Index := 4#32
  let c0_922 : Index := 0#32
  ![v2570.toNat, 1, 0, 4, 0]
def k0_off47 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2573 : Index := Scalar.indexCast arg11
  let c1_923 : Index := 1#32
  let c1_924 : Index := 1#32
  let c4_925 : Index := 4#32
  let c0_926 : Index := 0#32
  ![v2573.toNat, 1, 1, 4, 0]
def k0_off48 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2678 : Index := Scalar.indexCast arg11
  let c1_956 : Index := 1#32
  let c0_957 : Index := 0#32
  let c5_958 : Index := 5#32
  let c0_959 : Index := 0#32
  ![v2678.toNat, 1, 0, 5, 0]
def k0_off49 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2681 : Index := Scalar.indexCast arg11
  let c1_960 : Index := 1#32
  let c1_961 : Index := 1#32
  let c5_962 : Index := 5#32
  let c0_963 : Index := 0#32
  ![v2681.toNat, 1, 1, 5, 0]
def k0_off50 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2786 : Index := Scalar.indexCast arg11
  let c1_993 : Index := 1#32
  let c0_994 : Index := 0#32
  let c6_995 : Index := 6#32
  let c0_996 : Index := 0#32
  ![v2786.toNat, 1, 0, 6, 0]
def k0_off51 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2789 : Index := Scalar.indexCast arg11
  let c1_997 : Index := 1#32
  let c1_998 : Index := 1#32
  let c6_999 : Index := 6#32
  let c0_1000 : Index := 0#32
  ![v2789.toNat, 1, 1, 6, 0]
def k0_off52 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2894 : Index := Scalar.indexCast arg11
  let c1_1030 : Index := 1#32
  let c0_1031 : Index := 0#32
  let c7_1032 : Index := 7#32
  let c0_1033 : Index := 0#32
  ![v2894.toNat, 1, 0, 7, 0]
def k0_off53 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v2897 : Index := Scalar.indexCast arg11
  let c1_1034 : Index := 1#32
  let c1_1035 : Index := 1#32
  let c7_1036 : Index := 7#32
  let c0_1037 : Index := 0#32
  ![v2897.toNat, 1, 1, 7, 0]
def k0_mult9 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1067 : BitVec 32 := 512#32
  let v3001 : BitVec 32 := Scalar.muli arg11 c512_i32_1067
  v3001
def k0_mult10 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1070 : BitVec 32 := 512#32
  let v3009 : BitVec 32 := Scalar.muli arg11 c512_i32_1070
  v3009
def k0_off54 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3022 : Index := Scalar.indexCast arg11
  let c1_1074 : Index := 1#32
  let c0_1075 : Index := 0#32
  let c8_1076 : Index := 8#32
  let c0_1077 : Index := 0#32
  ![v3022.toNat, 1, 0, 8, 0]
def k0_off55 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3025 : Index := Scalar.indexCast arg11
  let c1_1078 : Index := 1#32
  let c1_1079 : Index := 1#32
  let c8_1080 : Index := 8#32
  let c0_1081 : Index := 0#32
  ![v3025.toNat, 1, 1, 8, 0]
def k0_off56 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3130 : Index := Scalar.indexCast arg11
  let c1_1111 : Index := 1#32
  let c0_1112 : Index := 0#32
  let c9_1113 : Index := 9#32
  let c0_1114 : Index := 0#32
  ![v3130.toNat, 1, 0, 9, 0]
def k0_off57 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3133 : Index := Scalar.indexCast arg11
  let c1_1115 : Index := 1#32
  let c1_1116 : Index := 1#32
  let c9_1117 : Index := 9#32
  let c0_1118 : Index := 0#32
  ![v3133.toNat, 1, 1, 9, 0]
def k0_off58 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3238 : Index := Scalar.indexCast arg11
  let c1_1148 : Index := 1#32
  let c0_1149 : Index := 0#32
  let c10_1150 : Index := 10#32
  let c0_1151 : Index := 0#32
  ![v3238.toNat, 1, 0, 10, 0]
def k0_off59 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3241 : Index := Scalar.indexCast arg11
  let c1_1152 : Index := 1#32
  let c1_1153 : Index := 1#32
  let c10_1154 : Index := 10#32
  let c0_1155 : Index := 0#32
  ![v3241.toNat, 1, 1, 10, 0]
def k0_off60 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3346 : Index := Scalar.indexCast arg11
  let c1_1185 : Index := 1#32
  let c0_1186 : Index := 0#32
  let c11_1187 : Index := 11#32
  let c0_1188 : Index := 0#32
  ![v3346.toNat, 1, 0, 11, 0]
def k0_off61 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3349 : Index := Scalar.indexCast arg11
  let c1_1189 : Index := 1#32
  let c1_1190 : Index := 1#32
  let c11_1191 : Index := 11#32
  let c0_1192 : Index := 0#32
  ![v3349.toNat, 1, 1, 11, 0]
def k0_off62 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3454 : Index := Scalar.indexCast arg11
  let c1_1222 : Index := 1#32
  let c0_1223 : Index := 0#32
  let c12_1224 : Index := 12#32
  let c0_1225 : Index := 0#32
  ![v3454.toNat, 1, 0, 12, 0]
def k0_off63 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3457 : Index := Scalar.indexCast arg11
  let c1_1226 : Index := 1#32
  let c1_1227 : Index := 1#32
  let c12_1228 : Index := 12#32
  let c0_1229 : Index := 0#32
  ![v3457.toNat, 1, 1, 12, 0]
def k0_off64 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3562 : Index := Scalar.indexCast arg11
  let c1_1259 : Index := 1#32
  let c0_1260 : Index := 0#32
  let c13_1261 : Index := 13#32
  let c0_1262 : Index := 0#32
  ![v3562.toNat, 1, 0, 13, 0]
def k0_off65 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3565 : Index := Scalar.indexCast arg11
  let c1_1263 : Index := 1#32
  let c1_1264 : Index := 1#32
  let c13_1265 : Index := 13#32
  let c0_1266 : Index := 0#32
  ![v3565.toNat, 1, 1, 13, 0]
def k0_off66 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3670 : Index := Scalar.indexCast arg11
  let c1_1296 : Index := 1#32
  let c0_1297 : Index := 0#32
  let c14_1298 : Index := 14#32
  let c0_1299 : Index := 0#32
  ![v3670.toNat, 1, 0, 14, 0]
def k0_off67 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3673 : Index := Scalar.indexCast arg11
  let c1_1300 : Index := 1#32
  let c1_1301 : Index := 1#32
  let c14_1302 : Index := 14#32
  let c0_1303 : Index := 0#32
  ![v3673.toNat, 1, 1, 14, 0]
def k0_off68 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3778 : Index := Scalar.indexCast arg11
  let c1_1333 : Index := 1#32
  let c0_1334 : Index := 0#32
  let c15_1335 : Index := 15#32
  let c0_1336 : Index := 0#32
  ![v3778.toNat, 1, 0, 15, 0]
def k0_off69 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3781 : Index := Scalar.indexCast arg11
  let c1_1337 : Index := 1#32
  let c1_1338 : Index := 1#32
  let c15_1339 : Index := 15#32
  let c0_1340 : Index := 0#32
  ![v3781.toNat, 1, 1, 15, 0]
def k0_mult11 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1374 : BitVec 32 := 512#32
  let v3901 : BitVec 32 := Scalar.muli arg11 c512_i32_1374
  v3901
def k0_mult12 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1377 : BitVec 32 := 512#32
  let v3907 : BitVec 32 := Scalar.muli arg11 c512_i32_1377
  v3907
def k0_off70 (k0_t1 : Fin k0_t1_loop.trips) (c0_i32_1381 : BitVec 32) : Fin 4 → Nat :=
  let c32 : Index := 32#32
  let c2_i32_1380 : BitVec 32 := 2#32
  let c0_i32_140 : BitVec 32 := 0#32
  let c1_i32_141 : BitVec 32 := 1#32
  let arg11 : BitVec 32 := Scf.iv c0_i32_140 c1_i32_141 k0_t1
  let v3913 : BitVec 32 := Scalar.muli c2_i32_1380 arg11
  let v3914 : BitVec 32 := Scalar.addi v3913 c0_i32_1381
  let v3915 : Index := Scalar.indexCast v3914
  let c0_1382 : Index := 0#32
  let c0_1383 : Index := 0#32
  ![32, v3915.toNat, 0, 0]
def k0_off71 (k0_t1 : Fin k0_t1_loop.trips) (c0_i32_1396 : BitVec 32) : Fin 4 → Nat :=
  let c48 : Index := 48#32
  let c2_i32_1395 : BitVec 32 := 2#32
  let c0_i32_140 : BitVec 32 := 0#32
  let c1_i32_141 : BitVec 32 := 1#32
  let arg11 : BitVec 32 := Scf.iv c0_i32_140 c1_i32_141 k0_t1
  let v3931 : BitVec 32 := Scalar.muli c2_i32_1395 arg11
  let v3932 : BitVec 32 := Scalar.addi v3931 c0_i32_1396
  let v3933 : Index := Scalar.indexCast v3932
  let c0_1397 : Index := 0#32
  let c0_1398 : Index := 0#32
  ![48, v3933.toNat, 0, 0]
def k0_mult13 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1410 : BitVec 32 := 512#32
  let v3949 : BitVec 32 := Scalar.muli arg11 c512_i32_1410
  v3949
def k0_off72 (k0_t1 : Fin k0_t1_loop.trips) (c0_i32_1411 : BitVec 32) : Fin 2 → Nat :=
  let c0_i32_140 : BitVec 32 := 0#32
  let c1_i32_141 : BitVec 32 := 1#32
  let arg11 : BitVec 32 := Scf.iv c0_i32_140 c1_i32_141 k0_t1
  let c512_i32_1410 : BitVec 32 := 512#32
  let v3949 : BitVec 32 := Scalar.muli arg11 c512_i32_1410
  let v3950 : BitVec 32 := v3949
  let v3951 : BitVec 32 := Scalar.addi v3950 c0_i32_1411
  let v3952 : Index := Scalar.indexCast v3951
  let c256_1412 : Index := 256#32
  ![v3952.toNat, 256]
def k0_mult14 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1413 : BitVec 32 := 512#32
  let v3957 : BitVec 32 := Scalar.muli arg11 c512_i32_1413
  v3957
def k0_off73 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3970 : Index := Scalar.indexCast arg11
  let c0_1417 : Index := 0#32
  let c0_1418 : Index := 0#32
  let c16_1419 : Index := 16#32
  let c0_1420 : Index := 0#32
  ![v3970.toNat, 0, 0, 16, 0]
def k0_off74 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v3973 : Index := Scalar.indexCast arg11
  let c0_1421 : Index := 0#32
  let c1_1422 : Index := 1#32
  let c16_1423 : Index := 16#32
  let c0_1424 : Index := 0#32
  ![v3973.toNat, 0, 1, 16, 0]
def k0_off75 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4078 : Index := Scalar.indexCast arg11
  let c0_1454 : Index := 0#32
  let c0_1455 : Index := 0#32
  let c17 : Index := 17#32
  let c0_1456 : Index := 0#32
  ![v4078.toNat, 0, 0, 17, 0]
def k0_off76 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4081 : Index := Scalar.indexCast arg11
  let c0_1457 : Index := 0#32
  let c1_1458 : Index := 1#32
  let c17_1459 : Index := 17#32
  let c0_1460 : Index := 0#32
  ![v4081.toNat, 0, 1, 17, 0]
def k0_off77 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4186 : Index := Scalar.indexCast arg11
  let c0_1490 : Index := 0#32
  let c0_1491 : Index := 0#32
  let c18 : Index := 18#32
  let c0_1492 : Index := 0#32
  ![v4186.toNat, 0, 0, 18, 0]
def k0_off78 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4189 : Index := Scalar.indexCast arg11
  let c0_1493 : Index := 0#32
  let c1_1494 : Index := 1#32
  let c18_1495 : Index := 18#32
  let c0_1496 : Index := 0#32
  ![v4189.toNat, 0, 1, 18, 0]
def k0_off79 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4294 : Index := Scalar.indexCast arg11
  let c0_1526 : Index := 0#32
  let c0_1527 : Index := 0#32
  let c19 : Index := 19#32
  let c0_1528 : Index := 0#32
  ![v4294.toNat, 0, 0, 19, 0]
def k0_off80 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4297 : Index := Scalar.indexCast arg11
  let c0_1529 : Index := 0#32
  let c1_1530 : Index := 1#32
  let c19_1531 : Index := 19#32
  let c0_1532 : Index := 0#32
  ![v4297.toNat, 0, 1, 19, 0]
def k0_off81 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4402 : Index := Scalar.indexCast arg11
  let c0_1562 : Index := 0#32
  let c0_1563 : Index := 0#32
  let c20 : Index := 20#32
  let c0_1564 : Index := 0#32
  ![v4402.toNat, 0, 0, 20, 0]
def k0_off82 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4405 : Index := Scalar.indexCast arg11
  let c0_1565 : Index := 0#32
  let c1_1566 : Index := 1#32
  let c20_1567 : Index := 20#32
  let c0_1568 : Index := 0#32
  ![v4405.toNat, 0, 1, 20, 0]
def k0_off83 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4510 : Index := Scalar.indexCast arg11
  let c0_1598 : Index := 0#32
  let c0_1599 : Index := 0#32
  let c21 : Index := 21#32
  let c0_1600 : Index := 0#32
  ![v4510.toNat, 0, 0, 21, 0]
def k0_off84 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4513 : Index := Scalar.indexCast arg11
  let c0_1601 : Index := 0#32
  let c1_1602 : Index := 1#32
  let c21_1603 : Index := 21#32
  let c0_1604 : Index := 0#32
  ![v4513.toNat, 0, 1, 21, 0]
def k0_off85 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4618 : Index := Scalar.indexCast arg11
  let c0_1634 : Index := 0#32
  let c0_1635 : Index := 0#32
  let c22 : Index := 22#32
  let c0_1636 : Index := 0#32
  ![v4618.toNat, 0, 0, 22, 0]
def k0_off86 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4621 : Index := Scalar.indexCast arg11
  let c0_1637 : Index := 0#32
  let c1_1638 : Index := 1#32
  let c22_1639 : Index := 22#32
  let c0_1640 : Index := 0#32
  ![v4621.toNat, 0, 1, 22, 0]
def k0_off87 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4726 : Index := Scalar.indexCast arg11
  let c0_1670 : Index := 0#32
  let c0_1671 : Index := 0#32
  let c23 : Index := 23#32
  let c0_1672 : Index := 0#32
  ![v4726.toNat, 0, 0, 23, 0]
def k0_off88 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4729 : Index := Scalar.indexCast arg11
  let c0_1673 : Index := 0#32
  let c1_1674 : Index := 1#32
  let c23_1675 : Index := 23#32
  let c0_1676 : Index := 0#32
  ![v4729.toNat, 0, 1, 23, 0]
def k0_mult15 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1706 : BitVec 32 := 512#32
  let v4833 : BitVec 32 := Scalar.muli arg11 c512_i32_1706
  v4833
def k0_off89 (k0_t1 : Fin k0_t1_loop.trips) (c0_i32_1707 : BitVec 32) : Fin 2 → Nat :=
  let c0_i32_140 : BitVec 32 := 0#32
  let c1_i32_141 : BitVec 32 := 1#32
  let arg11 : BitVec 32 := Scf.iv c0_i32_140 c1_i32_141 k0_t1
  let c512_i32_1706 : BitVec 32 := 512#32
  let v4833 : BitVec 32 := Scalar.muli arg11 c512_i32_1706
  let v4834 : BitVec 32 := v4833
  let v4835 : BitVec 32 := Scalar.addi v4834 c0_i32_1707
  let v4836 : Index := Scalar.indexCast v4835
  let c384_1708 : Index := 384#32
  ![v4836.toNat, 384]
def k0_mult16 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_1709 : BitVec 32 := 512#32
  let v4841 : BitVec 32 := Scalar.muli arg11 c512_i32_1709
  v4841
def k0_off90 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4854 : Index := Scalar.indexCast arg11
  let c0_1713 : Index := 0#32
  let c0_1714 : Index := 0#32
  let c24 : Index := 24#32
  let c0_1715 : Index := 0#32
  ![v4854.toNat, 0, 0, 24, 0]
def k0_off91 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4857 : Index := Scalar.indexCast arg11
  let c0_1716 : Index := 0#32
  let c1_1717 : Index := 1#32
  let c24_1718 : Index := 24#32
  let c0_1719 : Index := 0#32
  ![v4857.toNat, 0, 1, 24, 0]
def k0_off92 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4962 : Index := Scalar.indexCast arg11
  let c0_1749 : Index := 0#32
  let c0_1750 : Index := 0#32
  let c25 : Index := 25#32
  let c0_1751 : Index := 0#32
  ![v4962.toNat, 0, 0, 25, 0]
def k0_off93 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v4965 : Index := Scalar.indexCast arg11
  let c0_1752 : Index := 0#32
  let c1_1753 : Index := 1#32
  let c25_1754 : Index := 25#32
  let c0_1755 : Index := 0#32
  ![v4965.toNat, 0, 1, 25, 0]
def k0_off94 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5070 : Index := Scalar.indexCast arg11
  let c0_1785 : Index := 0#32
  let c0_1786 : Index := 0#32
  let c26 : Index := 26#32
  let c0_1787 : Index := 0#32
  ![v5070.toNat, 0, 0, 26, 0]
def k0_off95 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5073 : Index := Scalar.indexCast arg11
  let c0_1788 : Index := 0#32
  let c1_1789 : Index := 1#32
  let c26_1790 : Index := 26#32
  let c0_1791 : Index := 0#32
  ![v5073.toNat, 0, 1, 26, 0]
def k0_off96 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5178 : Index := Scalar.indexCast arg11
  let c0_1821 : Index := 0#32
  let c0_1822 : Index := 0#32
  let c27 : Index := 27#32
  let c0_1823 : Index := 0#32
  ![v5178.toNat, 0, 0, 27, 0]
def k0_off97 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5181 : Index := Scalar.indexCast arg11
  let c0_1824 : Index := 0#32
  let c1_1825 : Index := 1#32
  let c27_1826 : Index := 27#32
  let c0_1827 : Index := 0#32
  ![v5181.toNat, 0, 1, 27, 0]
def k0_off98 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5286 : Index := Scalar.indexCast arg11
  let c0_1857 : Index := 0#32
  let c0_1858 : Index := 0#32
  let c28 : Index := 28#32
  let c0_1859 : Index := 0#32
  ![v5286.toNat, 0, 0, 28, 0]
def k0_off99 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5289 : Index := Scalar.indexCast arg11
  let c0_1860 : Index := 0#32
  let c1_1861 : Index := 1#32
  let c28_1862 : Index := 28#32
  let c0_1863 : Index := 0#32
  ![v5289.toNat, 0, 1, 28, 0]
def k0_off100 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5394 : Index := Scalar.indexCast arg11
  let c0_1893 : Index := 0#32
  let c0_1894 : Index := 0#32
  let c29 : Index := 29#32
  let c0_1895 : Index := 0#32
  ![v5394.toNat, 0, 0, 29, 0]
def k0_off101 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5397 : Index := Scalar.indexCast arg11
  let c0_1896 : Index := 0#32
  let c1_1897 : Index := 1#32
  let c29_1898 : Index := 29#32
  let c0_1899 : Index := 0#32
  ![v5397.toNat, 0, 1, 29, 0]
def k0_off102 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5502 : Index := Scalar.indexCast arg11
  let c0_1929 : Index := 0#32
  let c0_1930 : Index := 0#32
  let c30 : Index := 30#32
  let c0_1931 : Index := 0#32
  ![v5502.toNat, 0, 0, 30, 0]
def k0_off103 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5505 : Index := Scalar.indexCast arg11
  let c0_1932 : Index := 0#32
  let c1_1933 : Index := 1#32
  let c30_1934 : Index := 30#32
  let c0_1935 : Index := 0#32
  ![v5505.toNat, 0, 1, 30, 0]
def k0_off104 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5610 : Index := Scalar.indexCast arg11
  let c0_1965 : Index := 0#32
  let c0_1966 : Index := 0#32
  let c31 : Index := 31#32
  let c0_1967 : Index := 0#32
  ![v5610.toNat, 0, 0, 31, 0]
def k0_off105 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5613 : Index := Scalar.indexCast arg11
  let c0_1968 : Index := 0#32
  let c1_1969 : Index := 1#32
  let c31_1970 : Index := 31#32
  let c0_1971 : Index := 0#32
  ![v5613.toNat, 0, 1, 31, 0]
def k0_mult17 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2005 : BitVec 32 := 512#32
  let v5733 : BitVec 32 := Scalar.muli arg11 c512_i32_2005
  v5733
def k0_off106 (k0_t1 : Fin k0_t1_loop.trips) (c0_i32_2006 : BitVec 32) : Fin 2 → Nat :=
  let c0_i32_140 : BitVec 32 := 0#32
  let c1_i32_141 : BitVec 32 := 1#32
  let arg11 : BitVec 32 := Scf.iv c0_i32_140 c1_i32_141 k0_t1
  let c512_i32_2005 : BitVec 32 := 512#32
  let v5733 : BitVec 32 := Scalar.muli arg11 c512_i32_2005
  let v5734 : BitVec 32 := v5733
  let v5735 : BitVec 32 := Scalar.addi v5734 c0_i32_2006
  let v5737 : Index := Scalar.indexCast v5735
  let c128_2007 : Index := 128#32
  ![v5737.toNat, 128]
def k0_mult18 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2008 : BitVec 32 := 512#32
  let v5739 : BitVec 32 := Scalar.muli arg11 c512_i32_2008
  v5739
def k0_mult19 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2011 : BitVec 32 := 512#32
  let v5745 : BitVec 32 := Scalar.muli arg11 c512_i32_2011
  v5745
def k0_mult20 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2014 : BitVec 32 := 512#32
  let v5753 : BitVec 32 := Scalar.muli arg11 c512_i32_2014
  v5753
def k0_off107 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5766 : Index := Scalar.indexCast arg11
  let c1_2018 : Index := 1#32
  let c0_2019 : Index := 0#32
  let c16_2020 : Index := 16#32
  let c0_2021 : Index := 0#32
  ![v5766.toNat, 1, 0, 16, 0]
def k0_off108 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5769 : Index := Scalar.indexCast arg11
  let c1_2022 : Index := 1#32
  let c1_2023 : Index := 1#32
  let c16_2024 : Index := 16#32
  let c0_2025 : Index := 0#32
  ![v5769.toNat, 1, 1, 16, 0]
def k0_off109 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5874 : Index := Scalar.indexCast arg11
  let c1_2055 : Index := 1#32
  let c0_2056 : Index := 0#32
  let c17_2057 : Index := 17#32
  let c0_2058 : Index := 0#32
  ![v5874.toNat, 1, 0, 17, 0]
def k0_off110 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5877 : Index := Scalar.indexCast arg11
  let c1_2059 : Index := 1#32
  let c1_2060 : Index := 1#32
  let c17_2061 : Index := 17#32
  let c0_2062 : Index := 0#32
  ![v5877.toNat, 1, 1, 17, 0]
def k0_off111 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5982 : Index := Scalar.indexCast arg11
  let c1_2092 : Index := 1#32
  let c0_2093 : Index := 0#32
  let c18_2094 : Index := 18#32
  let c0_2095 : Index := 0#32
  ![v5982.toNat, 1, 0, 18, 0]
def k0_off112 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v5985 : Index := Scalar.indexCast arg11
  let c1_2096 : Index := 1#32
  let c1_2097 : Index := 1#32
  let c18_2098 : Index := 18#32
  let c0_2099 : Index := 0#32
  ![v5985.toNat, 1, 1, 18, 0]
def k0_off113 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6090 : Index := Scalar.indexCast arg11
  let c1_2129 : Index := 1#32
  let c0_2130 : Index := 0#32
  let c19_2131 : Index := 19#32
  let c0_2132 : Index := 0#32
  ![v6090.toNat, 1, 0, 19, 0]
def k0_off114 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6093 : Index := Scalar.indexCast arg11
  let c1_2133 : Index := 1#32
  let c1_2134 : Index := 1#32
  let c19_2135 : Index := 19#32
  let c0_2136 : Index := 0#32
  ![v6093.toNat, 1, 1, 19, 0]
def k0_off115 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6198 : Index := Scalar.indexCast arg11
  let c1_2166 : Index := 1#32
  let c0_2167 : Index := 0#32
  let c20_2168 : Index := 20#32
  let c0_2169 : Index := 0#32
  ![v6198.toNat, 1, 0, 20, 0]
def k0_off116 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6201 : Index := Scalar.indexCast arg11
  let c1_2170 : Index := 1#32
  let c1_2171 : Index := 1#32
  let c20_2172 : Index := 20#32
  let c0_2173 : Index := 0#32
  ![v6201.toNat, 1, 1, 20, 0]
def k0_off117 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6306 : Index := Scalar.indexCast arg11
  let c1_2203 : Index := 1#32
  let c0_2204 : Index := 0#32
  let c21_2205 : Index := 21#32
  let c0_2206 : Index := 0#32
  ![v6306.toNat, 1, 0, 21, 0]
def k0_off118 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6309 : Index := Scalar.indexCast arg11
  let c1_2207 : Index := 1#32
  let c1_2208 : Index := 1#32
  let c21_2209 : Index := 21#32
  let c0_2210 : Index := 0#32
  ![v6309.toNat, 1, 1, 21, 0]
def k0_off119 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6414 : Index := Scalar.indexCast arg11
  let c1_2240 : Index := 1#32
  let c0_2241 : Index := 0#32
  let c22_2242 : Index := 22#32
  let c0_2243 : Index := 0#32
  ![v6414.toNat, 1, 0, 22, 0]
def k0_off120 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6417 : Index := Scalar.indexCast arg11
  let c1_2244 : Index := 1#32
  let c1_2245 : Index := 1#32
  let c22_2246 : Index := 22#32
  let c0_2247 : Index := 0#32
  ![v6417.toNat, 1, 1, 22, 0]
def k0_off121 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6522 : Index := Scalar.indexCast arg11
  let c1_2277 : Index := 1#32
  let c0_2278 : Index := 0#32
  let c23_2279 : Index := 23#32
  let c0_2280 : Index := 0#32
  ![v6522.toNat, 1, 0, 23, 0]
def k0_off122 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6525 : Index := Scalar.indexCast arg11
  let c1_2281 : Index := 1#32
  let c1_2282 : Index := 1#32
  let c23_2283 : Index := 23#32
  let c0_2284 : Index := 0#32
  ![v6525.toNat, 1, 1, 23, 0]
def k0_mult21 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2314 : BitVec 32 := 512#32
  let v6629 : BitVec 32 := Scalar.muli arg11 c512_i32_2314
  v6629
def k0_mult22 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2317 : BitVec 32 := 512#32
  let v6637 : BitVec 32 := Scalar.muli arg11 c512_i32_2317
  v6637
def k0_off123 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6650 : Index := Scalar.indexCast arg11
  let c1_2321 : Index := 1#32
  let c0_2322 : Index := 0#32
  let c24_2323 : Index := 24#32
  let c0_2324 : Index := 0#32
  ![v6650.toNat, 1, 0, 24, 0]
def k0_off124 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6653 : Index := Scalar.indexCast arg11
  let c1_2325 : Index := 1#32
  let c1_2326 : Index := 1#32
  let c24_2327 : Index := 24#32
  let c0_2328 : Index := 0#32
  ![v6653.toNat, 1, 1, 24, 0]
def k0_off125 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6758 : Index := Scalar.indexCast arg11
  let c1_2358 : Index := 1#32
  let c0_2359 : Index := 0#32
  let c25_2360 : Index := 25#32
  let c0_2361 : Index := 0#32
  ![v6758.toNat, 1, 0, 25, 0]
def k0_off126 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6761 : Index := Scalar.indexCast arg11
  let c1_2362 : Index := 1#32
  let c1_2363 : Index := 1#32
  let c25_2364 : Index := 25#32
  let c0_2365 : Index := 0#32
  ![v6761.toNat, 1, 1, 25, 0]
def k0_off127 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6866 : Index := Scalar.indexCast arg11
  let c1_2395 : Index := 1#32
  let c0_2396 : Index := 0#32
  let c26_2397 : Index := 26#32
  let c0_2398 : Index := 0#32
  ![v6866.toNat, 1, 0, 26, 0]
def k0_off128 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6869 : Index := Scalar.indexCast arg11
  let c1_2399 : Index := 1#32
  let c1_2400 : Index := 1#32
  let c26_2401 : Index := 26#32
  let c0_2402 : Index := 0#32
  ![v6869.toNat, 1, 1, 26, 0]
def k0_off129 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6974 : Index := Scalar.indexCast arg11
  let c1_2432 : Index := 1#32
  let c0_2433 : Index := 0#32
  let c27_2434 : Index := 27#32
  let c0_2435 : Index := 0#32
  ![v6974.toNat, 1, 0, 27, 0]
def k0_off130 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v6977 : Index := Scalar.indexCast arg11
  let c1_2436 : Index := 1#32
  let c1_2437 : Index := 1#32
  let c27_2438 : Index := 27#32
  let c0_2439 : Index := 0#32
  ![v6977.toNat, 1, 1, 27, 0]
def k0_off131 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7082 : Index := Scalar.indexCast arg11
  let c1_2469 : Index := 1#32
  let c0_2470 : Index := 0#32
  let c28_2471 : Index := 28#32
  let c0_2472 : Index := 0#32
  ![v7082.toNat, 1, 0, 28, 0]
def k0_off132 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7085 : Index := Scalar.indexCast arg11
  let c1_2473 : Index := 1#32
  let c1_2474 : Index := 1#32
  let c28_2475 : Index := 28#32
  let c0_2476 : Index := 0#32
  ![v7085.toNat, 1, 1, 28, 0]
def k0_off133 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7190 : Index := Scalar.indexCast arg11
  let c1_2506 : Index := 1#32
  let c0_2507 : Index := 0#32
  let c29_2508 : Index := 29#32
  let c0_2509 : Index := 0#32
  ![v7190.toNat, 1, 0, 29, 0]
def k0_off134 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7193 : Index := Scalar.indexCast arg11
  let c1_2510 : Index := 1#32
  let c1_2511 : Index := 1#32
  let c29_2512 : Index := 29#32
  let c0_2513 : Index := 0#32
  ![v7193.toNat, 1, 1, 29, 0]
def k0_off135 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7298 : Index := Scalar.indexCast arg11
  let c1_2543 : Index := 1#32
  let c0_2544 : Index := 0#32
  let c30_2545 : Index := 30#32
  let c0_2546 : Index := 0#32
  ![v7298.toNat, 1, 0, 30, 0]
def k0_off136 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7301 : Index := Scalar.indexCast arg11
  let c1_2547 : Index := 1#32
  let c1_2548 : Index := 1#32
  let c30_2549 : Index := 30#32
  let c0_2550 : Index := 0#32
  ![v7301.toNat, 1, 1, 30, 0]
def k0_off137 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7406 : Index := Scalar.indexCast arg11
  let c1_2580 : Index := 1#32
  let c0_2581 : Index := 0#32
  let c31_2582 : Index := 31#32
  let c0_2583 : Index := 0#32
  ![v7406.toNat, 1, 0, 31, 0]
def k0_off138 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7409 : Index := Scalar.indexCast arg11
  let c1_2584 : Index := 1#32
  let c1_2585 : Index := 1#32
  let c31_2586 : Index := 31#32
  let c0_2587 : Index := 0#32
  ![v7409.toNat, 1, 1, 31, 0]
def k0_mult23 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2621 : BitVec 32 := 512#32
  let v7529 : BitVec 32 := Scalar.muli arg11 c512_i32_2621
  v7529
def k0_mult24 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2624 : BitVec 32 := 512#32
  let v7535 : BitVec 32 := Scalar.muli arg11 c512_i32_2624
  v7535
def k0_off139 (k0_t1 : Fin k0_t1_loop.trips) (c0_i32_2628 : BitVec 32) : Fin 4 → Nat :=
  let c64 : Index := 64#32
  let c2_i32_2627 : BitVec 32 := 2#32
  let c0_i32_140 : BitVec 32 := 0#32
  let c1_i32_141 : BitVec 32 := 1#32
  let arg11 : BitVec 32 := Scf.iv c0_i32_140 c1_i32_141 k0_t1
  let v7541 : BitVec 32 := Scalar.muli c2_i32_2627 arg11
  let v7542 : BitVec 32 := Scalar.addi v7541 c0_i32_2628
  let v7543 : Index := Scalar.indexCast v7542
  let c0_2629 : Index := 0#32
  let c0_2630 : Index := 0#32
  ![64, v7543.toNat, 0, 0]
def k0_off140 (k0_t1 : Fin k0_t1_loop.trips) (c0_i32_2643 : BitVec 32) : Fin 4 → Nat :=
  let c80 : Index := 80#32
  let c2_i32_2642 : BitVec 32 := 2#32
  let c0_i32_140 : BitVec 32 := 0#32
  let c1_i32_141 : BitVec 32 := 1#32
  let arg11 : BitVec 32 := Scf.iv c0_i32_140 c1_i32_141 k0_t1
  let v7559 : BitVec 32 := Scalar.muli c2_i32_2642 arg11
  let v7560 : BitVec 32 := Scalar.addi v7559 c0_i32_2643
  let v7561 : Index := Scalar.indexCast v7560
  let c0_2644 : Index := 0#32
  let c0_2645 : Index := 0#32
  ![80, v7561.toNat, 0, 0]
def k0_mult25 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2657 : BitVec 32 := 512#32
  let v7577 : BitVec 32 := Scalar.muli arg11 c512_i32_2657
  v7577
def k0_off141 (k0_t1 : Fin k0_t1_loop.trips) (c0_i32_2658 : BitVec 32) : Fin 2 → Nat :=
  let c0_i32_140 : BitVec 32 := 0#32
  let c1_i32_141 : BitVec 32 := 1#32
  let arg11 : BitVec 32 := Scf.iv c0_i32_140 c1_i32_141 k0_t1
  let c512_i32_2657 : BitVec 32 := 512#32
  let v7577 : BitVec 32 := Scalar.muli arg11 c512_i32_2657
  let v7578 : BitVec 32 := v7577
  let v7579 : BitVec 32 := Scalar.addi v7578 c0_i32_2658
  let v7580 : Index := Scalar.indexCast v7579
  let c512_2659 : Index := 512#32
  ![v7580.toNat, 512]
def k0_mult26 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2660 : BitVec 32 := 512#32
  let v7585 : BitVec 32 := Scalar.muli arg11 c512_i32_2660
  v7585
def k0_off142 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7598 : Index := Scalar.indexCast arg11
  let c0_2664 : Index := 0#32
  let c0_2665 : Index := 0#32
  let c32_2666 : Index := 32#32
  let c0_2667 : Index := 0#32
  ![v7598.toNat, 0, 0, 32, 0]
def k0_off143 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7601 : Index := Scalar.indexCast arg11
  let c0_2668 : Index := 0#32
  let c1_2669 : Index := 1#32
  let c32_2670 : Index := 32#32
  let c0_2671 : Index := 0#32
  ![v7601.toNat, 0, 1, 32, 0]
def k0_off144 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7706 : Index := Scalar.indexCast arg11
  let c0_2701 : Index := 0#32
  let c0_2702 : Index := 0#32
  let c33 : Index := 33#32
  let c0_2703 : Index := 0#32
  ![v7706.toNat, 0, 0, 33, 0]
def k0_off145 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7709 : Index := Scalar.indexCast arg11
  let c0_2704 : Index := 0#32
  let c1_2705 : Index := 1#32
  let c33_2706 : Index := 33#32
  let c0_2707 : Index := 0#32
  ![v7709.toNat, 0, 1, 33, 0]
def k0_off146 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7814 : Index := Scalar.indexCast arg11
  let c0_2737 : Index := 0#32
  let c0_2738 : Index := 0#32
  let c34 : Index := 34#32
  let c0_2739 : Index := 0#32
  ![v7814.toNat, 0, 0, 34, 0]
def k0_off147 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7817 : Index := Scalar.indexCast arg11
  let c0_2740 : Index := 0#32
  let c1_2741 : Index := 1#32
  let c34_2742 : Index := 34#32
  let c0_2743 : Index := 0#32
  ![v7817.toNat, 0, 1, 34, 0]
def k0_off148 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7922 : Index := Scalar.indexCast arg11
  let c0_2773 : Index := 0#32
  let c0_2774 : Index := 0#32
  let c35 : Index := 35#32
  let c0_2775 : Index := 0#32
  ![v7922.toNat, 0, 0, 35, 0]
def k0_off149 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v7925 : Index := Scalar.indexCast arg11
  let c0_2776 : Index := 0#32
  let c1_2777 : Index := 1#32
  let c35_2778 : Index := 35#32
  let c0_2779 : Index := 0#32
  ![v7925.toNat, 0, 1, 35, 0]
def k0_off150 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8030 : Index := Scalar.indexCast arg11
  let c0_2809 : Index := 0#32
  let c0_2810 : Index := 0#32
  let c36 : Index := 36#32
  let c0_2811 : Index := 0#32
  ![v8030.toNat, 0, 0, 36, 0]
def k0_off151 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8033 : Index := Scalar.indexCast arg11
  let c0_2812 : Index := 0#32
  let c1_2813 : Index := 1#32
  let c36_2814 : Index := 36#32
  let c0_2815 : Index := 0#32
  ![v8033.toNat, 0, 1, 36, 0]
def k0_off152 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8138 : Index := Scalar.indexCast arg11
  let c0_2845 : Index := 0#32
  let c0_2846 : Index := 0#32
  let c37 : Index := 37#32
  let c0_2847 : Index := 0#32
  ![v8138.toNat, 0, 0, 37, 0]
def k0_off153 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8141 : Index := Scalar.indexCast arg11
  let c0_2848 : Index := 0#32
  let c1_2849 : Index := 1#32
  let c37_2850 : Index := 37#32
  let c0_2851 : Index := 0#32
  ![v8141.toNat, 0, 1, 37, 0]
def k0_off154 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8246 : Index := Scalar.indexCast arg11
  let c0_2881 : Index := 0#32
  let c0_2882 : Index := 0#32
  let c38 : Index := 38#32
  let c0_2883 : Index := 0#32
  ![v8246.toNat, 0, 0, 38, 0]
def k0_off155 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8249 : Index := Scalar.indexCast arg11
  let c0_2884 : Index := 0#32
  let c1_2885 : Index := 1#32
  let c38_2886 : Index := 38#32
  let c0_2887 : Index := 0#32
  ![v8249.toNat, 0, 1, 38, 0]
def k0_off156 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8354 : Index := Scalar.indexCast arg11
  let c0_2917 : Index := 0#32
  let c0_2918 : Index := 0#32
  let c39 : Index := 39#32
  let c0_2919 : Index := 0#32
  ![v8354.toNat, 0, 0, 39, 0]
def k0_off157 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8357 : Index := Scalar.indexCast arg11
  let c0_2920 : Index := 0#32
  let c1_2921 : Index := 1#32
  let c39_2922 : Index := 39#32
  let c0_2923 : Index := 0#32
  ![v8357.toNat, 0, 1, 39, 0]
def k0_mult27 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2953 : BitVec 32 := 512#32
  let v8461 : BitVec 32 := Scalar.muli arg11 c512_i32_2953
  v8461
def k0_off158 (k0_t1 : Fin k0_t1_loop.trips) (c0_i32_2954 : BitVec 32) : Fin 2 → Nat :=
  let c0_i32_140 : BitVec 32 := 0#32
  let c1_i32_141 : BitVec 32 := 1#32
  let arg11 : BitVec 32 := Scf.iv c0_i32_140 c1_i32_141 k0_t1
  let c512_i32_2953 : BitVec 32 := 512#32
  let v8461 : BitVec 32 := Scalar.muli arg11 c512_i32_2953
  let v8462 : BitVec 32 := v8461
  let v8463 : BitVec 32 := Scalar.addi v8462 c0_i32_2954
  let v8464 : Index := Scalar.indexCast v8463
  let c640_2955 : Index := 640#32
  ![v8464.toNat, 640]
def k0_mult28 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_2956 : BitVec 32 := 512#32
  let v8469 : BitVec 32 := Scalar.muli arg11 c512_i32_2956
  v8469
def k0_off159 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8482 : Index := Scalar.indexCast arg11
  let c0_2960 : Index := 0#32
  let c0_2961 : Index := 0#32
  let c40 : Index := 40#32
  let c0_2962 : Index := 0#32
  ![v8482.toNat, 0, 0, 40, 0]
def k0_off160 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8485 : Index := Scalar.indexCast arg11
  let c0_2963 : Index := 0#32
  let c1_2964 : Index := 1#32
  let c40_2965 : Index := 40#32
  let c0_2966 : Index := 0#32
  ![v8485.toNat, 0, 1, 40, 0]
def k0_off161 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8590 : Index := Scalar.indexCast arg11
  let c0_2996 : Index := 0#32
  let c0_2997 : Index := 0#32
  let c41 : Index := 41#32
  let c0_2998 : Index := 0#32
  ![v8590.toNat, 0, 0, 41, 0]
def k0_off162 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8593 : Index := Scalar.indexCast arg11
  let c0_2999 : Index := 0#32
  let c1_3000 : Index := 1#32
  let c41_3001 : Index := 41#32
  let c0_3002 : Index := 0#32
  ![v8593.toNat, 0, 1, 41, 0]
def k0_off163 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8698 : Index := Scalar.indexCast arg11
  let c0_3032 : Index := 0#32
  let c0_3033 : Index := 0#32
  let c42 : Index := 42#32
  let c0_3034 : Index := 0#32
  ![v8698.toNat, 0, 0, 42, 0]
def k0_off164 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8701 : Index := Scalar.indexCast arg11
  let c0_3035 : Index := 0#32
  let c1_3036 : Index := 1#32
  let c42_3037 : Index := 42#32
  let c0_3038 : Index := 0#32
  ![v8701.toNat, 0, 1, 42, 0]
def k0_off165 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8806 : Index := Scalar.indexCast arg11
  let c0_3068 : Index := 0#32
  let c0_3069 : Index := 0#32
  let c43 : Index := 43#32
  let c0_3070 : Index := 0#32
  ![v8806.toNat, 0, 0, 43, 0]
def k0_off166 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8809 : Index := Scalar.indexCast arg11
  let c0_3071 : Index := 0#32
  let c1_3072 : Index := 1#32
  let c43_3073 : Index := 43#32
  let c0_3074 : Index := 0#32
  ![v8809.toNat, 0, 1, 43, 0]
def k0_off167 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8914 : Index := Scalar.indexCast arg11
  let c0_3104 : Index := 0#32
  let c0_3105 : Index := 0#32
  let c44 : Index := 44#32
  let c0_3106 : Index := 0#32
  ![v8914.toNat, 0, 0, 44, 0]
def k0_off168 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v8917 : Index := Scalar.indexCast arg11
  let c0_3107 : Index := 0#32
  let c1_3108 : Index := 1#32
  let c44_3109 : Index := 44#32
  let c0_3110 : Index := 0#32
  ![v8917.toNat, 0, 1, 44, 0]
def k0_off169 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9022 : Index := Scalar.indexCast arg11
  let c0_3140 : Index := 0#32
  let c0_3141 : Index := 0#32
  let c45 : Index := 45#32
  let c0_3142 : Index := 0#32
  ![v9022.toNat, 0, 0, 45, 0]
def k0_off170 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9025 : Index := Scalar.indexCast arg11
  let c0_3143 : Index := 0#32
  let c1_3144 : Index := 1#32
  let c45_3145 : Index := 45#32
  let c0_3146 : Index := 0#32
  ![v9025.toNat, 0, 1, 45, 0]
def k0_off171 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9130 : Index := Scalar.indexCast arg11
  let c0_3176 : Index := 0#32
  let c0_3177 : Index := 0#32
  let c46 : Index := 46#32
  let c0_3178 : Index := 0#32
  ![v9130.toNat, 0, 0, 46, 0]
def k0_off172 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9133 : Index := Scalar.indexCast arg11
  let c0_3179 : Index := 0#32
  let c1_3180 : Index := 1#32
  let c46_3181 : Index := 46#32
  let c0_3182 : Index := 0#32
  ![v9133.toNat, 0, 1, 46, 0]
def k0_off173 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9238 : Index := Scalar.indexCast arg11
  let c0_3212 : Index := 0#32
  let c0_3213 : Index := 0#32
  let c47 : Index := 47#32
  let c0_3214 : Index := 0#32
  ![v9238.toNat, 0, 0, 47, 0]
def k0_off174 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9241 : Index := Scalar.indexCast arg11
  let c0_3215 : Index := 0#32
  let c1_3216 : Index := 1#32
  let c47_3217 : Index := 47#32
  let c0_3218 : Index := 0#32
  ![v9241.toNat, 0, 1, 47, 0]
def k0_mult29 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3252 : BitVec 32 := 512#32
  let v9361 : BitVec 32 := Scalar.muli arg11 c512_i32_3252
  v9361
def k0_off175 (k0_t1 : Fin k0_t1_loop.trips) (c0_i32_3253 : BitVec 32) : Fin 2 → Nat :=
  let c0_i32_140 : BitVec 32 := 0#32
  let c1_i32_141 : BitVec 32 := 1#32
  let arg11 : BitVec 32 := Scf.iv c0_i32_140 c1_i32_141 k0_t1
  let c512_i32_3252 : BitVec 32 := 512#32
  let v9361 : BitVec 32 := Scalar.muli arg11 c512_i32_3252
  let v9362 : BitVec 32 := v9361
  let v9363 : BitVec 32 := Scalar.addi v9362 c0_i32_3253
  let v9365 : Index := Scalar.indexCast v9363
  let c256_3254 : Index := 256#32
  ![v9365.toNat, 256]
def k0_mult30 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3255 : BitVec 32 := 512#32
  let v9367 : BitVec 32 := Scalar.muli arg11 c512_i32_3255
  v9367
def k0_mult31 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3258 : BitVec 32 := 512#32
  let v9373 : BitVec 32 := Scalar.muli arg11 c512_i32_3258
  v9373
def k0_mult32 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3261 : BitVec 32 := 512#32
  let v9381 : BitVec 32 := Scalar.muli arg11 c512_i32_3261
  v9381
def k0_off176 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9394 : Index := Scalar.indexCast arg11
  let c1_3265 : Index := 1#32
  let c0_3266 : Index := 0#32
  let c32_3267 : Index := 32#32
  let c0_3268 : Index := 0#32
  ![v9394.toNat, 1, 0, 32, 0]
def k0_off177 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9397 : Index := Scalar.indexCast arg11
  let c1_3269 : Index := 1#32
  let c1_3270 : Index := 1#32
  let c32_3271 : Index := 32#32
  let c0_3272 : Index := 0#32
  ![v9397.toNat, 1, 1, 32, 0]
def k0_off178 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9502 : Index := Scalar.indexCast arg11
  let c1_3302 : Index := 1#32
  let c0_3303 : Index := 0#32
  let c33_3304 : Index := 33#32
  let c0_3305 : Index := 0#32
  ![v9502.toNat, 1, 0, 33, 0]
def k0_off179 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9505 : Index := Scalar.indexCast arg11
  let c1_3306 : Index := 1#32
  let c1_3307 : Index := 1#32
  let c33_3308 : Index := 33#32
  let c0_3309 : Index := 0#32
  ![v9505.toNat, 1, 1, 33, 0]
def k0_off180 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9610 : Index := Scalar.indexCast arg11
  let c1_3339 : Index := 1#32
  let c0_3340 : Index := 0#32
  let c34_3341 : Index := 34#32
  let c0_3342 : Index := 0#32
  ![v9610.toNat, 1, 0, 34, 0]
def k0_off181 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9613 : Index := Scalar.indexCast arg11
  let c1_3343 : Index := 1#32
  let c1_3344 : Index := 1#32
  let c34_3345 : Index := 34#32
  let c0_3346 : Index := 0#32
  ![v9613.toNat, 1, 1, 34, 0]
def k0_off182 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9718 : Index := Scalar.indexCast arg11
  let c1_3376 : Index := 1#32
  let c0_3377 : Index := 0#32
  let c35_3378 : Index := 35#32
  let c0_3379 : Index := 0#32
  ![v9718.toNat, 1, 0, 35, 0]
def k0_off183 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9721 : Index := Scalar.indexCast arg11
  let c1_3380 : Index := 1#32
  let c1_3381 : Index := 1#32
  let c35_3382 : Index := 35#32
  let c0_3383 : Index := 0#32
  ![v9721.toNat, 1, 1, 35, 0]
def k0_off184 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9826 : Index := Scalar.indexCast arg11
  let c1_3413 : Index := 1#32
  let c0_3414 : Index := 0#32
  let c36_3415 : Index := 36#32
  let c0_3416 : Index := 0#32
  ![v9826.toNat, 1, 0, 36, 0]
def k0_off185 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9829 : Index := Scalar.indexCast arg11
  let c1_3417 : Index := 1#32
  let c1_3418 : Index := 1#32
  let c36_3419 : Index := 36#32
  let c0_3420 : Index := 0#32
  ![v9829.toNat, 1, 1, 36, 0]
def k0_off186 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9934 : Index := Scalar.indexCast arg11
  let c1_3450 : Index := 1#32
  let c0_3451 : Index := 0#32
  let c37_3452 : Index := 37#32
  let c0_3453 : Index := 0#32
  ![v9934.toNat, 1, 0, 37, 0]
def k0_off187 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v9937 : Index := Scalar.indexCast arg11
  let c1_3454 : Index := 1#32
  let c1_3455 : Index := 1#32
  let c37_3456 : Index := 37#32
  let c0_3457 : Index := 0#32
  ![v9937.toNat, 1, 1, 37, 0]
def k0_off188 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10042 : Index := Scalar.indexCast arg11
  let c1_3487 : Index := 1#32
  let c0_3488 : Index := 0#32
  let c38_3489 : Index := 38#32
  let c0_3490 : Index := 0#32
  ![v10042.toNat, 1, 0, 38, 0]
def k0_off189 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10045 : Index := Scalar.indexCast arg11
  let c1_3491 : Index := 1#32
  let c1_3492 : Index := 1#32
  let c38_3493 : Index := 38#32
  let c0_3494 : Index := 0#32
  ![v10045.toNat, 1, 1, 38, 0]
def k0_off190 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10150 : Index := Scalar.indexCast arg11
  let c1_3524 : Index := 1#32
  let c0_3525 : Index := 0#32
  let c39_3526 : Index := 39#32
  let c0_3527 : Index := 0#32
  ![v10150.toNat, 1, 0, 39, 0]
def k0_off191 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10153 : Index := Scalar.indexCast arg11
  let c1_3528 : Index := 1#32
  let c1_3529 : Index := 1#32
  let c39_3530 : Index := 39#32
  let c0_3531 : Index := 0#32
  ![v10153.toNat, 1, 1, 39, 0]
def k0_mult33 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3561 : BitVec 32 := 512#32
  let v10257 : BitVec 32 := Scalar.muli arg11 c512_i32_3561
  v10257
def k0_mult34 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3564 : BitVec 32 := 512#32
  let v10265 : BitVec 32 := Scalar.muli arg11 c512_i32_3564
  v10265
def k0_off192 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10278 : Index := Scalar.indexCast arg11
  let c1_3568 : Index := 1#32
  let c0_3569 : Index := 0#32
  let c40_3570 : Index := 40#32
  let c0_3571 : Index := 0#32
  ![v10278.toNat, 1, 0, 40, 0]
def k0_off193 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10281 : Index := Scalar.indexCast arg11
  let c1_3572 : Index := 1#32
  let c1_3573 : Index := 1#32
  let c40_3574 : Index := 40#32
  let c0_3575 : Index := 0#32
  ![v10281.toNat, 1, 1, 40, 0]
def k0_off194 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10386 : Index := Scalar.indexCast arg11
  let c1_3605 : Index := 1#32
  let c0_3606 : Index := 0#32
  let c41_3607 : Index := 41#32
  let c0_3608 : Index := 0#32
  ![v10386.toNat, 1, 0, 41, 0]
def k0_off195 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10389 : Index := Scalar.indexCast arg11
  let c1_3609 : Index := 1#32
  let c1_3610 : Index := 1#32
  let c41_3611 : Index := 41#32
  let c0_3612 : Index := 0#32
  ![v10389.toNat, 1, 1, 41, 0]
def k0_off196 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10494 : Index := Scalar.indexCast arg11
  let c1_3642 : Index := 1#32
  let c0_3643 : Index := 0#32
  let c42_3644 : Index := 42#32
  let c0_3645 : Index := 0#32
  ![v10494.toNat, 1, 0, 42, 0]
def k0_off197 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10497 : Index := Scalar.indexCast arg11
  let c1_3646 : Index := 1#32
  let c1_3647 : Index := 1#32
  let c42_3648 : Index := 42#32
  let c0_3649 : Index := 0#32
  ![v10497.toNat, 1, 1, 42, 0]
def k0_off198 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10602 : Index := Scalar.indexCast arg11
  let c1_3679 : Index := 1#32
  let c0_3680 : Index := 0#32
  let c43_3681 : Index := 43#32
  let c0_3682 : Index := 0#32
  ![v10602.toNat, 1, 0, 43, 0]
def k0_off199 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10605 : Index := Scalar.indexCast arg11
  let c1_3683 : Index := 1#32
  let c1_3684 : Index := 1#32
  let c43_3685 : Index := 43#32
  let c0_3686 : Index := 0#32
  ![v10605.toNat, 1, 1, 43, 0]
def k0_off200 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10710 : Index := Scalar.indexCast arg11
  let c1_3716 : Index := 1#32
  let c0_3717 : Index := 0#32
  let c44_3718 : Index := 44#32
  let c0_3719 : Index := 0#32
  ![v10710.toNat, 1, 0, 44, 0]
def k0_off201 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10713 : Index := Scalar.indexCast arg11
  let c1_3720 : Index := 1#32
  let c1_3721 : Index := 1#32
  let c44_3722 : Index := 44#32
  let c0_3723 : Index := 0#32
  ![v10713.toNat, 1, 1, 44, 0]
def k0_off202 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10818 : Index := Scalar.indexCast arg11
  let c1_3753 : Index := 1#32
  let c0_3754 : Index := 0#32
  let c45_3755 : Index := 45#32
  let c0_3756 : Index := 0#32
  ![v10818.toNat, 1, 0, 45, 0]
def k0_off203 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10821 : Index := Scalar.indexCast arg11
  let c1_3757 : Index := 1#32
  let c1_3758 : Index := 1#32
  let c45_3759 : Index := 45#32
  let c0_3760 : Index := 0#32
  ![v10821.toNat, 1, 1, 45, 0]
def k0_off204 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10926 : Index := Scalar.indexCast arg11
  let c1_3790 : Index := 1#32
  let c0_3791 : Index := 0#32
  let c46_3792 : Index := 46#32
  let c0_3793 : Index := 0#32
  ![v10926.toNat, 1, 0, 46, 0]
def k0_off205 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v10929 : Index := Scalar.indexCast arg11
  let c1_3794 : Index := 1#32
  let c1_3795 : Index := 1#32
  let c46_3796 : Index := 46#32
  let c0_3797 : Index := 0#32
  ![v10929.toNat, 1, 1, 46, 0]
def k0_off206 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11034 : Index := Scalar.indexCast arg11
  let c1_3827 : Index := 1#32
  let c0_3828 : Index := 0#32
  let c47_3829 : Index := 47#32
  let c0_3830 : Index := 0#32
  ![v11034.toNat, 1, 0, 47, 0]
def k0_off207 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11037 : Index := Scalar.indexCast arg11
  let c1_3831 : Index := 1#32
  let c1_3832 : Index := 1#32
  let c47_3833 : Index := 47#32
  let c0_3834 : Index := 0#32
  ![v11037.toNat, 1, 1, 47, 0]
def k0_mult35 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3868 : BitVec 32 := 512#32
  let v11157 : BitVec 32 := Scalar.muli arg11 c512_i32_3868
  v11157
def k0_mult36 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3871 : BitVec 32 := 512#32
  let v11163 : BitVec 32 := Scalar.muli arg11 c512_i32_3871
  v11163
def k0_off208 (k0_t1 : Fin k0_t1_loop.trips) (c0_i32_3875 : BitVec 32) : Fin 4 → Nat :=
  let c96 : Index := 96#32
  let c2_i32_3874 : BitVec 32 := 2#32
  let c0_i32_140 : BitVec 32 := 0#32
  let c1_i32_141 : BitVec 32 := 1#32
  let arg11 : BitVec 32 := Scf.iv c0_i32_140 c1_i32_141 k0_t1
  let v11169 : BitVec 32 := Scalar.muli c2_i32_3874 arg11
  let v11170 : BitVec 32 := Scalar.addi v11169 c0_i32_3875
  let v11171 : Index := Scalar.indexCast v11170
  let c0_3876 : Index := 0#32
  let c0_3877 : Index := 0#32
  ![96, v11171.toNat, 0, 0]
def k0_off209 (k0_t1 : Fin k0_t1_loop.trips) (c0_i32_3890 : BitVec 32) : Fin 4 → Nat :=
  let c112 : Index := 112#32
  let c2_i32_3889 : BitVec 32 := 2#32
  let c0_i32_140 : BitVec 32 := 0#32
  let c1_i32_141 : BitVec 32 := 1#32
  let arg11 : BitVec 32 := Scf.iv c0_i32_140 c1_i32_141 k0_t1
  let v11187 : BitVec 32 := Scalar.muli c2_i32_3889 arg11
  let v11188 : BitVec 32 := Scalar.addi v11187 c0_i32_3890
  let v11189 : Index := Scalar.indexCast v11188
  let c0_3891 : Index := 0#32
  let c0_3892 : Index := 0#32
  ![112, v11189.toNat, 0, 0]
def k0_mult37 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3904 : BitVec 32 := 512#32
  let v11205 : BitVec 32 := Scalar.muli arg11 c512_i32_3904
  v11205
def k0_off210 (k0_t1 : Fin k0_t1_loop.trips) (c0_i32_3905 : BitVec 32) : Fin 2 → Nat :=
  let c0_i32_140 : BitVec 32 := 0#32
  let c1_i32_141 : BitVec 32 := 1#32
  let arg11 : BitVec 32 := Scf.iv c0_i32_140 c1_i32_141 k0_t1
  let c512_i32_3904 : BitVec 32 := 512#32
  let v11205 : BitVec 32 := Scalar.muli arg11 c512_i32_3904
  let v11206 : BitVec 32 := v11205
  let v11207 : BitVec 32 := Scalar.addi v11206 c0_i32_3905
  let v11208 : Index := Scalar.indexCast v11207
  let c768_3906 : Index := 768#32
  ![v11208.toNat, 768]
def k0_mult38 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_3907 : BitVec 32 := 512#32
  let v11213 : BitVec 32 := Scalar.muli arg11 c512_i32_3907
  v11213
def k0_off211 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11226 : Index := Scalar.indexCast arg11
  let c0_3911 : Index := 0#32
  let c0_3912 : Index := 0#32
  let c48_3913 : Index := 48#32
  let c0_3914 : Index := 0#32
  ![v11226.toNat, 0, 0, 48, 0]
def k0_off212 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11229 : Index := Scalar.indexCast arg11
  let c0_3915 : Index := 0#32
  let c1_3916 : Index := 1#32
  let c48_3917 : Index := 48#32
  let c0_3918 : Index := 0#32
  ![v11229.toNat, 0, 1, 48, 0]
def k0_off213 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11334 : Index := Scalar.indexCast arg11
  let c0_3948 : Index := 0#32
  let c0_3949 : Index := 0#32
  let c49 : Index := 49#32
  let c0_3950 : Index := 0#32
  ![v11334.toNat, 0, 0, 49, 0]
def k0_off214 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11337 : Index := Scalar.indexCast arg11
  let c0_3951 : Index := 0#32
  let c1_3952 : Index := 1#32
  let c49_3953 : Index := 49#32
  let c0_3954 : Index := 0#32
  ![v11337.toNat, 0, 1, 49, 0]
def k0_off215 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11442 : Index := Scalar.indexCast arg11
  let c0_3984 : Index := 0#32
  let c0_3985 : Index := 0#32
  let c50 : Index := 50#32
  let c0_3986 : Index := 0#32
  ![v11442.toNat, 0, 0, 50, 0]
def k0_off216 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11445 : Index := Scalar.indexCast arg11
  let c0_3987 : Index := 0#32
  let c1_3988 : Index := 1#32
  let c50_3989 : Index := 50#32
  let c0_3990 : Index := 0#32
  ![v11445.toNat, 0, 1, 50, 0]
def k0_off217 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11550 : Index := Scalar.indexCast arg11
  let c0_4020 : Index := 0#32
  let c0_4021 : Index := 0#32
  let c51 : Index := 51#32
  let c0_4022 : Index := 0#32
  ![v11550.toNat, 0, 0, 51, 0]
def k0_off218 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11553 : Index := Scalar.indexCast arg11
  let c0_4023 : Index := 0#32
  let c1_4024 : Index := 1#32
  let c51_4025 : Index := 51#32
  let c0_4026 : Index := 0#32
  ![v11553.toNat, 0, 1, 51, 0]
def k0_off219 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11658 : Index := Scalar.indexCast arg11
  let c0_4056 : Index := 0#32
  let c0_4057 : Index := 0#32
  let c52 : Index := 52#32
  let c0_4058 : Index := 0#32
  ![v11658.toNat, 0, 0, 52, 0]
def k0_off220 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11661 : Index := Scalar.indexCast arg11
  let c0_4059 : Index := 0#32
  let c1_4060 : Index := 1#32
  let c52_4061 : Index := 52#32
  let c0_4062 : Index := 0#32
  ![v11661.toNat, 0, 1, 52, 0]
def k0_off221 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11766 : Index := Scalar.indexCast arg11
  let c0_4092 : Index := 0#32
  let c0_4093 : Index := 0#32
  let c53 : Index := 53#32
  let c0_4094 : Index := 0#32
  ![v11766.toNat, 0, 0, 53, 0]
def k0_off222 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11769 : Index := Scalar.indexCast arg11
  let c0_4095 : Index := 0#32
  let c1_4096 : Index := 1#32
  let c53_4097 : Index := 53#32
  let c0_4098 : Index := 0#32
  ![v11769.toNat, 0, 1, 53, 0]
def k0_off223 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11874 : Index := Scalar.indexCast arg11
  let c0_4128 : Index := 0#32
  let c0_4129 : Index := 0#32
  let c54 : Index := 54#32
  let c0_4130 : Index := 0#32
  ![v11874.toNat, 0, 0, 54, 0]
def k0_off224 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11877 : Index := Scalar.indexCast arg11
  let c0_4131 : Index := 0#32
  let c1_4132 : Index := 1#32
  let c54_4133 : Index := 54#32
  let c0_4134 : Index := 0#32
  ![v11877.toNat, 0, 1, 54, 0]
def k0_off225 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11982 : Index := Scalar.indexCast arg11
  let c0_4164 : Index := 0#32
  let c0_4165 : Index := 0#32
  let c55 : Index := 55#32
  let c0_4166 : Index := 0#32
  ![v11982.toNat, 0, 0, 55, 0]
def k0_off226 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v11985 : Index := Scalar.indexCast arg11
  let c0_4167 : Index := 0#32
  let c1_4168 : Index := 1#32
  let c55_4169 : Index := 55#32
  let c0_4170 : Index := 0#32
  ![v11985.toNat, 0, 1, 55, 0]
def k0_mult39 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4200 : BitVec 32 := 512#32
  let v12089 : BitVec 32 := Scalar.muli arg11 c512_i32_4200
  v12089
def k0_off227 (k0_t1 : Fin k0_t1_loop.trips) (c0_i32_4201 : BitVec 32) : Fin 2 → Nat :=
  let c0_i32_140 : BitVec 32 := 0#32
  let c1_i32_141 : BitVec 32 := 1#32
  let arg11 : BitVec 32 := Scf.iv c0_i32_140 c1_i32_141 k0_t1
  let c512_i32_4200 : BitVec 32 := 512#32
  let v12089 : BitVec 32 := Scalar.muli arg11 c512_i32_4200
  let v12090 : BitVec 32 := v12089
  let v12091 : BitVec 32 := Scalar.addi v12090 c0_i32_4201
  let v12092 : Index := Scalar.indexCast v12091
  let c896_4202 : Index := 896#32
  ![v12092.toNat, 896]
def k0_mult40 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4203 : BitVec 32 := 512#32
  let v12097 : BitVec 32 := Scalar.muli arg11 c512_i32_4203
  v12097
def k0_off228 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12110 : Index := Scalar.indexCast arg11
  let c0_4207 : Index := 0#32
  let c0_4208 : Index := 0#32
  let c56 : Index := 56#32
  let c0_4209 : Index := 0#32
  ![v12110.toNat, 0, 0, 56, 0]
def k0_off229 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12113 : Index := Scalar.indexCast arg11
  let c0_4210 : Index := 0#32
  let c1_4211 : Index := 1#32
  let c56_4212 : Index := 56#32
  let c0_4213 : Index := 0#32
  ![v12113.toNat, 0, 1, 56, 0]
def k0_off230 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12218 : Index := Scalar.indexCast arg11
  let c0_4243 : Index := 0#32
  let c0_4244 : Index := 0#32
  let c57 : Index := 57#32
  let c0_4245 : Index := 0#32
  ![v12218.toNat, 0, 0, 57, 0]
def k0_off231 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12221 : Index := Scalar.indexCast arg11
  let c0_4246 : Index := 0#32
  let c1_4247 : Index := 1#32
  let c57_4248 : Index := 57#32
  let c0_4249 : Index := 0#32
  ![v12221.toNat, 0, 1, 57, 0]
def k0_off232 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12326 : Index := Scalar.indexCast arg11
  let c0_4279 : Index := 0#32
  let c0_4280 : Index := 0#32
  let c58 : Index := 58#32
  let c0_4281 : Index := 0#32
  ![v12326.toNat, 0, 0, 58, 0]
def k0_off233 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12329 : Index := Scalar.indexCast arg11
  let c0_4282 : Index := 0#32
  let c1_4283 : Index := 1#32
  let c58_4284 : Index := 58#32
  let c0_4285 : Index := 0#32
  ![v12329.toNat, 0, 1, 58, 0]
def k0_off234 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12434 : Index := Scalar.indexCast arg11
  let c0_4315 : Index := 0#32
  let c0_4316 : Index := 0#32
  let c59 : Index := 59#32
  let c0_4317 : Index := 0#32
  ![v12434.toNat, 0, 0, 59, 0]
def k0_off235 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12437 : Index := Scalar.indexCast arg11
  let c0_4318 : Index := 0#32
  let c1_4319 : Index := 1#32
  let c59_4320 : Index := 59#32
  let c0_4321 : Index := 0#32
  ![v12437.toNat, 0, 1, 59, 0]
def k0_off236 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12542 : Index := Scalar.indexCast arg11
  let c0_4351 : Index := 0#32
  let c0_4352 : Index := 0#32
  let c60 : Index := 60#32
  let c0_4353 : Index := 0#32
  ![v12542.toNat, 0, 0, 60, 0]
def k0_off237 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12545 : Index := Scalar.indexCast arg11
  let c0_4354 : Index := 0#32
  let c1_4355 : Index := 1#32
  let c60_4356 : Index := 60#32
  let c0_4357 : Index := 0#32
  ![v12545.toNat, 0, 1, 60, 0]
def k0_off238 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12650 : Index := Scalar.indexCast arg11
  let c0_4387 : Index := 0#32
  let c0_4388 : Index := 0#32
  let c61 : Index := 61#32
  let c0_4389 : Index := 0#32
  ![v12650.toNat, 0, 0, 61, 0]
def k0_off239 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12653 : Index := Scalar.indexCast arg11
  let c0_4390 : Index := 0#32
  let c1_4391 : Index := 1#32
  let c61_4392 : Index := 61#32
  let c0_4393 : Index := 0#32
  ![v12653.toNat, 0, 1, 61, 0]
def k0_off240 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12758 : Index := Scalar.indexCast arg11
  let c0_4423 : Index := 0#32
  let c0_4424 : Index := 0#32
  let c62 : Index := 62#32
  let c0_4425 : Index := 0#32
  ![v12758.toNat, 0, 0, 62, 0]
def k0_off241 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12761 : Index := Scalar.indexCast arg11
  let c0_4426 : Index := 0#32
  let c1_4427 : Index := 1#32
  let c62_4428 : Index := 62#32
  let c0_4429 : Index := 0#32
  ![v12761.toNat, 0, 1, 62, 0]
def k0_off242 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12866 : Index := Scalar.indexCast arg11
  let c0_4459 : Index := 0#32
  let c0_4460 : Index := 0#32
  let c63 : Index := 63#32
  let c0_4461 : Index := 0#32
  ![v12866.toNat, 0, 0, 63, 0]
def k0_off243 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v12869 : Index := Scalar.indexCast arg11
  let c0_4462 : Index := 0#32
  let c1_4463 : Index := 1#32
  let c63_4464 : Index := 63#32
  let c0_4465 : Index := 0#32
  ![v12869.toNat, 0, 1, 63, 0]
def k0_mult41 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4499 : BitVec 32 := 512#32
  let v12989 : BitVec 32 := Scalar.muli arg11 c512_i32_4499
  v12989
def k0_off244 (k0_t1 : Fin k0_t1_loop.trips) (c0_i32_4500 : BitVec 32) : Fin 2 → Nat :=
  let c0_i32_140 : BitVec 32 := 0#32
  let c1_i32_141 : BitVec 32 := 1#32
  let arg11 : BitVec 32 := Scf.iv c0_i32_140 c1_i32_141 k0_t1
  let c512_i32_4499 : BitVec 32 := 512#32
  let v12989 : BitVec 32 := Scalar.muli arg11 c512_i32_4499
  let v12990 : BitVec 32 := v12989
  let v12991 : BitVec 32 := Scalar.addi v12990 c0_i32_4500
  let v12993 : Index := Scalar.indexCast v12991
  let c384_4501 : Index := 384#32
  ![v12993.toNat, 384]
def k0_mult42 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4502 : BitVec 32 := 512#32
  let v12995 : BitVec 32 := Scalar.muli arg11 c512_i32_4502
  v12995
def k0_mult43 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4505 : BitVec 32 := 512#32
  let v13001 : BitVec 32 := Scalar.muli arg11 c512_i32_4505
  v13001
def k0_mult44 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4508 : BitVec 32 := 512#32
  let v13009 : BitVec 32 := Scalar.muli arg11 c512_i32_4508
  v13009
def k0_off245 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13022 : Index := Scalar.indexCast arg11
  let c1_4512 : Index := 1#32
  let c0_4513 : Index := 0#32
  let c48_4514 : Index := 48#32
  let c0_4515 : Index := 0#32
  ![v13022.toNat, 1, 0, 48, 0]
def k0_off246 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13025 : Index := Scalar.indexCast arg11
  let c1_4516 : Index := 1#32
  let c1_4517 : Index := 1#32
  let c48_4518 : Index := 48#32
  let c0_4519 : Index := 0#32
  ![v13025.toNat, 1, 1, 48, 0]
def k0_off247 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13130 : Index := Scalar.indexCast arg11
  let c1_4549 : Index := 1#32
  let c0_4550 : Index := 0#32
  let c49_4551 : Index := 49#32
  let c0_4552 : Index := 0#32
  ![v13130.toNat, 1, 0, 49, 0]
def k0_off248 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13133 : Index := Scalar.indexCast arg11
  let c1_4553 : Index := 1#32
  let c1_4554 : Index := 1#32
  let c49_4555 : Index := 49#32
  let c0_4556 : Index := 0#32
  ![v13133.toNat, 1, 1, 49, 0]
def k0_off249 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13238 : Index := Scalar.indexCast arg11
  let c1_4586 : Index := 1#32
  let c0_4587 : Index := 0#32
  let c50_4588 : Index := 50#32
  let c0_4589 : Index := 0#32
  ![v13238.toNat, 1, 0, 50, 0]
def k0_off250 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13241 : Index := Scalar.indexCast arg11
  let c1_4590 : Index := 1#32
  let c1_4591 : Index := 1#32
  let c50_4592 : Index := 50#32
  let c0_4593 : Index := 0#32
  ![v13241.toNat, 1, 1, 50, 0]
def k0_off251 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13346 : Index := Scalar.indexCast arg11
  let c1_4623 : Index := 1#32
  let c0_4624 : Index := 0#32
  let c51_4625 : Index := 51#32
  let c0_4626 : Index := 0#32
  ![v13346.toNat, 1, 0, 51, 0]
def k0_off252 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13349 : Index := Scalar.indexCast arg11
  let c1_4627 : Index := 1#32
  let c1_4628 : Index := 1#32
  let c51_4629 : Index := 51#32
  let c0_4630 : Index := 0#32
  ![v13349.toNat, 1, 1, 51, 0]
def k0_off253 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13454 : Index := Scalar.indexCast arg11
  let c1_4660 : Index := 1#32
  let c0_4661 : Index := 0#32
  let c52_4662 : Index := 52#32
  let c0_4663 : Index := 0#32
  ![v13454.toNat, 1, 0, 52, 0]
def k0_off254 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13457 : Index := Scalar.indexCast arg11
  let c1_4664 : Index := 1#32
  let c1_4665 : Index := 1#32
  let c52_4666 : Index := 52#32
  let c0_4667 : Index := 0#32
  ![v13457.toNat, 1, 1, 52, 0]
def k0_off255 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13562 : Index := Scalar.indexCast arg11
  let c1_4697 : Index := 1#32
  let c0_4698 : Index := 0#32
  let c53_4699 : Index := 53#32
  let c0_4700 : Index := 0#32
  ![v13562.toNat, 1, 0, 53, 0]
def k0_off256 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13565 : Index := Scalar.indexCast arg11
  let c1_4701 : Index := 1#32
  let c1_4702 : Index := 1#32
  let c53_4703 : Index := 53#32
  let c0_4704 : Index := 0#32
  ![v13565.toNat, 1, 1, 53, 0]
def k0_off257 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13670 : Index := Scalar.indexCast arg11
  let c1_4734 : Index := 1#32
  let c0_4735 : Index := 0#32
  let c54_4736 : Index := 54#32
  let c0_4737 : Index := 0#32
  ![v13670.toNat, 1, 0, 54, 0]
def k0_off258 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13673 : Index := Scalar.indexCast arg11
  let c1_4738 : Index := 1#32
  let c1_4739 : Index := 1#32
  let c54_4740 : Index := 54#32
  let c0_4741 : Index := 0#32
  ![v13673.toNat, 1, 1, 54, 0]
def k0_off259 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13778 : Index := Scalar.indexCast arg11
  let c1_4771 : Index := 1#32
  let c0_4772 : Index := 0#32
  let c55_4773 : Index := 55#32
  let c0_4774 : Index := 0#32
  ![v13778.toNat, 1, 0, 55, 0]
def k0_off260 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13781 : Index := Scalar.indexCast arg11
  let c1_4775 : Index := 1#32
  let c1_4776 : Index := 1#32
  let c55_4777 : Index := 55#32
  let c0_4778 : Index := 0#32
  ![v13781.toNat, 1, 1, 55, 0]
def k0_mult45 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4808 : BitVec 32 := 512#32
  let v13885 : BitVec 32 := Scalar.muli arg11 c512_i32_4808
  v13885
def k0_mult46 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_4811 : BitVec 32 := 512#32
  let v13893 : BitVec 32 := Scalar.muli arg11 c512_i32_4811
  v13893
def k0_off261 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13906 : Index := Scalar.indexCast arg11
  let c1_4815 : Index := 1#32
  let c0_4816 : Index := 0#32
  let c56_4817 : Index := 56#32
  let c0_4818 : Index := 0#32
  ![v13906.toNat, 1, 0, 56, 0]
def k0_off262 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v13909 : Index := Scalar.indexCast arg11
  let c1_4819 : Index := 1#32
  let c1_4820 : Index := 1#32
  let c56_4821 : Index := 56#32
  let c0_4822 : Index := 0#32
  ![v13909.toNat, 1, 1, 56, 0]
def k0_off263 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14014 : Index := Scalar.indexCast arg11
  let c1_4852 : Index := 1#32
  let c0_4853 : Index := 0#32
  let c57_4854 : Index := 57#32
  let c0_4855 : Index := 0#32
  ![v14014.toNat, 1, 0, 57, 0]
def k0_off264 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14017 : Index := Scalar.indexCast arg11
  let c1_4856 : Index := 1#32
  let c1_4857 : Index := 1#32
  let c57_4858 : Index := 57#32
  let c0_4859 : Index := 0#32
  ![v14017.toNat, 1, 1, 57, 0]
def k0_off265 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14122 : Index := Scalar.indexCast arg11
  let c1_4889 : Index := 1#32
  let c0_4890 : Index := 0#32
  let c58_4891 : Index := 58#32
  let c0_4892 : Index := 0#32
  ![v14122.toNat, 1, 0, 58, 0]
def k0_off266 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14125 : Index := Scalar.indexCast arg11
  let c1_4893 : Index := 1#32
  let c1_4894 : Index := 1#32
  let c58_4895 : Index := 58#32
  let c0_4896 : Index := 0#32
  ![v14125.toNat, 1, 1, 58, 0]
def k0_off267 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14230 : Index := Scalar.indexCast arg11
  let c1_4926 : Index := 1#32
  let c0_4927 : Index := 0#32
  let c59_4928 : Index := 59#32
  let c0_4929 : Index := 0#32
  ![v14230.toNat, 1, 0, 59, 0]
def k0_off268 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14233 : Index := Scalar.indexCast arg11
  let c1_4930 : Index := 1#32
  let c1_4931 : Index := 1#32
  let c59_4932 : Index := 59#32
  let c0_4933 : Index := 0#32
  ![v14233.toNat, 1, 1, 59, 0]
def k0_off269 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14338 : Index := Scalar.indexCast arg11
  let c1_4963 : Index := 1#32
  let c0_4964 : Index := 0#32
  let c60_4965 : Index := 60#32
  let c0_4966 : Index := 0#32
  ![v14338.toNat, 1, 0, 60, 0]
def k0_off270 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14341 : Index := Scalar.indexCast arg11
  let c1_4967 : Index := 1#32
  let c1_4968 : Index := 1#32
  let c60_4969 : Index := 60#32
  let c0_4970 : Index := 0#32
  ![v14341.toNat, 1, 1, 60, 0]
def k0_off271 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14446 : Index := Scalar.indexCast arg11
  let c1_5000 : Index := 1#32
  let c0_5001 : Index := 0#32
  let c61_5002 : Index := 61#32
  let c0_5003 : Index := 0#32
  ![v14446.toNat, 1, 0, 61, 0]
def k0_off272 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14449 : Index := Scalar.indexCast arg11
  let c1_5004 : Index := 1#32
  let c1_5005 : Index := 1#32
  let c61_5006 : Index := 61#32
  let c0_5007 : Index := 0#32
  ![v14449.toNat, 1, 1, 61, 0]
def k0_off273 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14554 : Index := Scalar.indexCast arg11
  let c1_5037 : Index := 1#32
  let c0_5038 : Index := 0#32
  let c62_5039 : Index := 62#32
  let c0_5040 : Index := 0#32
  ![v14554.toNat, 1, 0, 62, 0]
def k0_off274 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14557 : Index := Scalar.indexCast arg11
  let c1_5041 : Index := 1#32
  let c1_5042 : Index := 1#32
  let c62_5043 : Index := 62#32
  let c0_5044 : Index := 0#32
  ![v14557.toNat, 1, 1, 62, 0]
def k0_off275 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14662 : Index := Scalar.indexCast arg11
  let c1_5074 : Index := 1#32
  let c0_5075 : Index := 0#32
  let c63_5076 : Index := 63#32
  let c0_5077 : Index := 0#32
  ![v14662.toNat, 1, 0, 63, 0]
def k0_off276 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14665 : Index := Scalar.indexCast arg11
  let c1_5078 : Index := 1#32
  let c1_5079 : Index := 1#32
  let c63_5080 : Index := 63#32
  let c0_5081 : Index := 0#32
  ![v14665.toNat, 1, 1, 63, 0]
def k0_mult47 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5115 : BitVec 32 := 512#32
  let v14785 : BitVec 32 := Scalar.muli arg11 c512_i32_5115
  v14785
def k0_mult48 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5118 : BitVec 32 := 512#32
  let v14791 : BitVec 32 := Scalar.muli arg11 c512_i32_5118
  v14791
def k0_off277 (k0_t1 : Fin k0_t1_loop.trips) (c0_i32_5122 : BitVec 32) : Fin 4 → Nat :=
  let c128_5123 : Index := 128#32
  let c2_i32_5121 : BitVec 32 := 2#32
  let c0_i32_140 : BitVec 32 := 0#32
  let c1_i32_141 : BitVec 32 := 1#32
  let arg11 : BitVec 32 := Scf.iv c0_i32_140 c1_i32_141 k0_t1
  let v14797 : BitVec 32 := Scalar.muli c2_i32_5121 arg11
  let v14798 : BitVec 32 := Scalar.addi v14797 c0_i32_5122
  let v14799 : Index := Scalar.indexCast v14798
  let c0_5124 : Index := 0#32
  let c0_5125 : Index := 0#32
  ![128, v14799.toNat, 0, 0]
def k0_off278 (k0_t1 : Fin k0_t1_loop.trips) (c0_i32_5138 : BitVec 32) : Fin 4 → Nat :=
  let c144 : Index := 144#32
  let c2_i32_5137 : BitVec 32 := 2#32
  let c0_i32_140 : BitVec 32 := 0#32
  let c1_i32_141 : BitVec 32 := 1#32
  let arg11 : BitVec 32 := Scf.iv c0_i32_140 c1_i32_141 k0_t1
  let v14815 : BitVec 32 := Scalar.muli c2_i32_5137 arg11
  let v14816 : BitVec 32 := Scalar.addi v14815 c0_i32_5138
  let v14817 : Index := Scalar.indexCast v14816
  let c0_5139 : Index := 0#32
  let c0_5140 : Index := 0#32
  ![144, v14817.toNat, 0, 0]
def k0_mult49 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5152 : BitVec 32 := 512#32
  let v14833 : BitVec 32 := Scalar.muli arg11 c512_i32_5152
  v14833
def k0_off279 (k0_t1 : Fin k0_t1_loop.trips) (c0_i32_5153 : BitVec 32) : Fin 2 → Nat :=
  let c0_i32_140 : BitVec 32 := 0#32
  let c1_i32_141 : BitVec 32 := 1#32
  let arg11 : BitVec 32 := Scf.iv c0_i32_140 c1_i32_141 k0_t1
  let c512_i32_5152 : BitVec 32 := 512#32
  let v14833 : BitVec 32 := Scalar.muli arg11 c512_i32_5152
  let v14834 : BitVec 32 := v14833
  let v14835 : BitVec 32 := Scalar.addi v14834 c0_i32_5153
  let v14836 : Index := Scalar.indexCast v14835
  let c1024 : Index := 1024#32
  ![v14836.toNat, 1024]
def k0_mult50 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5154 : BitVec 32 := 512#32
  let v14841 : BitVec 32 := Scalar.muli arg11 c512_i32_5154
  v14841
def k0_off280 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14854 : Index := Scalar.indexCast arg11
  let c0_5158 : Index := 0#32
  let c0_5159 : Index := 0#32
  let c64_5160 : Index := 64#32
  let c0_5161 : Index := 0#32
  ![v14854.toNat, 0, 0, 64, 0]
def k0_off281 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14857 : Index := Scalar.indexCast arg11
  let c0_5162 : Index := 0#32
  let c1_5163 : Index := 1#32
  let c64_5164 : Index := 64#32
  let c0_5165 : Index := 0#32
  ![v14857.toNat, 0, 1, 64, 0]
def k0_off282 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14962 : Index := Scalar.indexCast arg11
  let c0_5195 : Index := 0#32
  let c0_5196 : Index := 0#32
  let c65 : Index := 65#32
  let c0_5197 : Index := 0#32
  ![v14962.toNat, 0, 0, 65, 0]
def k0_off283 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v14965 : Index := Scalar.indexCast arg11
  let c0_5198 : Index := 0#32
  let c1_5199 : Index := 1#32
  let c65_5200 : Index := 65#32
  let c0_5201 : Index := 0#32
  ![v14965.toNat, 0, 1, 65, 0]
def k0_off284 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15070 : Index := Scalar.indexCast arg11
  let c0_5231 : Index := 0#32
  let c0_5232 : Index := 0#32
  let c66 : Index := 66#32
  let c0_5233 : Index := 0#32
  ![v15070.toNat, 0, 0, 66, 0]
def k0_off285 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15073 : Index := Scalar.indexCast arg11
  let c0_5234 : Index := 0#32
  let c1_5235 : Index := 1#32
  let c66_5236 : Index := 66#32
  let c0_5237 : Index := 0#32
  ![v15073.toNat, 0, 1, 66, 0]
def k0_off286 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15178 : Index := Scalar.indexCast arg11
  let c0_5267 : Index := 0#32
  let c0_5268 : Index := 0#32
  let c67 : Index := 67#32
  let c0_5269 : Index := 0#32
  ![v15178.toNat, 0, 0, 67, 0]
def k0_off287 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15181 : Index := Scalar.indexCast arg11
  let c0_5270 : Index := 0#32
  let c1_5271 : Index := 1#32
  let c67_5272 : Index := 67#32
  let c0_5273 : Index := 0#32
  ![v15181.toNat, 0, 1, 67, 0]
def k0_off288 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15286 : Index := Scalar.indexCast arg11
  let c0_5303 : Index := 0#32
  let c0_5304 : Index := 0#32
  let c68 : Index := 68#32
  let c0_5305 : Index := 0#32
  ![v15286.toNat, 0, 0, 68, 0]
def k0_off289 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15289 : Index := Scalar.indexCast arg11
  let c0_5306 : Index := 0#32
  let c1_5307 : Index := 1#32
  let c68_5308 : Index := 68#32
  let c0_5309 : Index := 0#32
  ![v15289.toNat, 0, 1, 68, 0]
def k0_off290 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15394 : Index := Scalar.indexCast arg11
  let c0_5339 : Index := 0#32
  let c0_5340 : Index := 0#32
  let c69 : Index := 69#32
  let c0_5341 : Index := 0#32
  ![v15394.toNat, 0, 0, 69, 0]
def k0_off291 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15397 : Index := Scalar.indexCast arg11
  let c0_5342 : Index := 0#32
  let c1_5343 : Index := 1#32
  let c69_5344 : Index := 69#32
  let c0_5345 : Index := 0#32
  ![v15397.toNat, 0, 1, 69, 0]
def k0_off292 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15502 : Index := Scalar.indexCast arg11
  let c0_5375 : Index := 0#32
  let c0_5376 : Index := 0#32
  let c70 : Index := 70#32
  let c0_5377 : Index := 0#32
  ![v15502.toNat, 0, 0, 70, 0]
def k0_off293 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15505 : Index := Scalar.indexCast arg11
  let c0_5378 : Index := 0#32
  let c1_5379 : Index := 1#32
  let c70_5380 : Index := 70#32
  let c0_5381 : Index := 0#32
  ![v15505.toNat, 0, 1, 70, 0]
def k0_off294 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15610 : Index := Scalar.indexCast arg11
  let c0_5411 : Index := 0#32
  let c0_5412 : Index := 0#32
  let c71 : Index := 71#32
  let c0_5413 : Index := 0#32
  ![v15610.toNat, 0, 0, 71, 0]
def k0_off295 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15613 : Index := Scalar.indexCast arg11
  let c0_5414 : Index := 0#32
  let c1_5415 : Index := 1#32
  let c71_5416 : Index := 71#32
  let c0_5417 : Index := 0#32
  ![v15613.toNat, 0, 1, 71, 0]
def k0_mult51 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5447 : BitVec 32 := 512#32
  let v15717 : BitVec 32 := Scalar.muli arg11 c512_i32_5447
  v15717
def k0_off296 (k0_t1 : Fin k0_t1_loop.trips) (c0_i32_5448 : BitVec 32) : Fin 2 → Nat :=
  let c0_i32_140 : BitVec 32 := 0#32
  let c1_i32_141 : BitVec 32 := 1#32
  let arg11 : BitVec 32 := Scf.iv c0_i32_140 c1_i32_141 k0_t1
  let c512_i32_5447 : BitVec 32 := 512#32
  let v15717 : BitVec 32 := Scalar.muli arg11 c512_i32_5447
  let v15718 : BitVec 32 := v15717
  let v15719 : BitVec 32 := Scalar.addi v15718 c0_i32_5448
  let v15720 : Index := Scalar.indexCast v15719
  let c1152 : Index := 1152#32
  ![v15720.toNat, 1152]
def k0_mult52 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5449 : BitVec 32 := 512#32
  let v15725 : BitVec 32 := Scalar.muli arg11 c512_i32_5449
  v15725
def k0_off297 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15738 : Index := Scalar.indexCast arg11
  let c0_5453 : Index := 0#32
  let c0_5454 : Index := 0#32
  let c72 : Index := 72#32
  let c0_5455 : Index := 0#32
  ![v15738.toNat, 0, 0, 72, 0]
def k0_off298 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15741 : Index := Scalar.indexCast arg11
  let c0_5456 : Index := 0#32
  let c1_5457 : Index := 1#32
  let c72_5458 : Index := 72#32
  let c0_5459 : Index := 0#32
  ![v15741.toNat, 0, 1, 72, 0]
def k0_off299 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15846 : Index := Scalar.indexCast arg11
  let c0_5489 : Index := 0#32
  let c0_5490 : Index := 0#32
  let c73 : Index := 73#32
  let c0_5491 : Index := 0#32
  ![v15846.toNat, 0, 0, 73, 0]
def k0_off300 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15849 : Index := Scalar.indexCast arg11
  let c0_5492 : Index := 0#32
  let c1_5493 : Index := 1#32
  let c73_5494 : Index := 73#32
  let c0_5495 : Index := 0#32
  ![v15849.toNat, 0, 1, 73, 0]
def k0_off301 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15954 : Index := Scalar.indexCast arg11
  let c0_5525 : Index := 0#32
  let c0_5526 : Index := 0#32
  let c74 : Index := 74#32
  let c0_5527 : Index := 0#32
  ![v15954.toNat, 0, 0, 74, 0]
def k0_off302 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v15957 : Index := Scalar.indexCast arg11
  let c0_5528 : Index := 0#32
  let c1_5529 : Index := 1#32
  let c74_5530 : Index := 74#32
  let c0_5531 : Index := 0#32
  ![v15957.toNat, 0, 1, 74, 0]
def k0_off303 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16062 : Index := Scalar.indexCast arg11
  let c0_5561 : Index := 0#32
  let c0_5562 : Index := 0#32
  let c75 : Index := 75#32
  let c0_5563 : Index := 0#32
  ![v16062.toNat, 0, 0, 75, 0]
def k0_off304 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16065 : Index := Scalar.indexCast arg11
  let c0_5564 : Index := 0#32
  let c1_5565 : Index := 1#32
  let c75_5566 : Index := 75#32
  let c0_5567 : Index := 0#32
  ![v16065.toNat, 0, 1, 75, 0]
def k0_off305 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16170 : Index := Scalar.indexCast arg11
  let c0_5597 : Index := 0#32
  let c0_5598 : Index := 0#32
  let c76 : Index := 76#32
  let c0_5599 : Index := 0#32
  ![v16170.toNat, 0, 0, 76, 0]
def k0_off306 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16173 : Index := Scalar.indexCast arg11
  let c0_5600 : Index := 0#32
  let c1_5601 : Index := 1#32
  let c76_5602 : Index := 76#32
  let c0_5603 : Index := 0#32
  ![v16173.toNat, 0, 1, 76, 0]
def k0_off307 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16278 : Index := Scalar.indexCast arg11
  let c0_5633 : Index := 0#32
  let c0_5634 : Index := 0#32
  let c77 : Index := 77#32
  let c0_5635 : Index := 0#32
  ![v16278.toNat, 0, 0, 77, 0]
def k0_off308 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16281 : Index := Scalar.indexCast arg11
  let c0_5636 : Index := 0#32
  let c1_5637 : Index := 1#32
  let c77_5638 : Index := 77#32
  let c0_5639 : Index := 0#32
  ![v16281.toNat, 0, 1, 77, 0]
def k0_off309 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16386 : Index := Scalar.indexCast arg11
  let c0_5669 : Index := 0#32
  let c0_5670 : Index := 0#32
  let c78 : Index := 78#32
  let c0_5671 : Index := 0#32
  ![v16386.toNat, 0, 0, 78, 0]
def k0_off310 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16389 : Index := Scalar.indexCast arg11
  let c0_5672 : Index := 0#32
  let c1_5673 : Index := 1#32
  let c78_5674 : Index := 78#32
  let c0_5675 : Index := 0#32
  ![v16389.toNat, 0, 1, 78, 0]
def k0_off311 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16494 : Index := Scalar.indexCast arg11
  let c0_5705 : Index := 0#32
  let c0_5706 : Index := 0#32
  let c79 : Index := 79#32
  let c0_5707 : Index := 0#32
  ![v16494.toNat, 0, 0, 79, 0]
def k0_off312 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16497 : Index := Scalar.indexCast arg11
  let c0_5708 : Index := 0#32
  let c1_5709 : Index := 1#32
  let c79_5710 : Index := 79#32
  let c0_5711 : Index := 0#32
  ![v16497.toNat, 0, 1, 79, 0]
def k0_mult53 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5745 : BitVec 32 := 512#32
  let v16617 : BitVec 32 := Scalar.muli arg11 c512_i32_5745
  v16617
def k0_off313 (k0_t1 : Fin k0_t1_loop.trips) (c0_i32_5746 : BitVec 32) : Fin 2 → Nat :=
  let c0_i32_140 : BitVec 32 := 0#32
  let c1_i32_141 : BitVec 32 := 1#32
  let arg11 : BitVec 32 := Scf.iv c0_i32_140 c1_i32_141 k0_t1
  let c512_i32_5745 : BitVec 32 := 512#32
  let v16617 : BitVec 32 := Scalar.muli arg11 c512_i32_5745
  let v16618 : BitVec 32 := v16617
  let v16619 : BitVec 32 := Scalar.addi v16618 c0_i32_5746
  let v16621 : Index := Scalar.indexCast v16619
  let c512_5747 : Index := 512#32
  ![v16621.toNat, 512]
def k0_mult54 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5748 : BitVec 32 := 512#32
  let v16623 : BitVec 32 := Scalar.muli arg11 c512_i32_5748
  v16623
def k0_mult55 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5751 : BitVec 32 := 512#32
  let v16629 : BitVec 32 := Scalar.muli arg11 c512_i32_5751
  v16629
def k0_mult56 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_5754 : BitVec 32 := 512#32
  let v16637 : BitVec 32 := Scalar.muli arg11 c512_i32_5754
  v16637
def k0_off314 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16650 : Index := Scalar.indexCast arg11
  let c1_5758 : Index := 1#32
  let c0_5759 : Index := 0#32
  let c64_5760 : Index := 64#32
  let c0_5761 : Index := 0#32
  ![v16650.toNat, 1, 0, 64, 0]
def k0_off315 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16653 : Index := Scalar.indexCast arg11
  let c1_5762 : Index := 1#32
  let c1_5763 : Index := 1#32
  let c64_5764 : Index := 64#32
  let c0_5765 : Index := 0#32
  ![v16653.toNat, 1, 1, 64, 0]
def k0_off316 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16758 : Index := Scalar.indexCast arg11
  let c1_5795 : Index := 1#32
  let c0_5796 : Index := 0#32
  let c65_5797 : Index := 65#32
  let c0_5798 : Index := 0#32
  ![v16758.toNat, 1, 0, 65, 0]
def k0_off317 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16761 : Index := Scalar.indexCast arg11
  let c1_5799 : Index := 1#32
  let c1_5800 : Index := 1#32
  let c65_5801 : Index := 65#32
  let c0_5802 : Index := 0#32
  ![v16761.toNat, 1, 1, 65, 0]
def k0_off318 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16866 : Index := Scalar.indexCast arg11
  let c1_5832 : Index := 1#32
  let c0_5833 : Index := 0#32
  let c66_5834 : Index := 66#32
  let c0_5835 : Index := 0#32
  ![v16866.toNat, 1, 0, 66, 0]
def k0_off319 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16869 : Index := Scalar.indexCast arg11
  let c1_5836 : Index := 1#32
  let c1_5837 : Index := 1#32
  let c66_5838 : Index := 66#32
  let c0_5839 : Index := 0#32
  ![v16869.toNat, 1, 1, 66, 0]
def k0_off320 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16974 : Index := Scalar.indexCast arg11
  let c1_5869 : Index := 1#32
  let c0_5870 : Index := 0#32
  let c67_5871 : Index := 67#32
  let c0_5872 : Index := 0#32
  ![v16974.toNat, 1, 0, 67, 0]
def k0_off321 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v16977 : Index := Scalar.indexCast arg11
  let c1_5873 : Index := 1#32
  let c1_5874 : Index := 1#32
  let c67_5875 : Index := 67#32
  let c0_5876 : Index := 0#32
  ![v16977.toNat, 1, 1, 67, 0]
def k0_off322 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17082 : Index := Scalar.indexCast arg11
  let c1_5906 : Index := 1#32
  let c0_5907 : Index := 0#32
  let c68_5908 : Index := 68#32
  let c0_5909 : Index := 0#32
  ![v17082.toNat, 1, 0, 68, 0]
def k0_off323 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17085 : Index := Scalar.indexCast arg11
  let c1_5910 : Index := 1#32
  let c1_5911 : Index := 1#32
  let c68_5912 : Index := 68#32
  let c0_5913 : Index := 0#32
  ![v17085.toNat, 1, 1, 68, 0]
def k0_off324 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17190 : Index := Scalar.indexCast arg11
  let c1_5943 : Index := 1#32
  let c0_5944 : Index := 0#32
  let c69_5945 : Index := 69#32
  let c0_5946 : Index := 0#32
  ![v17190.toNat, 1, 0, 69, 0]
def k0_off325 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17193 : Index := Scalar.indexCast arg11
  let c1_5947 : Index := 1#32
  let c1_5948 : Index := 1#32
  let c69_5949 : Index := 69#32
  let c0_5950 : Index := 0#32
  ![v17193.toNat, 1, 1, 69, 0]
def k0_off326 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17298 : Index := Scalar.indexCast arg11
  let c1_5980 : Index := 1#32
  let c0_5981 : Index := 0#32
  let c70_5982 : Index := 70#32
  let c0_5983 : Index := 0#32
  ![v17298.toNat, 1, 0, 70, 0]
def k0_off327 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17301 : Index := Scalar.indexCast arg11
  let c1_5984 : Index := 1#32
  let c1_5985 : Index := 1#32
  let c70_5986 : Index := 70#32
  let c0_5987 : Index := 0#32
  ![v17301.toNat, 1, 1, 70, 0]
def k0_off328 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17406 : Index := Scalar.indexCast arg11
  let c1_6017 : Index := 1#32
  let c0_6018 : Index := 0#32
  let c71_6019 : Index := 71#32
  let c0_6020 : Index := 0#32
  ![v17406.toNat, 1, 0, 71, 0]
def k0_off329 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17409 : Index := Scalar.indexCast arg11
  let c1_6021 : Index := 1#32
  let c1_6022 : Index := 1#32
  let c71_6023 : Index := 71#32
  let c0_6024 : Index := 0#32
  ![v17409.toNat, 1, 1, 71, 0]
def k0_mult57 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6054 : BitVec 32 := 512#32
  let v17513 : BitVec 32 := Scalar.muli arg11 c512_i32_6054
  v17513
def k0_mult58 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6057 : BitVec 32 := 512#32
  let v17521 : BitVec 32 := Scalar.muli arg11 c512_i32_6057
  v17521
def k0_off330 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17534 : Index := Scalar.indexCast arg11
  let c1_6061 : Index := 1#32
  let c0_6062 : Index := 0#32
  let c72_6063 : Index := 72#32
  let c0_6064 : Index := 0#32
  ![v17534.toNat, 1, 0, 72, 0]
def k0_off331 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17537 : Index := Scalar.indexCast arg11
  let c1_6065 : Index := 1#32
  let c1_6066 : Index := 1#32
  let c72_6067 : Index := 72#32
  let c0_6068 : Index := 0#32
  ![v17537.toNat, 1, 1, 72, 0]
def k0_off332 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17642 : Index := Scalar.indexCast arg11
  let c1_6098 : Index := 1#32
  let c0_6099 : Index := 0#32
  let c73_6100 : Index := 73#32
  let c0_6101 : Index := 0#32
  ![v17642.toNat, 1, 0, 73, 0]
def k0_off333 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17645 : Index := Scalar.indexCast arg11
  let c1_6102 : Index := 1#32
  let c1_6103 : Index := 1#32
  let c73_6104 : Index := 73#32
  let c0_6105 : Index := 0#32
  ![v17645.toNat, 1, 1, 73, 0]
def k0_off334 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17750 : Index := Scalar.indexCast arg11
  let c1_6135 : Index := 1#32
  let c0_6136 : Index := 0#32
  let c74_6137 : Index := 74#32
  let c0_6138 : Index := 0#32
  ![v17750.toNat, 1, 0, 74, 0]
def k0_off335 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17753 : Index := Scalar.indexCast arg11
  let c1_6139 : Index := 1#32
  let c1_6140 : Index := 1#32
  let c74_6141 : Index := 74#32
  let c0_6142 : Index := 0#32
  ![v17753.toNat, 1, 1, 74, 0]
def k0_off336 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17858 : Index := Scalar.indexCast arg11
  let c1_6172 : Index := 1#32
  let c0_6173 : Index := 0#32
  let c75_6174 : Index := 75#32
  let c0_6175 : Index := 0#32
  ![v17858.toNat, 1, 0, 75, 0]
def k0_off337 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17861 : Index := Scalar.indexCast arg11
  let c1_6176 : Index := 1#32
  let c1_6177 : Index := 1#32
  let c75_6178 : Index := 75#32
  let c0_6179 : Index := 0#32
  ![v17861.toNat, 1, 1, 75, 0]
def k0_off338 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17966 : Index := Scalar.indexCast arg11
  let c1_6209 : Index := 1#32
  let c0_6210 : Index := 0#32
  let c76_6211 : Index := 76#32
  let c0_6212 : Index := 0#32
  ![v17966.toNat, 1, 0, 76, 0]
def k0_off339 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v17969 : Index := Scalar.indexCast arg11
  let c1_6213 : Index := 1#32
  let c1_6214 : Index := 1#32
  let c76_6215 : Index := 76#32
  let c0_6216 : Index := 0#32
  ![v17969.toNat, 1, 1, 76, 0]
def k0_off340 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18074 : Index := Scalar.indexCast arg11
  let c1_6246 : Index := 1#32
  let c0_6247 : Index := 0#32
  let c77_6248 : Index := 77#32
  let c0_6249 : Index := 0#32
  ![v18074.toNat, 1, 0, 77, 0]
def k0_off341 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18077 : Index := Scalar.indexCast arg11
  let c1_6250 : Index := 1#32
  let c1_6251 : Index := 1#32
  let c77_6252 : Index := 77#32
  let c0_6253 : Index := 0#32
  ![v18077.toNat, 1, 1, 77, 0]
def k0_off342 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18182 : Index := Scalar.indexCast arg11
  let c1_6283 : Index := 1#32
  let c0_6284 : Index := 0#32
  let c78_6285 : Index := 78#32
  let c0_6286 : Index := 0#32
  ![v18182.toNat, 1, 0, 78, 0]
def k0_off343 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18185 : Index := Scalar.indexCast arg11
  let c1_6287 : Index := 1#32
  let c1_6288 : Index := 1#32
  let c78_6289 : Index := 78#32
  let c0_6290 : Index := 0#32
  ![v18185.toNat, 1, 1, 78, 0]
def k0_off344 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18290 : Index := Scalar.indexCast arg11
  let c1_6320 : Index := 1#32
  let c0_6321 : Index := 0#32
  let c79_6322 : Index := 79#32
  let c0_6323 : Index := 0#32
  ![v18290.toNat, 1, 0, 79, 0]
def k0_off345 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18293 : Index := Scalar.indexCast arg11
  let c1_6324 : Index := 1#32
  let c1_6325 : Index := 1#32
  let c79_6326 : Index := 79#32
  let c0_6327 : Index := 0#32
  ![v18293.toNat, 1, 1, 79, 0]
def k0_mult59 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6361 : BitVec 32 := 512#32
  let v18413 : BitVec 32 := Scalar.muli arg11 c512_i32_6361
  v18413
def k0_mult60 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6364 : BitVec 32 := 512#32
  let v18419 : BitVec 32 := Scalar.muli arg11 c512_i32_6364
  v18419
def k0_off346 (k0_t1 : Fin k0_t1_loop.trips) (c0_i32_6368 : BitVec 32) : Fin 4 → Nat :=
  let c160 : Index := 160#32
  let c2_i32_6367 : BitVec 32 := 2#32
  let c0_i32_140 : BitVec 32 := 0#32
  let c1_i32_141 : BitVec 32 := 1#32
  let arg11 : BitVec 32 := Scf.iv c0_i32_140 c1_i32_141 k0_t1
  let v18425 : BitVec 32 := Scalar.muli c2_i32_6367 arg11
  let v18426 : BitVec 32 := Scalar.addi v18425 c0_i32_6368
  let v18427 : Index := Scalar.indexCast v18426
  let c0_6369 : Index := 0#32
  let c0_6370 : Index := 0#32
  ![160, v18427.toNat, 0, 0]
def k0_off347 (k0_t1 : Fin k0_t1_loop.trips) (c0_i32_6383 : BitVec 32) : Fin 4 → Nat :=
  let c176 : Index := 176#32
  let c2_i32_6382 : BitVec 32 := 2#32
  let c0_i32_140 : BitVec 32 := 0#32
  let c1_i32_141 : BitVec 32 := 1#32
  let arg11 : BitVec 32 := Scf.iv c0_i32_140 c1_i32_141 k0_t1
  let v18443 : BitVec 32 := Scalar.muli c2_i32_6382 arg11
  let v18444 : BitVec 32 := Scalar.addi v18443 c0_i32_6383
  let v18445 : Index := Scalar.indexCast v18444
  let c0_6384 : Index := 0#32
  let c0_6385 : Index := 0#32
  ![176, v18445.toNat, 0, 0]
def k0_mult61 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6397 : BitVec 32 := 512#32
  let v18461 : BitVec 32 := Scalar.muli arg11 c512_i32_6397
  v18461
def k0_off348 (k0_t1 : Fin k0_t1_loop.trips) (c0_i32_6398 : BitVec 32) : Fin 2 → Nat :=
  let c0_i32_140 : BitVec 32 := 0#32
  let c1_i32_141 : BitVec 32 := 1#32
  let arg11 : BitVec 32 := Scf.iv c0_i32_140 c1_i32_141 k0_t1
  let c512_i32_6397 : BitVec 32 := 512#32
  let v18461 : BitVec 32 := Scalar.muli arg11 c512_i32_6397
  let v18462 : BitVec 32 := v18461
  let v18463 : BitVec 32 := Scalar.addi v18462 c0_i32_6398
  let v18464 : Index := Scalar.indexCast v18463
  let c1280 : Index := 1280#32
  ![v18464.toNat, 1280]
def k0_mult62 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6399 : BitVec 32 := 512#32
  let v18469 : BitVec 32 := Scalar.muli arg11 c512_i32_6399
  v18469
def k0_off349 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18482 : Index := Scalar.indexCast arg11
  let c0_6403 : Index := 0#32
  let c0_6404 : Index := 0#32
  let c80_6405 : Index := 80#32
  let c0_6406 : Index := 0#32
  ![v18482.toNat, 0, 0, 80, 0]
def k0_off350 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18485 : Index := Scalar.indexCast arg11
  let c0_6407 : Index := 0#32
  let c1_6408 : Index := 1#32
  let c80_6409 : Index := 80#32
  let c0_6410 : Index := 0#32
  ![v18485.toNat, 0, 1, 80, 0]
def k0_off351 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18590 : Index := Scalar.indexCast arg11
  let c0_6440 : Index := 0#32
  let c0_6441 : Index := 0#32
  let c81 : Index := 81#32
  let c0_6442 : Index := 0#32
  ![v18590.toNat, 0, 0, 81, 0]
def k0_off352 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18593 : Index := Scalar.indexCast arg11
  let c0_6443 : Index := 0#32
  let c1_6444 : Index := 1#32
  let c81_6445 : Index := 81#32
  let c0_6446 : Index := 0#32
  ![v18593.toNat, 0, 1, 81, 0]
def k0_off353 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18698 : Index := Scalar.indexCast arg11
  let c0_6476 : Index := 0#32
  let c0_6477 : Index := 0#32
  let c82 : Index := 82#32
  let c0_6478 : Index := 0#32
  ![v18698.toNat, 0, 0, 82, 0]
def k0_off354 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18701 : Index := Scalar.indexCast arg11
  let c0_6479 : Index := 0#32
  let c1_6480 : Index := 1#32
  let c82_6481 : Index := 82#32
  let c0_6482 : Index := 0#32
  ![v18701.toNat, 0, 1, 82, 0]
def k0_off355 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18806 : Index := Scalar.indexCast arg11
  let c0_6512 : Index := 0#32
  let c0_6513 : Index := 0#32
  let c83 : Index := 83#32
  let c0_6514 : Index := 0#32
  ![v18806.toNat, 0, 0, 83, 0]
def k0_off356 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18809 : Index := Scalar.indexCast arg11
  let c0_6515 : Index := 0#32
  let c1_6516 : Index := 1#32
  let c83_6517 : Index := 83#32
  let c0_6518 : Index := 0#32
  ![v18809.toNat, 0, 1, 83, 0]
def k0_off357 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18914 : Index := Scalar.indexCast arg11
  let c0_6548 : Index := 0#32
  let c0_6549 : Index := 0#32
  let c84 : Index := 84#32
  let c0_6550 : Index := 0#32
  ![v18914.toNat, 0, 0, 84, 0]
def k0_off358 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v18917 : Index := Scalar.indexCast arg11
  let c0_6551 : Index := 0#32
  let c1_6552 : Index := 1#32
  let c84_6553 : Index := 84#32
  let c0_6554 : Index := 0#32
  ![v18917.toNat, 0, 1, 84, 0]
def k0_off359 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19022 : Index := Scalar.indexCast arg11
  let c0_6584 : Index := 0#32
  let c0_6585 : Index := 0#32
  let c85 : Index := 85#32
  let c0_6586 : Index := 0#32
  ![v19022.toNat, 0, 0, 85, 0]
def k0_off360 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19025 : Index := Scalar.indexCast arg11
  let c0_6587 : Index := 0#32
  let c1_6588 : Index := 1#32
  let c85_6589 : Index := 85#32
  let c0_6590 : Index := 0#32
  ![v19025.toNat, 0, 1, 85, 0]
def k0_off361 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19130 : Index := Scalar.indexCast arg11
  let c0_6620 : Index := 0#32
  let c0_6621 : Index := 0#32
  let c86 : Index := 86#32
  let c0_6622 : Index := 0#32
  ![v19130.toNat, 0, 0, 86, 0]
def k0_off362 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19133 : Index := Scalar.indexCast arg11
  let c0_6623 : Index := 0#32
  let c1_6624 : Index := 1#32
  let c86_6625 : Index := 86#32
  let c0_6626 : Index := 0#32
  ![v19133.toNat, 0, 1, 86, 0]
def k0_off363 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19238 : Index := Scalar.indexCast arg11
  let c0_6656 : Index := 0#32
  let c0_6657 : Index := 0#32
  let c87 : Index := 87#32
  let c0_6658 : Index := 0#32
  ![v19238.toNat, 0, 0, 87, 0]
def k0_off364 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19241 : Index := Scalar.indexCast arg11
  let c0_6659 : Index := 0#32
  let c1_6660 : Index := 1#32
  let c87_6661 : Index := 87#32
  let c0_6662 : Index := 0#32
  ![v19241.toNat, 0, 1, 87, 0]
def k0_mult63 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6692 : BitVec 32 := 512#32
  let v19345 : BitVec 32 := Scalar.muli arg11 c512_i32_6692
  v19345
def k0_off365 (k0_t1 : Fin k0_t1_loop.trips) (c0_i32_6693 : BitVec 32) : Fin 2 → Nat :=
  let c0_i32_140 : BitVec 32 := 0#32
  let c1_i32_141 : BitVec 32 := 1#32
  let arg11 : BitVec 32 := Scf.iv c0_i32_140 c1_i32_141 k0_t1
  let c512_i32_6692 : BitVec 32 := 512#32
  let v19345 : BitVec 32 := Scalar.muli arg11 c512_i32_6692
  let v19346 : BitVec 32 := v19345
  let v19347 : BitVec 32 := Scalar.addi v19346 c0_i32_6693
  let v19348 : Index := Scalar.indexCast v19347
  let c1408 : Index := 1408#32
  ![v19348.toNat, 1408]
def k0_mult64 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6694 : BitVec 32 := 512#32
  let v19353 : BitVec 32 := Scalar.muli arg11 c512_i32_6694
  v19353
def k0_off366 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19366 : Index := Scalar.indexCast arg11
  let c0_6698 : Index := 0#32
  let c0_6699 : Index := 0#32
  let c88 : Index := 88#32
  let c0_6700 : Index := 0#32
  ![v19366.toNat, 0, 0, 88, 0]
def k0_off367 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19369 : Index := Scalar.indexCast arg11
  let c0_6701 : Index := 0#32
  let c1_6702 : Index := 1#32
  let c88_6703 : Index := 88#32
  let c0_6704 : Index := 0#32
  ![v19369.toNat, 0, 1, 88, 0]
def k0_off368 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19474 : Index := Scalar.indexCast arg11
  let c0_6734 : Index := 0#32
  let c0_6735 : Index := 0#32
  let c89 : Index := 89#32
  let c0_6736 : Index := 0#32
  ![v19474.toNat, 0, 0, 89, 0]
def k0_off369 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19477 : Index := Scalar.indexCast arg11
  let c0_6737 : Index := 0#32
  let c1_6738 : Index := 1#32
  let c89_6739 : Index := 89#32
  let c0_6740 : Index := 0#32
  ![v19477.toNat, 0, 1, 89, 0]
def k0_off370 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19582 : Index := Scalar.indexCast arg11
  let c0_6770 : Index := 0#32
  let c0_6771 : Index := 0#32
  let c90 : Index := 90#32
  let c0_6772 : Index := 0#32
  ![v19582.toNat, 0, 0, 90, 0]
def k0_off371 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19585 : Index := Scalar.indexCast arg11
  let c0_6773 : Index := 0#32
  let c1_6774 : Index := 1#32
  let c90_6775 : Index := 90#32
  let c0_6776 : Index := 0#32
  ![v19585.toNat, 0, 1, 90, 0]
def k0_off372 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19690 : Index := Scalar.indexCast arg11
  let c0_6806 : Index := 0#32
  let c0_6807 : Index := 0#32
  let c91 : Index := 91#32
  let c0_6808 : Index := 0#32
  ![v19690.toNat, 0, 0, 91, 0]
def k0_off373 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19693 : Index := Scalar.indexCast arg11
  let c0_6809 : Index := 0#32
  let c1_6810 : Index := 1#32
  let c91_6811 : Index := 91#32
  let c0_6812 : Index := 0#32
  ![v19693.toNat, 0, 1, 91, 0]
def k0_off374 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19798 : Index := Scalar.indexCast arg11
  let c0_6842 : Index := 0#32
  let c0_6843 : Index := 0#32
  let c92 : Index := 92#32
  let c0_6844 : Index := 0#32
  ![v19798.toNat, 0, 0, 92, 0]
def k0_off375 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19801 : Index := Scalar.indexCast arg11
  let c0_6845 : Index := 0#32
  let c1_6846 : Index := 1#32
  let c92_6847 : Index := 92#32
  let c0_6848 : Index := 0#32
  ![v19801.toNat, 0, 1, 92, 0]
def k0_off376 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19906 : Index := Scalar.indexCast arg11
  let c0_6878 : Index := 0#32
  let c0_6879 : Index := 0#32
  let c93 : Index := 93#32
  let c0_6880 : Index := 0#32
  ![v19906.toNat, 0, 0, 93, 0]
def k0_off377 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v19909 : Index := Scalar.indexCast arg11
  let c0_6881 : Index := 0#32
  let c1_6882 : Index := 1#32
  let c93_6883 : Index := 93#32
  let c0_6884 : Index := 0#32
  ![v19909.toNat, 0, 1, 93, 0]
def k0_off378 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20014 : Index := Scalar.indexCast arg11
  let c0_6914 : Index := 0#32
  let c0_6915 : Index := 0#32
  let c94 : Index := 94#32
  let c0_6916 : Index := 0#32
  ![v20014.toNat, 0, 0, 94, 0]
def k0_off379 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20017 : Index := Scalar.indexCast arg11
  let c0_6917 : Index := 0#32
  let c1_6918 : Index := 1#32
  let c94_6919 : Index := 94#32
  let c0_6920 : Index := 0#32
  ![v20017.toNat, 0, 1, 94, 0]
def k0_off380 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20122 : Index := Scalar.indexCast arg11
  let c0_6950 : Index := 0#32
  let c0_6951 : Index := 0#32
  let c95 : Index := 95#32
  let c0_6952 : Index := 0#32
  ![v20122.toNat, 0, 0, 95, 0]
def k0_off381 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20125 : Index := Scalar.indexCast arg11
  let c0_6953 : Index := 0#32
  let c1_6954 : Index := 1#32
  let c95_6955 : Index := 95#32
  let c0_6956 : Index := 0#32
  ![v20125.toNat, 0, 1, 95, 0]
def k0_mult65 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6990 : BitVec 32 := 512#32
  let v20245 : BitVec 32 := Scalar.muli arg11 c512_i32_6990
  v20245
def k0_off382 (k0_t1 : Fin k0_t1_loop.trips) (c0_i32_6991 : BitVec 32) : Fin 2 → Nat :=
  let c0_i32_140 : BitVec 32 := 0#32
  let c1_i32_141 : BitVec 32 := 1#32
  let arg11 : BitVec 32 := Scf.iv c0_i32_140 c1_i32_141 k0_t1
  let c512_i32_6990 : BitVec 32 := 512#32
  let v20245 : BitVec 32 := Scalar.muli arg11 c512_i32_6990
  let v20246 : BitVec 32 := v20245
  let v20247 : BitVec 32 := Scalar.addi v20246 c0_i32_6991
  let v20249 : Index := Scalar.indexCast v20247
  let c640_6992 : Index := 640#32
  ![v20249.toNat, 640]
def k0_mult66 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6993 : BitVec 32 := 512#32
  let v20251 : BitVec 32 := Scalar.muli arg11 c512_i32_6993
  v20251
def k0_mult67 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6996 : BitVec 32 := 512#32
  let v20257 : BitVec 32 := Scalar.muli arg11 c512_i32_6996
  v20257
def k0_mult68 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_6999 : BitVec 32 := 512#32
  let v20265 : BitVec 32 := Scalar.muli arg11 c512_i32_6999
  v20265
def k0_off383 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20278 : Index := Scalar.indexCast arg11
  let c1_7003 : Index := 1#32
  let c0_7004 : Index := 0#32
  let c80_7005 : Index := 80#32
  let c0_7006 : Index := 0#32
  ![v20278.toNat, 1, 0, 80, 0]
def k0_off384 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20281 : Index := Scalar.indexCast arg11
  let c1_7007 : Index := 1#32
  let c1_7008 : Index := 1#32
  let c80_7009 : Index := 80#32
  let c0_7010 : Index := 0#32
  ![v20281.toNat, 1, 1, 80, 0]
def k0_off385 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20386 : Index := Scalar.indexCast arg11
  let c1_7040 : Index := 1#32
  let c0_7041 : Index := 0#32
  let c81_7042 : Index := 81#32
  let c0_7043 : Index := 0#32
  ![v20386.toNat, 1, 0, 81, 0]
def k0_off386 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20389 : Index := Scalar.indexCast arg11
  let c1_7044 : Index := 1#32
  let c1_7045 : Index := 1#32
  let c81_7046 : Index := 81#32
  let c0_7047 : Index := 0#32
  ![v20389.toNat, 1, 1, 81, 0]
def k0_off387 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20494 : Index := Scalar.indexCast arg11
  let c1_7077 : Index := 1#32
  let c0_7078 : Index := 0#32
  let c82_7079 : Index := 82#32
  let c0_7080 : Index := 0#32
  ![v20494.toNat, 1, 0, 82, 0]
def k0_off388 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20497 : Index := Scalar.indexCast arg11
  let c1_7081 : Index := 1#32
  let c1_7082 : Index := 1#32
  let c82_7083 : Index := 82#32
  let c0_7084 : Index := 0#32
  ![v20497.toNat, 1, 1, 82, 0]
def k0_off389 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20602 : Index := Scalar.indexCast arg11
  let c1_7114 : Index := 1#32
  let c0_7115 : Index := 0#32
  let c83_7116 : Index := 83#32
  let c0_7117 : Index := 0#32
  ![v20602.toNat, 1, 0, 83, 0]
def k0_off390 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20605 : Index := Scalar.indexCast arg11
  let c1_7118 : Index := 1#32
  let c1_7119 : Index := 1#32
  let c83_7120 : Index := 83#32
  let c0_7121 : Index := 0#32
  ![v20605.toNat, 1, 1, 83, 0]
def k0_off391 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20710 : Index := Scalar.indexCast arg11
  let c1_7151 : Index := 1#32
  let c0_7152 : Index := 0#32
  let c84_7153 : Index := 84#32
  let c0_7154 : Index := 0#32
  ![v20710.toNat, 1, 0, 84, 0]
def k0_off392 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20713 : Index := Scalar.indexCast arg11
  let c1_7155 : Index := 1#32
  let c1_7156 : Index := 1#32
  let c84_7157 : Index := 84#32
  let c0_7158 : Index := 0#32
  ![v20713.toNat, 1, 1, 84, 0]
def k0_off393 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20818 : Index := Scalar.indexCast arg11
  let c1_7188 : Index := 1#32
  let c0_7189 : Index := 0#32
  let c85_7190 : Index := 85#32
  let c0_7191 : Index := 0#32
  ![v20818.toNat, 1, 0, 85, 0]
def k0_off394 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20821 : Index := Scalar.indexCast arg11
  let c1_7192 : Index := 1#32
  let c1_7193 : Index := 1#32
  let c85_7194 : Index := 85#32
  let c0_7195 : Index := 0#32
  ![v20821.toNat, 1, 1, 85, 0]
def k0_off395 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20926 : Index := Scalar.indexCast arg11
  let c1_7225 : Index := 1#32
  let c0_7226 : Index := 0#32
  let c86_7227 : Index := 86#32
  let c0_7228 : Index := 0#32
  ![v20926.toNat, 1, 0, 86, 0]
def k0_off396 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v20929 : Index := Scalar.indexCast arg11
  let c1_7229 : Index := 1#32
  let c1_7230 : Index := 1#32
  let c86_7231 : Index := 86#32
  let c0_7232 : Index := 0#32
  ![v20929.toNat, 1, 1, 86, 0]
def k0_off397 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21034 : Index := Scalar.indexCast arg11
  let c1_7262 : Index := 1#32
  let c0_7263 : Index := 0#32
  let c87_7264 : Index := 87#32
  let c0_7265 : Index := 0#32
  ![v21034.toNat, 1, 0, 87, 0]
def k0_off398 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21037 : Index := Scalar.indexCast arg11
  let c1_7266 : Index := 1#32
  let c1_7267 : Index := 1#32
  let c87_7268 : Index := 87#32
  let c0_7269 : Index := 0#32
  ![v21037.toNat, 1, 1, 87, 0]
def k0_mult69 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_7299 : BitVec 32 := 512#32
  let v21141 : BitVec 32 := Scalar.muli arg11 c512_i32_7299
  v21141
def k0_mult70 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_7302 : BitVec 32 := 512#32
  let v21149 : BitVec 32 := Scalar.muli arg11 c512_i32_7302
  v21149
def k0_off399 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21162 : Index := Scalar.indexCast arg11
  let c1_7306 : Index := 1#32
  let c0_7307 : Index := 0#32
  let c88_7308 : Index := 88#32
  let c0_7309 : Index := 0#32
  ![v21162.toNat, 1, 0, 88, 0]
def k0_off400 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21165 : Index := Scalar.indexCast arg11
  let c1_7310 : Index := 1#32
  let c1_7311 : Index := 1#32
  let c88_7312 : Index := 88#32
  let c0_7313 : Index := 0#32
  ![v21165.toNat, 1, 1, 88, 0]
def k0_off401 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21270 : Index := Scalar.indexCast arg11
  let c1_7343 : Index := 1#32
  let c0_7344 : Index := 0#32
  let c89_7345 : Index := 89#32
  let c0_7346 : Index := 0#32
  ![v21270.toNat, 1, 0, 89, 0]
def k0_off402 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21273 : Index := Scalar.indexCast arg11
  let c1_7347 : Index := 1#32
  let c1_7348 : Index := 1#32
  let c89_7349 : Index := 89#32
  let c0_7350 : Index := 0#32
  ![v21273.toNat, 1, 1, 89, 0]
def k0_off403 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21378 : Index := Scalar.indexCast arg11
  let c1_7380 : Index := 1#32
  let c0_7381 : Index := 0#32
  let c90_7382 : Index := 90#32
  let c0_7383 : Index := 0#32
  ![v21378.toNat, 1, 0, 90, 0]
def k0_off404 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21381 : Index := Scalar.indexCast arg11
  let c1_7384 : Index := 1#32
  let c1_7385 : Index := 1#32
  let c90_7386 : Index := 90#32
  let c0_7387 : Index := 0#32
  ![v21381.toNat, 1, 1, 90, 0]
def k0_off405 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21486 : Index := Scalar.indexCast arg11
  let c1_7417 : Index := 1#32
  let c0_7418 : Index := 0#32
  let c91_7419 : Index := 91#32
  let c0_7420 : Index := 0#32
  ![v21486.toNat, 1, 0, 91, 0]
def k0_off406 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21489 : Index := Scalar.indexCast arg11
  let c1_7421 : Index := 1#32
  let c1_7422 : Index := 1#32
  let c91_7423 : Index := 91#32
  let c0_7424 : Index := 0#32
  ![v21489.toNat, 1, 1, 91, 0]
def k0_off407 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21594 : Index := Scalar.indexCast arg11
  let c1_7454 : Index := 1#32
  let c0_7455 : Index := 0#32
  let c92_7456 : Index := 92#32
  let c0_7457 : Index := 0#32
  ![v21594.toNat, 1, 0, 92, 0]
def k0_off408 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21597 : Index := Scalar.indexCast arg11
  let c1_7458 : Index := 1#32
  let c1_7459 : Index := 1#32
  let c92_7460 : Index := 92#32
  let c0_7461 : Index := 0#32
  ![v21597.toNat, 1, 1, 92, 0]
def k0_off409 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21702 : Index := Scalar.indexCast arg11
  let c1_7491 : Index := 1#32
  let c0_7492 : Index := 0#32
  let c93_7493 : Index := 93#32
  let c0_7494 : Index := 0#32
  ![v21702.toNat, 1, 0, 93, 0]
def k0_off410 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21705 : Index := Scalar.indexCast arg11
  let c1_7495 : Index := 1#32
  let c1_7496 : Index := 1#32
  let c93_7497 : Index := 93#32
  let c0_7498 : Index := 0#32
  ![v21705.toNat, 1, 1, 93, 0]
def k0_off411 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21810 : Index := Scalar.indexCast arg11
  let c1_7528 : Index := 1#32
  let c0_7529 : Index := 0#32
  let c94_7530 : Index := 94#32
  let c0_7531 : Index := 0#32
  ![v21810.toNat, 1, 0, 94, 0]
def k0_off412 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21813 : Index := Scalar.indexCast arg11
  let c1_7532 : Index := 1#32
  let c1_7533 : Index := 1#32
  let c94_7534 : Index := 94#32
  let c0_7535 : Index := 0#32
  ![v21813.toNat, 1, 1, 94, 0]
def k0_off413 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21918 : Index := Scalar.indexCast arg11
  let c1_7565 : Index := 1#32
  let c0_7566 : Index := 0#32
  let c95_7567 : Index := 95#32
  let c0_7568 : Index := 0#32
  ![v21918.toNat, 1, 0, 95, 0]
def k0_off414 (k0_t1 : Fin k0_t1_loop.trips) : Fin 5 → Nat :=
  let c0_i32_140 : BitVec 32 := 0#32
  let c1_i32_141 : BitVec 32 := 1#32
  let arg11 : BitVec 32 := Scf.iv c0_i32_140 c1_i32_141 k0_t1
  let v21921 : Index := Scalar.indexCast arg11
  let c1_7569 : Index := 1#32
  let c1_7570 : Index := 1#32
  let c95_7571 : Index := 95#32
  let c0_7572 : Index := 0#32
  ![v21921.toNat, 1, 1, 95, 0]
def k0_mult71 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_7606 : BitVec 32 := 512#32
  let v22041 : BitVec 32 := Scalar.muli arg11 c512_i32_7606
  v22041
def k0_mult72 (k0_t1 : Fin k0_t1_loop.trips) : BitVec 32 :=
  let c0_i32_140 : BitVec 32 := 0#32
  let c1_i32_141 : BitVec 32 := 1#32
  let arg11 : BitVec 32 := Scf.iv c0_i32_140 c1_i32_141 k0_t1
  let c512_i32_7609 : BitVec 32 := 512#32
  let v22047 : BitVec 32 := Scalar.muli arg11 c512_i32_7609
  v22047
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x4x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Proof.Tile.lean ====
module

public import proofs.«01_k».proof.Proof.Gen.AmaxIdeal.Value
public import Idealize.ShloMosaic.Lib.Pipeline.ValueKit

@[expose] public section

set_option maxRecDepth 16384

noncomputable section

namespace Cert.AmaxIdeal.Tile

open Cert.AmaxIdeal Cert.AmaxIdeal.Gen Idealize.ShloMosaic Idealize.ShloMosaic.TcCoe Idealize.SL.Sem

variable {F : FTy → Type} [FloatOps F] [Named F]

/-- The sixteen row groups a tile of the block begins at and the column pair it takes lie inside the block. -/
theorem inbX (c : Fin 2) (g : Fin 12) (a : Fin 2) :
    ∀ b, (![16 * g.val, 2 * c.val + a.val, 0, 0] : Fin 4 → ℕ) b + S16x1x16x128.size b ≤ S192x4x16x128.size b := by
  intro b
  have := g.isLt; have := c.isLt; have := a.isLt
  match b with
  | ⟨0, _⟩ => show 16 * g.val + 16 ≤ 192; omega
  | ⟨1, _⟩ => show 2 * c.val + a.val + 1 ≤ 4; omega
  | ⟨2, _⟩ => show 0 + 16 ≤ 16; omega
  | ⟨3, _⟩ => show 0 + 128 ≤ 128; omega

/-- The eight output rows and 128 output columns a tile's half writes lie inside the output block. -/
theorem inbO (c : Fin 2) (g : Fin 12) (h a : Fin 2) :
    ∀ b, (![8 * g.val, 512 * c.val + 256 * a.val + 128 * h.val] : Fin 2 → ℕ) b + S8x128.size b ≤ S96x1024.size b := by
  intro b
  have := g.isLt; have := c.isLt; have := a.isLt; have := h.isLt
  match b with
  | ⟨0, _⟩ => show 8 * g.val + 8 ≤ 96; omega
  | ⟨1, _⟩ => show 512 * c.val + 256 * a.val + 128 * h.val + 128 ≤ 1024; omega

/-- One half of a tile's input: sixteen row groups of one column group of the block. -/
def half (X : Vec F S192x4x16x128 .bf16) (c : Fin 2) (g : Fin 12) (a : Fin 2) : Vec F S16x1x16x128 .bf16 :=
  View.ld X (Rect.unit (s := S192x4x16x128) ![16 * g.val, 2 * c.val + a.val, 0, 0] S16x1x16x128.size (inbX c g a))

/-- The absolute value of the scratch matrix times one tile of the block. -/
def absW (X : Vec F S192x4x16x128 .bf16) (r : Vec F S256x256 .bf16) (c : Fin 2) (g : Fin 12) : FVec F S256x256 .f32 :=
  k0_pay12 (half X c g 0) (half X c g 1) r

/-- The maximum over the sixteen row groups of a tile's upper (`h = 0`) or lower half. -/
def bmax (X : Vec F S192x4x16x128 .bf16) (r : Vec F S256x256 .bf16) (c : Fin 2) (g : Fin 12) (h : Fin 2) : FVec F S8x256 .f32 :=
  match h with
  | 0 => k0_pay13 (half X c g 0) (half X c g 1) r
  | 1 => k0_pay17 (absW X r c g)

/-- The left or right 128 columns of a row-group maximum. -/
def lanes (b : FVec F S8x256 .f32) (a : Fin 2) : FVec F S8x128 .f32 :=
  match a with
  | 0 => extractStridedSlice S8x128 ![0, 0] b slices_S8x256_o0_0_S8x128
  | 1 => extractStridedSlice S8x128 ![0, 128] b slices_S8x256_o0_128_S8x128

/-- The rectangle of the output block one store of a tile writes. -/
abbrev orect (c : Fin 2) (g : Fin 12) (h a : Fin 2) : Rect S96x1024 :=
  Rect.unit (s := S96x1024) ![8 * g.val, 512 * c.val + 256 * a.val + 128 * h.val] S8x128.size (inbO c g h a)

/-- One store of a tile into the output block. -/
def piece (X : Vec F S192x4x16x128 .bf16) (r : Vec F S256x256 .bf16) (c : Fin 2) (g : Fin 12) (h a : Fin 2) :
    View.Piece (Elt F) S96x1024 .f32 :=
  ⟨orect c g h a, lanes (bmax X r c g h) a⟩

/-- The tiles in the order the body takes them, last first. -/
def tiles : List (Fin 2 × Fin 12) :=
  [(1, 11), (1, 10), (1, 9), (1, 8), (1, 7), (1, 6), (1, 5), (1, 4), (1, 3), (1, 2), (1, 1), (1, 0),
   (0, 11), (0, 10), (0, 9), (0, 8), (0, 7), (0, 6), (0, 5), (0, 4), (0, 3), (0, 2), (0, 1), (0, 0)]

/-- Every store into the output block, last first. -/
def pieces (X : Vec F S192x4x16x128 .bf16) (r : Vec F S256x256 .bf16) : List (View.Piece (Elt F) S96x1024 .f32) :=
  tiles.flatMap fun cg => [piece X r cg.1 cg.2 1 1, piece X r cg.1 cg.2 1 0, piece X r cg.1 cg.2 0 1, piece X r cg.1 cg.2 0 0]

/-- One update of the running maximum. -/
def upd (X : Vec F S192x4x16x128 .bf16) (r : Vec F S256x256 .bf16) (c : Fin 2) (g : Fin 12) (h : Fin 2) (acc : FVec F S8x256 .f32) :
    FVec F S8x256 .f32 :=
  k0_pay16 (bmax X r c g h) acc

/-- The running maximum after the tiles of a list, last first. -/
def sweep (X : Vec F S192x4x16x128 .bf16) (r : Vec F S256x256 .bf16) (acc : FVec F S8x256 .f32) : List (Fin 2 × Fin 12) → FVec F S8x256 .f32
  | [] => acc
  | cg :: L => upd X r cg.1 cg.2 1 (upd X r cg.1 cg.2 0 (sweep X r acc L))

/-- A load of the running maximum right after a store to it reads what the store wrote: the step by which the body's
    chain of loads and stores is read as one sweep. -/
theorem upd_readCov (X : Vec F S192x4x16x128 .bf16) (r : Vec F S256x256 .bf16) (c : Fin 2) (g : Fin 12) (h : Fin 2)
    (acc acc' : FVec F S8x256 .f32) {sig' : RefSig} {κ : Kind} {sp : Space} (v : View sig' κ sp S8x256 .f32)
    (L : List (View.Piece (Elt F) S8x256 .f32)) (e : acc' = acc) :
    upd X r c g h acc'
      = v.readCov ((⟨Rect.unit ![0, 0] S8x256.size inb_S8x256_S8x256_0_0, upd X r c g h acc⟩ : View.Piece (Elt F) S8x256 .f32) :: L)
          (Rect.unit ![0, 0] S8x256.size inb_S8x256_S8x256_0_0).toLoadRect := by
  subst e
  exact (View.readCov_cons_unit_lit' v _ _ _ L (by decide) (by decide)).symm

/-- The same for the contents the stores leave. -/
theorem upd_canon (X : Vec F S192x4x16x128 .bf16) (r : Vec F S256x256 .bf16) (c : Fin 2) (g : Fin 12) (h : Fin 2)
    (acc acc' : FVec F S8x256 .f32) (L : List (View.Piece (Elt F) S8x256 .f32)) (e : acc' = acc) :
    upd X r c g h acc'
      = View.canon ((⟨Rect.unit ![0, 0] S8x256.size inb_S8x256_S8x256_0_0, upd X r c g h acc⟩ : View.Piece (Elt F) S8x256 .f32) :: L) := by
  subst e
  exact (View.canon_cons_unit_lit' _ _ L (by decide)).symm

end Cert.AmaxIdeal.Tile

end
-- ==== Proof.CaseA.lean ====
module

public import proofs.«01_k».proof.Proof.Tile

@[expose] public section

set_option maxRecDepth 16384

noncomputable section

namespace Cert.AmaxIdeal.Tile

open Cert.AmaxIdeal Cert.AmaxIdeal.Gen Idealize.ShloMosaic Idealize.ShloMosaic.TcCoe Idealize.SL.Sem

variable {F : FTy → Type} [FloatOps F] [Named F]

section
variable (c : Dev nD) (i : grid0.Coords) (arg1 : Memref sig .tc .smem S16 .f32) (harg1 : arg1.IsWhole) (arg2 : Memref sig .tc .vmem S192x4x16x128 .bf16) (harg2 : arg2.IsWhole) (arg3 : Memref sig .tc .vmem S96x1024 .f32) (harg3 : arg3.IsWhole) (arg4 : Memref sig .tc .smem S1 .f32) (harg4 : arg4.IsWhole) (arg5 : Memref sig .tc .vmem S256x256 .bf16) (harg5 : arg5.IsWhole) (arg6 : Memref sig .tc .vmem S8x256 .f32) (harg6 : arg6.IsWhole) (hc0 : cond0_0 i) (hc1 : ¬cond0_1 i)
    (x0 : Vec F S16 .f32) (x1 : Vec F S192x4x16x128 .bf16)

/-- At the first grid point the stores into the output block are those of the tiles. -/
theorem piecesA :
    (kernelRun0_A c i arg1 harg1 arg2 harg2 arg3 harg3 arg4 harg4 arg5 harg5 arg6 harg6 hc0 hc1 x0 x1).1
      = pieces (arg2.view.read (Elt F) (harg2.unread x1))
          (kernelRun0_A.sl.v10 c arg1 harg1 arg5 x0) := by
  sl_kernel_rfl

/-- At the first grid point the running maximum is left swept over the tiles. -/
theorem maxA :
    View.canon (kernelRun0_A c i arg1 harg1 arg2 harg2 arg3 harg3 arg4 harg4 arg5 harg5 arg6 harg6 hc0 hc1 x0 x1).2.2.2.1
      = sweep (arg2.view.read (Elt F) (harg2.unread x1))
          (kernelRun0_A.sl.v10 c arg1 harg1 arg5 x0)
          (kernelRun0_A.sl.v48 c arg6) tiles := by
  unfold kernelRun0_A
  dsimp only
  symm
  refine upd_canon _ _ _ _ _ _ _ _ ?_
  iterate 47 refine upd_readCov _ _ _ _ _ _ _ _ _ ?_
  rfl

end

end Cert.AmaxIdeal.Tile

end
-- ==== Proof.CaseB.lean ====
module

public import proofs.«01_k».proof.Proof.Tile

@[expose] public section

set_option maxRecDepth 16384

noncomputable section

namespace Cert.AmaxIdeal.Tile

open Cert.AmaxIdeal Cert.AmaxIdeal.Gen Idealize.ShloMosaic Idealize.ShloMosaic.TcCoe Idealize.SL.Sem

variable {F : FTy → Type} [FloatOps F] [Named F]

section
variable (c : Dev nD) (i : grid0.Coords) (arg1 : Memref sig .tc .smem S16 .f32) (harg1 : arg1.IsWhole) (arg2 : Memref sig .tc .vmem S192x4x16x128 .bf16) (harg2 : arg2.IsWhole) (arg3 : Memref sig .tc .vmem S96x1024 .f32) (harg3 : arg3.IsWhole) (arg4 : Memref sig .tc .smem S1 .f32) (harg4 : arg4.IsWhole) (arg5 : Memref sig .tc .vmem S256x256 .bf16) (harg5 : arg5.IsWhole) (arg6 : Memref sig .tc .vmem S8x256 .f32) (harg6 : arg6.IsWhole) (hc0 : ¬cond0_0 i) (hc1 : ¬cond0_1 i)
    (x0 : Vec F S16 .f32) (x1 : Vec F S192x4x16x128 .bf16) (xs0 : Vec F S256x256 .bf16) (xs1 : Vec F S8x256 .f32)

/-- At a middle grid point the stores into the output block are those of the tiles. -/
theorem piecesB :
    (kernelRun0_B c i arg1 harg1 arg2 harg2 arg3 harg3 arg4 harg4 arg5 harg5 arg6 harg6 hc0 hc1 x0 x1 xs0 xs1).1
      = pieces (arg2.view.read (Elt F) (harg2.unread x1))
          (View.ld (arg5.view.read (Elt F) (harg5.unread xs0)) (Rect.unit ![0, 0] S256x256.size inb_S256x256_S256x256_0_0)) := by
  sl_kernel_rfl

/-- At a middle grid point the running maximum is left swept over the tiles. -/
theorem maxB :
    View.canon (kernelRun0_B c i arg1 harg1 arg2 harg2 arg3 harg3 arg4 harg4 arg5 harg5 arg6 harg6 hc0 hc1 x0 x1 xs0 xs1).2.2.2.1
      = sweep (arg2.view.read (Elt F) (harg2.unread x1))
          (View.ld (arg5.view.read (Elt F) (harg5.unread xs0)) (Rect.unit ![0, 0] S256x256.size inb_S256x256_S256x256_0_0))
          (View.ld (arg6.view.read (Elt F) (harg6.unread xs1)) (Rect.unit ![0, 0] S8x256.size inb_S8x256_S8x256_0_0)) tiles := by
  unfold kernelRun0_B
  dsimp only
  symm
  refine upd_canon _ _ _ _ _ _ _ _ ?_
  iterate 47 refine upd_readCov _ _ _ _ _ _ _ _ _ ?_
  rfl

end

end Cert.AmaxIdeal.Tile

end
-- ==== Proof.CaseC.lean ====
module

public import proofs.«01_k».proof.Proof.Tile

@[expose] public section

set_option maxRecDepth 16384

noncomputable section

namespace Cert.AmaxIdeal.Tile

open Cert.AmaxIdeal Cert.AmaxIdeal.Gen Idealize.ShloMosaic Idealize.ShloMosaic.TcCoe Idealize.SL.Sem

variable {F : FTy → Type} [FloatOps F] [Named F]

section
variable (c : Dev nD) (i : grid0.Coords) (arg1 : Memref sig .tc .smem S16 .f32) (harg1 : arg1.IsWhole) (arg2 : Memref sig .tc .vmem S192x4x16x128 .bf16) (harg2 : arg2.IsWhole) (arg3 : Memref sig .tc .vmem S96x1024 .f32) (harg3 : arg3.IsWhole) (arg4 : Memref sig .tc .smem S1 .f32) (harg4 : arg4.IsWhole) (arg5 : Memref sig .tc .vmem S256x256 .bf16) (harg5 : arg5.IsWhole) (arg6 : Memref sig .tc .vmem S8x256 .f32) (harg6 : arg6.IsWhole) (hc0 : ¬cond0_0 i) (hc1 : cond0_1 i)
    (x0 : Vec F S16 .f32) (x1 : Vec F S192x4x16x128 .bf16) (xs0 : Vec F S256x256 .bf16) (xs1 : Vec F S8x256 .f32)

/-- At the last grid point the stores into the output block are those of the tiles. -/
theorem piecesC :
    (kernelRun0_C c i arg1 harg1 arg2 harg2 arg3 harg3 arg4 harg4 arg5 harg5 arg6 harg6 hc0 hc1 x0 x1 xs0 xs1).1
      = pieces (arg2.view.read (Elt F) (harg2.unread x1))
          (View.ld (arg5.view.read (Elt F) (harg5.unread xs0)) (Rect.unit ![0, 0] S256x256.size inb_S256x256_S256x256_0_0)) := by
  sl_kernel_rfl

/-- At the last grid point the running maximum is left swept over the tiles. -/
theorem maxC :
    View.canon (kernelRun0_C c i arg1 harg1 arg2 harg2 arg3 harg3 arg4 harg4 arg5 harg5 arg6 harg6 hc0 hc1 x0 x1 xs0 xs1).2.2.2.1
      = sweep (arg2.view.read (Elt F) (harg2.unread x1))
          (View.ld (arg5.view.read (Elt F) (harg5.unread xs0)) (Rect.unit ![0, 0] S256x256.size inb_S256x256_S256x256_0_0))
          (View.ld (arg6.view.read (Elt F) (harg6.unread xs1)) (Rect.unit ![0, 0] S8x256.size inb_S8x256_S8x256_0_0)) tiles := by
  unfold kernelRun0_C
  dsimp only
  symm
  refine upd_canon _ _ _ _ _ _ _ _ ?_
  iterate 47 refine upd_readCov _ _ _ _ _ _ _ _ _ ?_
  rfl

end

end Cert.AmaxIdeal.Tile

end
-- ==== Proof.Outs.lean ====
module

public import proofs.«01_k».proof.Proof.CaseA
public import proofs.«01_k».proof.Proof.CaseB
public import proofs.«01_k».proof.Proof.CaseC

@[expose] public section

set_option maxRecDepth 16384

noncomputable section

namespace Cert.AmaxIdeal.Tile

open Cert.AmaxIdeal Cert.AmaxIdeal.Gen Idealize.ShloMosaic Idealize.ShloMosaic.TcCoe Idealize.SL.Sem

variable {F : FTy → Type} [FloatOps F] [Named F]

/-- Each of the sixteen signs lies inside their array. -/
theorem inbS (j : Fin 16) : ∀ b, (![j.val] : Fin 1 → ℕ) b + S1.size b ≤ S16.size b := by
  intro b
  have := j.isLt
  match b with
  | ⟨0, _⟩ => show j.val + 1 ≤ 16; omega

/-- The sign at position `j`, as the body loads it. -/
def sgn (x0 : Vec F S16 .f32) (j : Fin 16) : Elt F .f32 :=
  View.ld x0 (Rect.unit (s := S16) ![j.val] S1.size (inbS j)) (Shape.Idx.first (numel1_S1.symm ▸ Nat.one_pos))

/-- The matrix the first grid point leaves in the scratch, from the sixteen signs. -/
def rht (s : Fin 16 → Elt F .f32) : FVec F S256x256 .bf16 :=
  k0_pay10 (k0_pay9 (iota .tc S256x256 32 [0] iota_S256x256_d0_w32) (iota .tc S256x256 32 [1] iota_S256x256_d1_w32) k0_pay3 k0_pay4 k0_pay5
    (k0_pay8 k0_pay4 (k0_pay6 (s 0)) k0_pay7 (s 1) (s 2) (s 3) (s 4) (s 5) (s 6) (s 7) (s 8) (s 9))
    10#32 (s 10) (s 11) (s 12) (s 13) (s 14) (s 15))

/-- An output block's element, from the tile that writes it. -/
def blockOut (X : Vec F S192x4x16x128 .bf16) (r : Vec F S256x256 .bf16) (y : S96x1024.Idx) : F .f32 :=
  have h0 : (y 0).val < 96 := (y 0).isLt
  have h1 : (y 1).val < 1024 := (y 1).isLt
  lanes (bmax X r ⟨(y 1).val / 512, by omega⟩ ⟨(y 0).val / 8, by omega⟩ ⟨(y 1).val / 128 % 2, by omega⟩)
    ⟨(y 1).val / 256 % 2, by omega⟩
    (fun a => match a with
      | ⟨0, _⟩ => ⟨(y 0).val % 8, by show _ < 8; omega⟩
      | ⟨1, _⟩ => ⟨(y 1).val % 128, by show _ < 128; omega⟩)

/-- Where a store of a tile puts an element, that element is the block's. -/
theorem piece_apply (X : Vec F S192x4x16x128 .bf16) (r : Vec F S256x256 .bf16) (c : Fin 2) (g : Fin 12) (h a : Fin 2)
    (x : (orect c g h a).shape.Idx) : lanes (bmax X r c g h) a x = blockOut X r ((orect c g h a).emb x) := by
  have hx0 : (x 0).val < 8 := (x 0).isLt
  have hx1 : (x 1).val < 128 := (x 1).isLt
  have e0 : ((orect c g h a).emb x 0).val = 8 * g.val + (x 0).val := by
    show 8 * g.val + 1 * (x 0).val = _; omega
  have e1 : ((orect c g h a).emb x 1).val = 512 * c.val + 256 * a.val + 128 * h.val + (x 1).val := by
    show 512 * c.val + 256 * a.val + 128 * h.val + 1 * (x 1).val = _; omega
  generalize (orect c g h a).emb x = y at e0 e1
  have := g.isLt; have := c.isLt; have := a.isLt; have := h.isLt
  unfold blockOut
  dsimp only
  have ec : c = ⟨(y 1).val / 512, by omega⟩ := Fin.ext (by dsimp only; omega)
  have eg : g = ⟨(y 0).val / 8, by omega⟩ := Fin.ext (by dsimp only; omega)
  have eh : h = ⟨(y 1).val / 128 % 2, by omega⟩ := Fin.ext (by dsimp only; omega)
  have ea : a = ⟨(y 1).val / 256 % 2, by omega⟩ := Fin.ext (by dsimp only; omega)
  rw [← ec, ← eg, ← eh, ← ea]
  congr 1
  funext b
  match b with
  | ⟨0, _⟩ => apply Fin.ext; show (x 0).val = (y 0).val % 8; omega
  | ⟨1, _⟩ => apply Fin.ext; show (x 1).val = (y 1).val % 128; omega

/-- Every store of the list puts the block's elements where it writes. -/
theorem pieces_apply (X : Vec F S192x4x16x128 .bf16) (r : Vec F S256x256 .bf16) :
    ∀ p ∈ pieces X r, ∀ x : p.1.shape.Idx, p.2 x = blockOut X r (p.1.emb x) := by
  intro p hp
  obtain ⟨cg, -, hp⟩ := List.mem_flatMap.1 hp
  simp only [List.mem_cons, List.not_mem_nil, or_false] at hp
  rcases hp with rfl | rfl | rfl | rfl <;> exact piece_apply X r _ _ _ _

section
variable (c : Dev nD) (i : grid0.Coords) (arg1 : Memref sig .tc .smem S16 .f32) (harg1 : arg1.IsWhole) (arg2 : Memref sig .tc .vmem S192x4x16x128 .bf16) (harg2 : arg2.IsWhole) (arg3 : Memref sig .tc .vmem S96x1024 .f32) (harg3 : arg3.IsWhole) (arg4 : Memref sig .tc .smem S1 .f32) (harg4 : arg4.IsWhole) (arg5 : Memref sig .tc .vmem S256x256 .bf16) (harg5 : arg5.IsWhole) (arg6 : Memref sig .tc .vmem S8x256 .f32) (harg6 : arg6.IsWhole)
    (x0 : Vec F S16 .f32) (x1 : Vec F S192x4x16x128 .bf16) (xs0 : Vec F S256x256 .bf16) (xs1 : Vec F S8x256 .f32)

/-- What the first grid point stores in the scratch matrix is the matrix of the signs. -/
theorem v2297_eq : kernelRun0_A.sl.v2297 c arg1 harg1 x0 = rht (sgn x0) := by
  have e : kernelRun0_A.sl.v2297 c arg1 harg1 x0 = rht (sgn (arg1.view.read (Elt F) (harg1.unread x0))) := by
    sl_kernel_rfl
  rw [e, harg1.read_unread]

/-- What the first grid point loads as the matrix is the matrix of the signs. -/
theorem v10_eq : kernelRun0_A.sl.v10 c arg1 harg1 arg5 x0 = rht (sgn x0) := by
  unfold kernelRun0_A.sl.v10 kernelRun0_A.sl.HS0_1
  rw [← v2297_eq c arg1 harg1]
  exact View.readCov_cons_unit_lit' _ _ _ _ _ (by decide) (by decide)

/-- What the first grid point loads first as the running maximum is zero. -/
theorem v48_eq : kernelRun0_A.sl.v48 (F := F) c arg6 = k0_pay11 := by
  unfold kernelRun0_A.sl.v48 kernelRun0_A.sl.HS1_1
  exact View.readCov_cons_unit_lit' _ _ _ _ _ (by decide) (by decide)

section
variable (hc0 : cond0_0 i) (hc1 : ¬cond0_1 i)

/-- The first grid point's output block. -/
theorem out0_A_2_eq : out0_A_2 c i arg1 harg1 arg2 harg2 arg3 harg3 arg4 harg4 arg5 harg5 arg6 harg6 hc0 hc1 x0 x1 = blockOut x1 (rht (sgn x0)) := by
  have cov := cover0_A_2 c i arg1 harg1 arg2 harg2 arg3 harg3 arg4 harg4 arg5 harg5 arg6 harg6 hc0 hc1 x0 x1
  unfold out0_A_2
  rw [View.read_writes_eq_canon _ _ _ cov]
  rw [piecesA, v10_eq, harg2.read_unread] at cov ⊢
  exact funext fun y => View.canon_apply_of_pieces _ _ (pieces_apply _ _) y (cov y)

/-- The first grid point's scratch matrix. -/
theorem sout0_A_0_eq : sout0_A_0 c i arg1 harg1 arg2 harg2 arg3 harg3 arg4 harg4 arg5 harg5 arg6 harg6 hc0 hc1 x0 x1 = rht (sgn x0) := by
  unfold sout0_A_0
  rw [View.read_writes_eq_canon _ _ _ (scover0_A_0 c i arg1 harg1 arg2 harg2 arg3 harg3 arg4 harg4 arg5 harg5 arg6 harg6 hc0 hc1 x0 x1), ← v2297_eq c arg1 harg1]
  unfold kernelRun0_A
  dsimp only
  exact View.canon_cons_unit_lit' _ _ _ (by decide)

/-- The first grid point's running maximum. -/
theorem sout0_A_1_eq : sout0_A_1 c i arg1 harg1 arg2 harg2 arg3 harg3 arg4 harg4 arg5 harg5 arg6 harg6 hc0 hc1 x0 x1 = sweep x1 (rht (sgn x0)) k0_pay11 tiles := by
  unfold sout0_A_1
  rw [View.read_writes_eq_canon _ _ _ (scover0_A_1 c i arg1 harg1 arg2 harg2 arg3 harg3 arg4 harg4 arg5 harg5 arg6 harg6 hc0 hc1 x0 x1),
    maxA, v10_eq, v48_eq, harg2.read_unread]

end

section
variable (hc0 : ¬cond0_0 i) (hc1 : ¬cond0_1 i)

/-- A middle grid point's output block. -/
theorem out0_B_2_eq : out0_B_2 c i arg1 harg1 arg2 harg2 arg3 harg3 arg4 harg4 arg5 harg5 arg6 harg6 hc0 hc1 x0 x1 xs0 xs1 = blockOut x1 xs0 := by
  have cov := cover0_B_2 c i arg1 harg1 arg2 harg2 arg3 harg3 arg4 harg4 arg5 harg5 arg6 harg6 hc0 hc1 x0 x1 xs0 xs1
  unfold out0_B_2
  rw [View.read_writes_eq_canon _ _ _ cov]
  rw [piecesB, harg2.read_unread, harg5.read_unread, View.ld_unit_lit' _ _ (by decide)] at cov ⊢
  exact funext fun y => View.canon_apply_of_pieces _ _ (pieces_apply _ _) y (cov y)

/-- A middle grid point's running maximum. -/
theorem sout0_B_1_eq : sout0_B_1 c i arg1 harg1 arg2 harg2 arg3 harg3 arg4 harg4 arg5 harg5 arg6 harg6 hc0 hc1 x0 x1 xs0 xs1 = sweep x1 xs0 xs1 tiles := by
  unfold sout0_B_1
  rw [View.read_writes_eq_canon _ _ _ (scover0_B_1 c i arg1 harg1 arg2 harg2 arg3 harg3 arg4 harg4 arg5 harg5 arg6 harg6 hc0 hc1 x0 x1 xs0 xs1),
    maxB, harg2.read_unread, harg5.read_unread, harg6.read_unread, View.ld_unit_lit' _ _ (by decide), View.ld_unit_lit' _ _ (by decide)]

end

section
variable (hc0 : ¬cond0_0 i) (hc1 : cond0_1 i)

/-- The last grid point's output block. -/
theorem out0_C_2_eq : out0_C_2 c i arg1 harg1 arg2 harg2 arg3 harg3 arg4 harg4 arg5 harg5 arg6 harg6 hc0 hc1 x0 x1 xs0 xs1 = blockOut x1 xs0 := by
  have cov := cover0_C_2 c i arg1 harg1 arg2 harg2 arg3 harg3 arg4 harg4 arg5 harg5 arg6 harg6 hc0 hc1 x0 x1 xs0 xs1
  unfold out0_C_2
  rw [View.read_writes_eq_canon _ _ _ cov]
  rw [piecesC, harg2.read_unread, harg5.read_unread, View.ld_unit_lit' _ _ (by decide)] at cov ⊢
  exact funext fun y => View.canon_apply_of_pieces _ _ (pieces_apply _ _) y (cov y)

/-- The last grid point's tensor scale, from the running maximum it ends with. -/
theorem out0_C_3_eq (y : S1.Idx) : out0_C_3 c i arg1 harg1 arg2 harg2 arg3 harg3 arg4 harg4 arg5 harg5 arg6 harg6 hc0 hc1 x0 x1 xs0 xs1 y
    = k0_pay2 (sweep x1 xs0 xs1 tiles) := by
  unfold out0_C_3
  rw [View.read_writes_eq_canon _ _ _ (cover0_C_3 c i arg1 harg1 arg2 harg2 arg3 harg3 arg4 harg4 arg5 harg5 arg6 harg6 hc0 hc1 x0 x1 xs0 xs1)]
  have e := maxC c i arg1 harg1 arg2 harg2 arg3 harg3 arg4 harg4 arg5 harg5 arg6 harg6 hc0 hc1 x0 x1 xs0 xs1
  rw [harg2.read_unread, harg5.read_unread, harg6.read_unread, View.ld_unit_lit' _ _ (by decide), View.ld_unit_lit' _ _ (by decide)] at e
  rw [← e]
  unfold kernelRun0_C
  dsimp only
  have hv : kernelRun0_C.sl.v2166 c arg2 harg2 arg5 harg5 arg6 harg6 x1 xs0 xs1
      = View.canon (kernelRun0_C.sl.HS1_48 c arg2 harg2 arg5 harg5 arg6 harg6 x1 xs0 xs1) := by
    unfold kernelRun0_C.sl.v2166 kernelRun0_C.sl.HS1_48
    rw [View.canon_cons_unit_lit' _ _ _ (by decide)]
    exact View.readCov_cons_unit_lit' _ _ _ _ _ (by decide) (by decide)
  rw [hv]
  exact congrFun (View.canon_cons_unit_lit' _ _ _ (by decide)) y

end

end

end Cert.AmaxIdeal.Tile

end
-- ==== Proof.State.lean ====
module

public import proofs.«01_k».proof.Proof.Outs

@[expose] public section

set_option maxRecDepth 16384

noncomputable section

namespace Cert.AmaxIdeal.Tile

open Cert.AmaxIdeal Cert.AmaxIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (c : Dev nD)

/-- The input block of the grid point `n`. -/
def inX (n : ℕ) (hn : n < cfg0.N) : Vec F S192x4x16x128 .bf16 := iblk m c 1 ⟨n, hn⟩

/-- The sixteen signs the program is launched with. -/
def signs : Vec F S16 .f32 := m ((c : Thread nD τ).loc main_arg1)

/-- The matrix every grid point multiplies by. -/
def mat : FVec F S256x256 .bf16 := rht (sgn (signs m c))

/-- The running maximum after grid point `n`. -/
def top : (n : ℕ) → n < cfg0.N → FVec F S8x256 .f32
  | 0, h => sweep (inX m c 0 h) (mat m c) k0_pay11 tiles
  | n + 1, h => sweep (inX m c (n + 1) h) (mat m c) (top n (Nat.lt_of_succ_lt h)) tiles

/-- Every grid point sees the signs whole. -/
theorem iblk0_eq (t : Fin cfg0.N) : iblk m c 0 t = signs m c := by
  funext y
  unfold signs
  have idx0 : ∀ t : Fin grid0.N, win0_0.index t = ![0] := by decide +kernel
  blk_ext! [iblk, V_main_arg1, idx0 t]

/-- What the scratch holds after every grid point but the last: the matrix and the running maximum. -/
theorem state (n : ℕ) (hn : n < cfg0.N) (h27 : n < 27) :
    (outsAt0 m c n hn).2.2.1 = mat m c ∧ (outsAt0 m c n hn).2.2.2 = top m c n hn := by
  induction n with
  | zero =>
    have e := outsAt0_A m c ⟨0, hn⟩ (by show 0 % 28 = 0; rfl) (by show ¬0 % 28 = 27; decide)
    dsimp only at e
    rw [e]
    dsimp only
    rw [sout0_A_0_eq, sout0_A_1_eq, iblk0_eq]
    exact ⟨rfl, rfl⟩
  | succ n ih =>
    have e := outsAt0_B m c ⟨n + 1, hn⟩ (by dsimp only; omega) (by dsimp only; omega)
    obtain ⟨i0, i1⟩ := ih (Nat.lt_of_succ_lt hn) (by omega)
    dsimp only [Nat.add_sub_cancel] at e
    rw [e]
    dsimp only
    rw [sout0_B_1_eq]
    exact ⟨i0, congrArg₂ (fun a b => sweep _ a b tiles) i0 i1⟩

/-- The output block every grid point leaves. -/
theorem block (n : ℕ) (hn : n < cfg0.N) : (outsAt0 m c n hn).1 = blockOut (inX m c n hn) (mat m c) := by
  cases n with
  | zero =>
    have e := outsAt0_A m c ⟨0, hn⟩ (by show 0 % 28 = 0; rfl) (by show ¬0 % 28 = 27; decide)
    dsimp only at e
    rw [e]
    dsimp only
    rw [out0_A_2_eq, iblk0_eq]
    rfl
  | succ n =>
    have hN : cfg0.N = 28 := N_0
    obtain ⟨i0, -⟩ := state m c n (Nat.lt_of_succ_lt hn) (by omega)
    by_cases h : n + 1 = 27
    · have e := outsAt0_C m c ⟨n + 1, hn⟩ (by dsimp only; omega) (by dsimp only; omega)
      dsimp only [Nat.add_sub_cancel] at e
      rw [e]
      dsimp only
      rw [out0_C_2_eq]
      exact congrArg (blockOut _) i0
    · have e := outsAt0_B m c ⟨n + 1, hn⟩ (by dsimp only; omega) (by dsimp only; omega)
      dsimp only [Nat.add_sub_cancel] at e
      rw [e]
      dsimp only
      rw [out0_B_2_eq]
      exact congrArg (blockOut _) i0

/-- The tensor scale the last grid point leaves. -/
theorem scale (n : ℕ) (hn : n < cfg0.N) (h27 : n = 27) (y : S1.Idx) : (outsAt0 m c n hn).2.1 y = k0_pay2 (top m c n hn) := by
  obtain ⟨k, rfl⟩ : ∃ k, n = k + 1 := ⟨n - 1, by omega⟩
  obtain ⟨i0, i1⟩ := state m c k (Nat.lt_of_succ_lt hn) (by omega)
  have e := outsAt0_C m c ⟨k + 1, hn⟩ (by dsimp only; omega) (by dsimp only; omega)
  dsimp only [Nat.add_sub_cancel] at e
  rw [e]
  dsimp only
  rw [out0_C_3_eq]
  exact congrArg k0_pay2 (congrArg₂ (fun a b => sweep _ a b tiles) i0 i1)

/-- The column of the block of grid point `t` at which array column `j` lies. -/
def colIn (i : S96x28672.Idx) : S96x1024.Idx := fun b => match b with
  | ⟨0, _⟩ => ⟨(i 0).val, (i 0).isLt⟩
  | ⟨1, _⟩ => ⟨(i 1).val % 1024, Nat.mod_lt _ (by decide)⟩

theorem ptOf (i : S96x28672.Idx) : (i 1).val / 1024 < cfg0.N := by
  have h : (i 1).val < 28672 := (i 1).isLt
  have hN : cfg0.N = 28 := N_0
  omega

/-- Output blocks agree where points and indices do. -/
theorem block_congr {n n' : ℕ} (h : n < cfg0.N) (h' : n' < cfg0.N) (e : n = n') (y y' : S96x1024.Idx)
    (e0 : (y 0).val = (y' 0).val) (e1 : (y 1).val = (y' 1).val) :
    blockOut (inX m c n h) (mat m c) y = blockOut (inX m c n' h') (mat m c) y' := by
  subst e
  congr 1
  funext b
  match b with
  | ⟨0, _⟩ => exact Fin.ext e0
  | ⟨1, _⟩ => exact Fin.ext e1

/-- The first result after the run, element by element. -/
theorem final2 : (dats m 0 c).arrAt 2 cfg0.N
    = fun i : S96x28672.Idx => blockOut (inX m c ((i 1).val / 1024) (ptOf i)) (mat m c) (colIn i) := by
  have idx2 : ∀ t : Fin grid0.N, win0_2.index t = ![0, t.val] := by decide +kernel
  refine (dats m 0 c).arrAt_eq_of_covers 2 _ (by decide +kernel) fun t hf y => ?_
  rw [after0_2, block]
  have h0 : (y 0).val < 96 := (y 0).isLt
  have h1 : (y 1).val < 1024 := (y 1).isLt
  have e0 : (((cfg0.win 2).blk t).view.emb y 0).val = (y 0).val := by blk_simp [idx2 t]
  have e1 : (((cfg0.win 2).blk t).view.emb y 1).val = 1024 * t.val + (y 1).val := by blk_simp [idx2 t]; omega
  refine block_congr m c _ _ (by rw [e1]; omega) _ _ ?_ ?_
  · exact e0.symm
  · show (y 1).val = _ % 1024
    rw [e1]; omega

/-- The second result after the run. -/
theorem final3 : (dats m 0 c).arrAt 3 cfg0.N
    = fun _ : S1.Idx => k0_pay2 (top m c 27 (by rw [show cfg0.N = 28 from N_0]; decide)) := by
  refine (dats m 0 c).arrAt_eq_of_after_last 3 ⟨27, by rw [show cfg0.N = 28 from N_0]; decide⟩ (by decide +kernel) _ fun j => ?_
  rw [after0_3]
  exact scale m c 27 _ rfl _

end Cert.AmaxIdeal.Tile

end
-- ==== Proof.Had.lean ====
module

public import Idealize.ShloMosaic.Lib.Pipeline.ValueKit
public import Idealize.ShloMosaic.Lib.Pointwise
public import Idealize.ShloMosaic.PureOps.Ideal.Laws

@[expose] public section

set_option maxRecDepth 16384

noncomputable section

namespace Cert.AmaxIdeal.Had

open Idealize.ShloMosaic

/-! The transform both programs compute, over the extended reals: the 16×16 Hadamard entries, the transform of sixteen
    entries of a column, and the largest absolute value among its sixteen results. -/

/-- The parity of the number of ones in the binary digits of `i` and `j` at once, as the kernel's words compute it. -/
def evn (i j : Fin 16) : Bool :=
  let q : BitVec 32 := BitVec.ofNat 32 i.val &&& BitVec.ofNat 32 j.val
  let p := q ^^^ q.sshiftRight 2
  (p ^^^ p.sshiftRight 1) &&& 1#32 == 0#32

/-- The entry of the scaled Hadamard matrix: a quarter, positive or negative. -/
def had (i j : Fin 16) : EReal := if evn i j then ((1 / 4 : ℝ) : EReal) else ((-(1 / 4) : ℝ) : EReal)

/-- The absolute value of row `i` of the signed transform of sixteen entries. -/
def rowAbs (s V : Fin 16 → EReal) (i : Fin 16) : EReal :=
  max (∑ j, had i j * s j * V j) (-∑ j, had i j * s j * V j)

/-- The largest absolute value of the signed transform of sixteen entries. -/
def cell (s V : Fin 16 → EReal) : EReal := Finset.univ.sup (rowAbs s V)

theorem rowAbs_nonneg (s V : Fin 16 → EReal) (i : Fin 16) : 0 ≤ rowAbs s V i := by
  unfold rowAbs
  rcases le_total 0 (∑ j, had i j * s j * V j) with h | h
  · exact le_max_of_le_left h
  · exact le_max_of_le_right (EReal.neg_nonneg.mpr h)

theorem cell_le_iff (s V : Fin 16 → EReal) (w : EReal) : cell s V ≤ w ↔ ∀ i, rowAbs s V i ≤ w := by
  unfold cell; simp [Finset.sup_le_iff]

theorem cell_nonneg (s V : Fin 16 → EReal) : 0 ≤ cell s V :=
  (rowAbs_nonneg s V 0).trans ((cell_le_iff s V _).1 le_rfl 0)

/-- The chain of sixteen maxima the kernel writes out is the supremum. -/
theorem max16 (f : Fin 16 → EReal) :
    max (max (max (max (max (max (max (max (max (max (max (max (max (max (max (f 0) (f 1)) (f 2)) (f 3)) (f 4)) (f 5)) (f 6))
      (f 7)) (f 8)) (f 9)) (f 10)) (f 11)) (f 12)) (f 13)) (f 14)) (f 15) = Finset.univ.sup f := by
  refine eq_of_forall_ge_iff fun w => ?_
  rw [Finset.sup_le_iff]
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ i -
    fin_cases i <;> assumption
  · intro h
    exact ⟨⟨⟨⟨⟨⟨⟨⟨⟨⟨⟨⟨⟨⟨⟨h 0 (Finset.mem_univ _), h 1 (Finset.mem_univ _)⟩, h 2 (Finset.mem_univ _)⟩, h 3 (Finset.mem_univ _)⟩,
      h 4 (Finset.mem_univ _)⟩, h 5 (Finset.mem_univ _)⟩, h 6 (Finset.mem_univ _)⟩, h 7 (Finset.mem_univ _)⟩, h 8 (Finset.mem_univ _)⟩,
      h 9 (Finset.mem_univ _)⟩, h 10 (Finset.mem_univ _)⟩, h 11 (Finset.mem_univ _)⟩, h 12 (Finset.mem_univ _)⟩, h 13 (Finset.mem_univ _)⟩,
      h 14 (Finset.mem_univ _)⟩, h 15 (Finset.mem_univ _)⟩

/-- The sixteen entries of the argument that output row `n` and output column `ch` take in. -/
def colA (x : (⟨3, ![1, 1536, 28672]⟩ : Shape).Idx → EReal) (n : Fin 96) (ch : Fin 28672) (j : Fin 16) : EReal :=
  x (ix3 0 ⟨16 * n.val + j.val, by omega⟩ ch)

/-- The largest of all the absolute values. -/
def amax (s : Fin 16 → EReal) (x : (⟨3, ![1, 1536, 28672]⟩ : Shape).Idx → EReal) : EReal :=
  Finset.univ.sup fun p : Fin 96 × Fin 28672 => cell s (colA x p.1 p.2)

theorem amax_le_iff (s : Fin 16 → EReal) (x : (⟨3, ![1, 1536, 28672]⟩ : Shape).Idx → EReal) (w : EReal) :
    amax s x ≤ w ↔ ∀ n ch, cell s (colA x n ch) ≤ w := by
  unfold amax; simp [Finset.sup_le_iff]

/-- A maximum folded from the bottom is below `w` when every entry is. -/
theorem fold_le_iff {ι : Type} [Fintype ι] (f : ι → EReal) (w : EReal) : Finset.univ.fold max ⊥ f ≤ w ↔ ∀ i, f i ≤ w := by
  rw [Finset.fold_max_le]; simp

/-- The tensor scale: the largest absolute value over 2688, or one when it is zero. -/
def tscale (a : EReal) : EReal := if 0 < a then a * ((1 / 2688 : ℝ) : EReal) else 1

/-! ## The literals of the two programs -/

theorem lit_quarter : Ideal.ofBits .f32 0x3E800000#32 = ((1 / 4 : ℝ) : EReal) := by
  simp [Ideal.ofBits, Ideal.ieee, -EReal.coe_mul]; norm_num

theorem lit_neg_quarter : Ideal.ofBits .f32 0xBE800000#32 = ((-(1 / 4) : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_2688 : Ideal.ofBits .f32 0x45280000#32 = ((2688 : ℝ) : EReal) := by
  simp [Ideal.ofBits, Ideal.ieee, -EReal.coe_mul]; norm_num

theorem lit_bot : Ideal.ofBits .f32 0xFF800000#32 = ⊥ := by
  simp [Ideal.ofBits, Ideal.ieee]

end Cert.AmaxIdeal.Had

end
-- ==== Proof.Mat.lean ====
module

public import proofs.«01_k».proof.Proof.Outs
public import proofs.«01_k».proof.Proof.Had

@[expose] public section

set_option maxRecDepth 16384

noncomputable section

namespace Cert.AmaxIdeal.Tile

open Cert.AmaxIdeal Cert.AmaxIdeal.Gen Cert.AmaxIdeal.Had Idealize.ShloMosaic Idealize.ShloMosaic.TcCoe Idealize.SL.Sem

/-- The index, as a number, that the body gives column `k` of the matrix. -/
theorem col_eq (k : Fin 256) :
    IntOp.addi (IntOp.muli (IntOp.andi (IntOp.shrsi ArithUnit.vector (BitVec.ofNat 32 k.val) 4#32) 1#32) 8#32)
      (IntOp.andi (BitVec.ofNat 32 k.val) 7#32) = BitVec.ofNat 32 (k.val / 16 % 2 * 8 + k.val % 8) := by
  revert k; decide +kernel

/-- The index, as a number, that the body gives row `k` of the matrix. -/
theorem row_eq (k : Fin 256) :
    IntOp.shrsi ArithUnit.vector (IntOp.andi (BitVec.ofNat 32 k.val) 127#32) 3#32 = BitVec.ofNat 32 (k.val % 128 / 8) := by
  revert k; decide +kernel

theorem row_low (k : Fin 256) : IntOp.andi (IntOp.andi (BitVec.ofNat 32 k.val) 127#32) 7#32 = BitVec.ofNat 32 (k.val % 8) := by
  revert k; decide +kernel

theorem row_high (k : Fin 256) : IntOp.shrsi ArithUnit.vector (BitVec.ofNat 32 k.val) 7#32 = BitVec.ofNat 32 (k.val / 128) := by
  revert k; decide +kernel

theorem col_high (k : Fin 256) : IntOp.shrsi ArithUnit.vector (BitVec.ofNat 32 k.val) 5#32 = BitVec.ofNat 32 (k.val / 32) := by
  revert k; decide +kernel

theorem col_mid (k : Fin 256) :
    IntOp.andi (IntOp.shrsi ArithUnit.vector (BitVec.ofNat 32 k.val) 3#32) 1#32 = BitVec.ofNat 32 (k.val / 8 % 2) := by
  revert k; decide +kernel

/-- Two small numbers are equal when their words are. -/
theorem cmp_eq (a b : Fin 256) :
    IntOp.cmpi CmpIPredicate.eq (BitVec.ofNat 32 a.val) (BitVec.ofNat 32 b.val) = if a.val = b.val then 1#1 else 0#1 := by
  have h : BitVec.ofNat 32 a.val = BitVec.ofNat 32 b.val ↔ a.val = b.val := by
    constructor
    · intro h
      have := congrArg BitVec.toNat h
      rw [BitVec.toNat_ofNat, BitVec.toNat_ofNat] at this
      have := a.isLt; have := b.isLt
      omega
    · intro h; rw [h]
  simp only [IntOp.cmpi]
  by_cases e : a.val = b.val
  · simp [e]
  · rw [if_neg e, beq_eq_false_iff_ne.2 (fun x => e (h.1 x))]; rfl

/-- The sixteen selects of the body pick the sign at the column's index. -/
theorem ladder (s : Fin 16 → EReal) (j : Fin 16) :
    (Scalar.select (IntOp.cmpi CmpIPredicate.eq (BitVec.ofNat 32 j.val) 15#32) (s 15)
      (Scalar.select (IntOp.cmpi CmpIPredicate.eq (BitVec.ofNat 32 j.val) 14#32) (s 14)
      (Scalar.select (IntOp.cmpi CmpIPredicate.eq (BitVec.ofNat 32 j.val) 13#32) (s 13)
      (Scalar.select (IntOp.cmpi CmpIPredicate.eq (BitVec.ofNat 32 j.val) 12#32) (s 12)
      (Scalar.select (IntOp.cmpi CmpIPredicate.eq (BitVec.ofNat 32 j.val) 11#32) (s 11)
      (Scalar.select (IntOp.cmpi CmpIPredicate.eq (BitVec.ofNat 32 j.val) 10#32) (s 10)
      (Scalar.select (IntOp.cmpi CmpIPredicate.eq (BitVec.ofNat 32 j.val) 9#32) (s 9)
      (Scalar.select (IntOp.cmpi CmpIPredicate.eq (BitVec.ofNat 32 j.val) 8#32) (s 8)
      (Scalar.select (IntOp.cmpi CmpIPredicate.eq (BitVec.ofNat 32 j.val) 7#32) (s 7)
      (Scalar.select (IntOp.cmpi CmpIPredicate.eq (BitVec.ofNat 32 j.val) 6#32) (s 6)
      (Scalar.select (IntOp.cmpi CmpIPredicate.eq (BitVec.ofNat 32 j.val) 5#32) (s 5)
      (Scalar.select (IntOp.cmpi CmpIPredicate.eq (BitVec.ofNat 32 j.val) 4#32) (s 4)
      (Scalar.select (IntOp.cmpi CmpIPredicate.eq (BitVec.ofNat 32 j.val) 3#32) (s 3)
      (Scalar.select (IntOp.cmpi CmpIPredicate.eq (BitVec.ofNat 32 j.val) 2#32) (s 2)
      (Scalar.select (IntOp.cmpi CmpIPredicate.eq (BitVec.ofNat 32 j.val) 1#32) (s 1)
      (Scalar.select (IntOp.cmpi CmpIPredicate.eq (BitVec.ofNat 32 j.val) 0#32) (s 0) (0 : EReal))))))))))))))))) = s j := by
  fin_cases j <;> rfl

/-- The quarter the body gives a row and a column is the Hadamard entry of their indices. -/
theorem quarter (i j : Fin 16) :
    Scalar.select (IntOp.cmpi CmpIPredicate.eq
      (IntOp.andi
        (IntOp.xori
          (IntOp.xori (IntOp.andi (BitVec.ofNat 32 i.val) (BitVec.ofNat 32 j.val))
            (IntOp.shrsi ArithUnit.vector (IntOp.andi (BitVec.ofNat 32 i.val) (BitVec.ofNat 32 j.val)) 2#32))
          (IntOp.shrsi ArithUnit.vector
            (IntOp.xori (IntOp.andi (BitVec.ofNat 32 i.val) (BitVec.ofNat 32 j.val))
              (IntOp.shrsi ArithUnit.vector (IntOp.andi (BitVec.ofNat 32 i.val) (BitVec.ofNat 32 j.val)) 2#32)) 1#32))
        1#32) 0#32)
      (Ideal.ofBits FTy.f32 1048576000#32) (Ideal.ofBits FTy.f32 3196059648#32) = had i j := by
  have e : (IntOp.cmpi CmpIPredicate.eq
      (IntOp.andi
        (IntOp.xori
          (IntOp.xori (IntOp.andi (BitVec.ofNat 32 i.val) (BitVec.ofNat 32 j.val))
            (IntOp.shrsi ArithUnit.vector (IntOp.andi (BitVec.ofNat 32 i.val) (BitVec.ofNat 32 j.val)) 2#32))
          (IntOp.shrsi ArithUnit.vector
            (IntOp.xori (IntOp.andi (BitVec.ofNat 32 i.val) (BitVec.ofNat 32 j.val))
              (IntOp.shrsi ArithUnit.vector (IntOp.andi (BitVec.ofNat 32 i.val) (BitVec.ofNat 32 j.val)) 2#32)) 1#32))
        1#32) 0#32) = if evn i j then 1#1 else 0#1 := by
    revert i j; decide +kernel
  rw [e, lit_quarter, lit_neg_quarter]
  unfold had
  by_cases h : evn i j <;> simp [h, Scalar.select]

/-- A column of the matrix from its four digits. -/
theorem digits (k : ℕ) (hk : k < 256) :
    32 * (k / 32) + 16 * ((k / 16 % 2 * 8 + k % 8) / 8) + 8 * (k / 8 % 2) + (k / 16 % 2 * 8 + k % 8) % 8 = k := by
  have h1 : (k / 16 % 2 * 8 + k % 8) / 8 = k / 16 % 2 := by omega
  have h2 : (k / 16 % 2 * 8 + k % 8) % 8 = k % 8 := by omega
  rw [h1, h2]; omega

/-- The four digits of a column of the matrix. -/
theorem undigit (a b d e : ℕ) (hb : b < 2) (hd : d < 2) (he : e < 8) :
    (32 * a + 16 * b + 8 * d + e) / 32 = a ∧ (32 * a + 16 * b + 8 * d + e) / 16 % 2 = b
      ∧ (32 * a + 16 * b + 8 * d + e) / 8 % 2 = d ∧ (32 * a + 16 * b + 8 * d + e) % 8 = e
      ∧ (32 * a + 16 * b + 8 * d + e) / 16 = 2 * a + b ∧ (32 * a + 16 * b + 8 * d + e) % 16 = 8 * d + e := by
  refine ⟨?_, ?_, ?_, ?_, ?_, ?_⟩ <;> omega

/-- The matrix the body multiplies by, entry by entry: a row meets the sixteen columns of its sublane and half. -/
theorem rht_apply (s : Fin 16 → Elt Ideal .f32) (r k : Fin 256) :
    rht s (ix2 r k : S256x256.Idx) = if r.val % 8 = k.val / 32 ∧ r.val / 128 = k.val / 8 % 2 then
      had ⟨r.val % 128 / 8, by omega⟩ ⟨k.val / 16 % 2 * 8 + k.val % 8, by omega⟩ * s ⟨k.val / 16 % 2 * 8 + k.val % 8, by omega⟩
    else 0 := by
  pointwise [rht, k0_pay10, k0_pay9, k0_pay8, k0_pay7, k0_pay6, k0_pay5, k0_pay4, k0_pay3]
  rw [col_eq k, row_eq r, row_low r, row_high r, col_high k, col_mid k]
  have hr := r.isLt
  have hk := k.isLt
  have eq := quarter ⟨r.val % 128 / 8, by omega⟩ ⟨k.val / 16 % 2 * 8 + k.val % 8, by omega⟩
  have el := ladder s ⟨k.val / 16 % 2 * 8 + k.val % 8, by omega⟩
  have c1 := cmp_eq ⟨r.val % 8, by omega⟩ ⟨k.val / 32, by omega⟩
  have c2 := cmp_eq ⟨r.val / 128, by omega⟩ ⟨k.val / 8 % 2, by omega⟩
  dsimp only at eq el c1 c2
  rw [eq, el, c1, c2]
  by_cases h1 : r.val % 8 = k.val / 32 <;> by_cases h2 : r.val / 128 = k.val / 8 % 2 <;>
    simp [h1, h2, Scalar.select, IntOp.andi]

/-- The sixteen entries of the block that output row `n` and output column `ch` of the block take in. -/
def colX (X : Vec Ideal S192x4x16x128 .bf16) (n : Fin 96) (ch : Fin 1024) (j : Fin 16) : EReal :=
  X (ix4 ⟨2 * n.val + j.val / 8, by omega⟩ ⟨ch.val / 256, by omega⟩ ⟨8 * (ch.val / 128 % 2) + j.val % 8, by omega⟩
    ⟨ch.val % 128, by omega⟩)

theorem half_apply (X : Vec Ideal S192x4x16x128 .bf16) (c : Fin 2) (g : Fin 12) (a : Fin 2) (p q : Fin 16) (l : Fin 128) :
    half X c g a (ix4 p 0 q l : S16x1x16x128.Idx) = X (ix4 ⟨16 * g.val + p.val, by omega⟩ ⟨2 * c.val + a.val, by omega⟩ q l) := by
  unfold half
  show X _ = X _
  congr 1
  funext b
  match b with
  | ⟨0, _⟩ => apply Fin.ext; show 16 * g.val + 1 * p.val = _; rw [Nat.one_mul]; rfl
  | ⟨1, _⟩ => apply Fin.ext; show 2 * c.val + a.val + 1 * 0 = _; dsimp
  | ⟨2, _⟩ => apply Fin.ext; show 0 + 1 * q.val = _; dsimp; omega
  | ⟨3, _⟩ => apply Fin.ext; show 0 + 1 * l.val = _; dsimp; omega

/-- One element of the product of the matrix with a tile, in absolute value: a transform of sixteen entries. -/
theorem absW_apply (X : Vec Ideal S192x4x16x128 .bf16) (s : Fin 16 → Elt Ideal .f32) (c : Fin 2) (g : Fin 12) (r q : Fin 256) :
    absW X (rht s) c g (ix2 r q : S256x256.Idx)
      = rowAbs s (colX X ⟨8 * g.val + r.val % 8, by omega⟩ ⟨512 * c.val + 256 * (q.val / 128) + 128 * (r.val / 128) + q.val % 128, by omega⟩)
          ⟨r.val % 128 / 8, by omega⟩ := by
  pointwise [absW, k0_pay12]
  rw [Ideal.absf_def]
  have hr := r.isLt
  have hq := q.isLt
  have hc := c.isLt
  have hg := g.isLt
  unfold rowAbs
  have e : (∑ x : Fin 256, rht s (ix2 r x : S256x256.Idx) *
      if h : q.val < 128 then half X c g 0 (ix4 ⟨x.val / 16, by omega⟩ 0 ⟨x.val % 16, by omega⟩ ⟨q.val, h⟩ : S16x1x16x128.Idx)
      else half X c g 1 (ix4 ⟨x.val / 16, by omega⟩ 0 ⟨x.val % 16, by omega⟩ ⟨q.val - 128, by omega⟩ : S16x1x16x128.Idx))
    = ∑ j : Fin 16, had ⟨r.val % 128 / 8, by omega⟩ j * s j
        * colX X ⟨8 * g.val + r.val % 8, by omega⟩ ⟨512 * c.val + 256 * (q.val / 128) + 128 * (r.val / 128) + q.val % 128, by omega⟩ j := by
    symm
    refine Finset.sum_of_injOn
      (fun j : Fin 16 => (⟨32 * (r.val % 8) + 16 * (j.val / 8) + 8 * (r.val / 128) + j.val % 8, by omega⟩ : Fin 256))
      ?_ (fun _ _ => Finset.mem_coe.2 (Finset.mem_univ _)) ?_ ?_
    · intro j _ j' _ h
      have := congrArg Fin.val h
      dsimp only at this
      apply Fin.ext; omega
    · intro k _ hk
      rw [rht_apply, if_neg, zero_mul]
      rintro ⟨h1, h2⟩
      refine hk ⟨⟨k.val / 16 % 2 * 8 + k.val % 8, by omega⟩, Finset.mem_coe.2 (Finset.mem_univ _), ?_⟩
      apply Fin.ext; dsimp only; rw [h1, h2]; exact digits _ k.isLt
    · intro j _
      have hj := j.isLt
      obtain ⟨u1, u2, u3, u4, u5, u6⟩ := undigit (r.val % 8) (j.val / 8) (r.val / 128) (j.val % 8) (by omega) (by omega) (by omega)
      rw [rht_apply, if_pos ⟨u1.symm, u3.symm⟩]
      have ej : (⟨(32 * (r.val % 8) + 16 * (j.val / 8) + 8 * (r.val / 128) + j.val % 8) / 16 % 2 * 8
          + (32 * (r.val % 8) + 16 * (j.val / 8) + 8 * (r.val / 128) + j.val % 8) % 8, by omega⟩ : Fin 16) = j := by
        apply Fin.ext; dsimp only; rw [u2, u4]; omega
      dsimp only
      rw [ej]
      congr 1
      unfold colX
      split
      · rw [half_apply]
        congr 1
        congr 1 <;> (apply Fin.ext; dsimp only; first | rw [u5] | rw [u6] | skip) <;> omega
      · rw [half_apply]
        congr 1
        congr 1 <;> (apply Fin.ext; dsimp only; first | rw [u5] | rw [u6] | skip) <;> omega
  exact congrArg₂ max e (congrArg Neg.neg e)

/-- A tile's row-group maximum is the largest absolute value of the transform, element by element. -/
theorem bmax_apply (X : Vec Ideal S192x4x16x128 .bf16) (s : Fin 16 → Elt Ideal .f32) (c : Fin 2) (g : Fin 12) (h : Fin 2)
    (p : Fin 8) (q : Fin 256) :
    bmax X (rht s) c g h (ix2 p q : S8x256.Idx)
      = cell s (colX X ⟨8 * g.val + p.val, by omega⟩ ⟨512 * c.val + 256 * (q.val / 128) + 128 * h.val + q.val % 128, by omega⟩) := by
  have hp := p.isLt
  have hq := q.isLt
  have hc := c.isLt
  have hg := g.isLt
  have key : ∀ (i : Fin 16) (r : Fin 256), r.val = 128 * h.val + 8 * i.val + p.val →
      absW X (rht s) c g (ix2 r q : S256x256.Idx)
        = rowAbs s (colX X ⟨8 * g.val + p.val, by omega⟩ ⟨512 * c.val + 256 * (q.val / 128) + 128 * h.val + q.val % 128, by omega⟩) i := by
    intro i r hr
    rw [absW_apply]
    congr 1
    · congr 1 <;> (apply Fin.ext; dsimp only; omega)
    · apply Fin.ext; dsimp only; omega
  unfold cell
  rw [← max16]
  match h, key with
  | 0, key =>
    unfold bmax
    pointwise [k0_pay13]
    exact congrArg₂ max (congrArg₂ max (congrArg₂ max
      (congrArg₂ max (congrArg₂ max (congrArg₂ max (congrArg₂ max
      (congrArg₂ max (congrArg₂ max (congrArg₂ max (congrArg₂ max
      (congrArg₂ max (congrArg₂ max (congrArg₂ max (congrArg₂ max (key 0 _ (by simp)) (key 1 _ (by simp))) (key 2 _ (by simp))) (key 3 _ (by simp))) (key 4 _ (by simp))) (key 5 _ (by simp))) (key 6 _ (by simp))) (key 7 _ (by simp))) (key 8 _ (by simp))) (key 9 _ (by simp))) (key 10 _ (by simp))) (key 11 _ (by simp))) (key 12 _ (by simp))) (key 13 _ (by simp))) (key 14 _ (by simp))) (key 15 _ (by simp))
  | 1, key =>
    unfold bmax
    pointwise [k0_pay17]
    exact congrArg₂ max (congrArg₂ max (congrArg₂ max
      (congrArg₂ max (congrArg₂ max (congrArg₂ max (congrArg₂ max
      (congrArg₂ max (congrArg₂ max (congrArg₂ max (congrArg₂ max
      (congrArg₂ max (congrArg₂ max (congrArg₂ max (congrArg₂ max (key 0 _ (by simp)) (key 1 _ (by simp))) (key 2 _ (by simp))) (key 3 _ (by simp))) (key 4 _ (by simp))) (key 5 _ (by simp))) (key 6 _ (by simp))) (key 7 _ (by simp))) (key 8 _ (by simp))) (key 9 _ (by simp))) (key 10 _ (by simp))) (key 11 _ (by simp))) (key 12 _ (by simp))) (key 13 _ (by simp))) (key 14 _ (by simp))) (key 15 _ (by simp))

/-- The output block of a grid point, element by element. -/
theorem blockOut_apply (X : Vec Ideal S192x4x16x128 .bf16) (s : Fin 16 → Elt Ideal .f32) (n : Fin 96) (ch : Fin 1024) :
    blockOut X (rht s) (ix2 n ch : S96x1024.Idx) = cell s (colX X n ch) := by
  have hn := n.isLt
  have hch := ch.isLt
  unfold blockOut
  dsimp only
  have key : ∀ (a : Fin 2) (b : FVec Ideal S8x256 .f32) (p : Fin 8) (l : Fin 128),
      lanes b a (ix2 p l : S8x128.Idx) = b (ix2 p ⟨128 * a.val + l.val, by omega⟩ : S8x256.Idx) := by
    intro a b p l
    match a with
    | 0 =>
      pointwise [lanes]
    | 1 =>
      pointwise [lanes]
  have e := key ⟨ch.val / 256 % 2, by omega⟩ (bmax X (rht s) ⟨ch.val / 512, by omega⟩ ⟨n.val / 8, by omega⟩ ⟨ch.val / 128 % 2, by omega⟩)
    ⟨n.val % 8, by omega⟩ ⟨ch.val % 128, by omega⟩
  rw [bmax_apply] at e
  refine Eq.trans ?_ (e.trans ?_)
  · congr 1
    funext b
    match b with
    | ⟨0, _⟩ => rfl
    | ⟨1, _⟩ => rfl
  · congr 1
    congr 1 <;> (apply Fin.ext; dsimp only; omega)

end Cert.AmaxIdeal.Tile

end
-- ==== Proof.Top.lean ====
module

public import proofs.«01_k».proof.Proof.State
public import proofs.«01_k».proof.Proof.Mat

@[expose] public section

set_option maxRecDepth 16384

noncomputable section

namespace Cert.AmaxIdeal.Tile

open Cert.AmaxIdeal Cert.AmaxIdeal.Gen Cert.AmaxIdeal.Had Idealize.ShloMosaic Idealize.ShloMosaic.TcCoe Idealize.SL.Sem
open Idealize.ShloMosaic.Pipeline (Dat)

/-- One update of the running maximum, element by element. -/
theorem upd_apply (X : Vec Ideal S192x4x16x128 .bf16) (r : Vec Ideal S256x256 .bf16) (c : Fin 2) (g : Fin 12) (h : Fin 2)
    (acc : FVec Ideal S8x256 .f32) (z : S8x256.Idx) : upd X r c g h acc z = max (acc z) (bmax X r c g h z) := by
  unfold upd
  generalize bmax X r c g h = b
  pointwise [k0_pay16]

/-- The running maximum after the tiles of a list is the largest of what it was and of every row-group maximum taken in. -/
theorem sweep_le_iff (X : Vec Ideal S192x4x16x128 .bf16) (r : Vec Ideal S256x256 .bf16) (acc : FVec Ideal S8x256 .f32)
    (L : List (Fin 2 × Fin 12)) (z : S8x256.Idx) (w : EReal) :
    sweep X r acc L z ≤ w ↔ acc z ≤ w ∧ ∀ cg ∈ L, ∀ h, bmax X r cg.1 cg.2 h z ≤ w := by
  induction L with
  | nil => simp [sweep]
  | cons cg L ih =>
    show upd X r cg.1 cg.2 1 (upd X r cg.1 cg.2 0 (sweep X r acc L)) z ≤ w ↔ _
    rw [upd_apply, upd_apply, max_le_iff, max_le_iff, ih]
    constructor
    · rintro ⟨⟨⟨h0, h1⟩, h2⟩, h3⟩
      refine ⟨h0, fun cg' hm h => ?_⟩
      rcases List.mem_cons.1 hm with rfl | hm
      · match h with
        | 0 => exact h2
        | 1 => exact h3
      · exact h1 cg' hm h
    · rintro ⟨h0, h1⟩
      exact ⟨⟨⟨h0, fun cg' hm h => h1 cg' (List.mem_cons_of_mem _ hm) h⟩, h1 cg List.mem_cons_self 0⟩, h1 cg List.mem_cons_self 1⟩

theorem mem_tiles : ∀ cg : Fin 2 × Fin 12, cg ∈ tiles := by decide +kernel

section
variable (m : (ℓ : Loc nD τ sig) → Buf (Elt Ideal) ℓ) (c : Dev nD)

/-- The input block of a grid point, element by element, from the argument. -/
theorem inX_apply (n : ℕ) (hn : n < cfg0.N) (r : Fin 192) (q : Fin 4) (s : Fin 16) (l : Fin 128) :
    inX m c n hn (ix4 r q s l : S192x4x16x128.Idx)
      = m ((c : Thread nD τ).loc main_arg0) (ix3 0 ⟨8 * r.val + s.val % 8, by omega⟩
          ⟨1024 * n + 256 * q.val + 128 * (s.val / 8) + l.val, by have h : cfg0.N = 28 := N_0; omega⟩ : S1x1536x28672.Idx) := by
  have hN : cfg0.N = 28 := N_0
  have idx1 : ∀ t : Fin grid0.N, win0_1.index t = ![0, t.val, 0, 0] := by decide +kernel
  unfold inX
  blk_simp [iblk]
  have e : (win0_1.blk ⟨n, hn⟩).view.emb (ix4 r q s l : S192x4x16x128.Idx)
      = (ix4 r ⟨4 * n + q.val, by omega⟩ s l : S192x112x16x128.Idx) := by
    blk_ext [idx1 ⟨n, hn⟩]
  rw [e]
  have V2 : ∀ i : S192x112x16x128.Idx, V m c main_v2 i = m ((c : Thread nD τ).loc main_arg0)
      (ix3 0 ⟨(i 0).val * 8 + (i 2).val % 8, by have h : (i 0).val < 192 := (i 0).isLt; omega⟩
        ⟨(i 1).val * 256 + (i 2).val / 8 * 128 + (i 3).val, by
          have h : (i 1).val < 112 := (i 1).isLt
          have h : (i 2).val < 16 := (i 2).isLt
          have h : (i 3).val < 128 := (i 3).isLt
          omega⟩ : S1x1536x28672.Idx) := by
    intro i
    entry_read
    pointwise
  refine (V2 _).trans ?_
  congr 1
  congr 1 <;> (apply Fin.ext; show (_ : ℕ) = _; dsimp; omega)

/-- The signs by position. -/
def sg (j : Fin 16) : EReal := sgn (signs m c) j

/-- The column of a block is the column of the argument. -/
theorem colX_inX (n : ℕ) (hn : n < cfg0.N) (p : Fin 96) (ch : Fin 1024) :
    colX (inX m c n hn) p ch
      = colA (m ((c : Thread nD τ).loc main_arg0)) p ⟨1024 * n + ch.val, by have h : cfg0.N = 28 := N_0; omega⟩ := by
  have hN : cfg0.N = 28 := N_0
  funext j
  unfold colX colA
  rw [inX_apply]
  congr 1
  congr 1 <;> (apply Fin.ext; dsimp only; omega)

/-- The running maximum after grid point `n` is the largest of zero and of every absolute value so far at its place. -/
theorem top_le_iff (n : ℕ) (hn : n < cfg0.N) (z : S8x256.Idx) (w : EReal) :
    top m c n hn z ≤ w ↔ 0 ≤ w ∧ ∀ (k : ℕ) (hk : k ≤ n) (cg : Fin 2 × Fin 12) (h : Fin 2),
      bmax (inX m c k (Nat.lt_of_le_of_lt hk hn)) (mat m c) cg.1 cg.2 h z ≤ w := by
  have z0 : k0_pay11 (F := Ideal) z = 0 := by pointwise [k0_pay11]
  induction n with
  | zero =>
    unfold top
    rw [sweep_le_iff, z0]
    constructor
    · rintro ⟨h0, h1⟩
      refine ⟨h0, fun k hk cg h => ?_⟩
      obtain rfl : k = 0 := by omega
      exact h1 cg (mem_tiles cg) h
    · rintro ⟨h0, h1⟩
      exact ⟨h0, fun cg _ h => h1 0 le_rfl cg h⟩
  | succ n ih =>
    unfold top
    rw [sweep_le_iff]
    refine (and_congr (ih (Nat.lt_of_succ_lt hn)) Iff.rfl).trans ?_
    constructor
    · rintro ⟨⟨h0, h1⟩, h2⟩
      refine ⟨h0, fun k hk cg h => ?_⟩
      by_cases e : k = n + 1
      · subst e; exact h2 cg (mem_tiles cg) h
      · exact h1 k (by omega) cg h
    · rintro ⟨h0, h1⟩
      exact ⟨⟨h0, fun k hk cg h => h1 k (by omega) cg h⟩, fun cg _ h => h1 (n + 1) le_rfl cg h⟩

theorem last_lt : 27 < cfg0.N := by rw [show cfg0.N = 28 from N_0]; decide

/-- The maximum over the running maximum's entries at the end is the largest absolute value of all. -/
theorem fold_top : Finset.univ.fold max ⊥ (fun x : Fin 8 × Fin 256 => top m c 27 last_lt (ix2 x.1 x.2 : S8x256.Idx))
    = amax (sg m c) (m ((c : Thread nD τ).loc main_arg0)) := by
  have hN : cfg0.N = 28 := N_0
  refine eq_of_forall_ge_iff fun w => ?_
  rw [fold_le_iff, amax_le_iff]
  constructor
  · intro h n ch
    have hn := n.isLt
    have hch := ch.isLt
    have e := ((top_le_iff m c 27 last_lt _ w).1 (h (⟨n.val % 8, by omega⟩, ⟨ch.val % 1024 / 256 % 2 * 128 + ch.val % 128, by omega⟩))).2
      (ch.val / 1024) (by omega) (⟨ch.val % 1024 / 512, by omega⟩, ⟨n.val / 8, by omega⟩) ⟨ch.val % 1024 / 128 % 2, by omega⟩
    unfold mat at e
    rw [bmax_apply, colX_inX] at e
    refine le_of_eq_of_le ?_ e
    unfold sg
    congr 1
    congr 1 <;> (apply Fin.ext; dsimp only; omega)
  · intro h x
    rw [top_le_iff]
    refine ⟨(cell_nonneg _ _).trans (h 0 0), fun k hk cg a => ?_⟩
    unfold mat
    rw [bmax_apply, colX_inX]
    exact h _ _

/-- The first result after the run: the largest absolute value of each transform. -/
theorem result2 (n : Fin 96) (ch : Fin 28672) :
    (dats m 0 c).arrAt 2 cfg0.N (ix2 n ch : S96x28672.Idx)
      = cell (sg m c) (colA (m ((c : Thread nD τ).loc main_arg0)) n ch) := by
  have hch := ch.isLt
  rw [final2]
  have e := blockOut_apply (inX m c (ch.val / 1024) (by have h : cfg0.N = 28 := N_0; omega)) (sgn (signs m c)) n ⟨ch.val % 1024, by omega⟩
  rw [colX_inX] at e
  refine Eq.trans ?_ (e.trans ?_)
  · show blockOut _ _ _ = blockOut _ _ _
    congr 1
    funext b
    match b with
    | ⟨0, _⟩ => rfl
    | ⟨1, _⟩ => rfl
  · unfold sg
    congr 2
    apply Fin.ext; dsimp only; omega

/-- The second result after the run: the tensor scale of the largest absolute value. -/
theorem result3 (i : S1.Idx) :
    (dats m 0 c).arrAt 3 cfg0.N i = tscale (amax (sg m c) (m ((c : Thread nD τ).loc main_arg0))) := by
  rw [final3]
  show k0_pay2 (top m c 27 last_lt) = _
  have e : Named.named (F := Ideal) (φ := .f32) κ "inv2688" 0x39C30C31#32 = ((1 / 2688 : ℝ) : EReal) :=
    IdealRules.named_const.ideal_named_scalar _ _ _ _ rfl
  generalize hT : top m c 27 last_lt = T
  have f := fold_top m c
  rw [hT] at f
  pointwise [k0_pay2]
  rw [lit_bot, f]
  unfold tscale
  rw [← e]

end

end Cert.AmaxIdeal.Tile

end
-- ==== Proof.Ref.lean ====
module

public import proofs.«01_k».proof.Proof.Gen.AmaxRefIdeal.Read
public import proofs.«01_k».proof.Proof.Had

@[expose] public section

set_option maxRecDepth 16384

noncomputable section

namespace Cert.AmaxRefIdeal.RefValue

open Cert.AmaxRefIdeal Cert.AmaxRefIdeal.Gen Cert.AmaxRefIdeal.Read Cert.AmaxIdeal.Had Idealize.ShloMosaic Idealize.ShloMosaic.TcCoe Idealize.SL.Sem

variable (x0 : (⟨S1x1536x28672, .bf16⟩ : BufTy).Contents (Elt Ideal)) (x1 : (⟨S16, .f32⟩ : BufTy).Contents (Elt Ideal))

/-- The signs by position. -/
def sg (j : Fin 16) : EReal := x1 (ix1 j : S16.Idx)

/-- The reference's parity of two indices is the one of the Hadamard entries. -/
theorem parity (i j : Fin 16) :
    val_main_v25 (F := Ideal) (ix2 i j : S16x16.Idx) = if evn i j then 0#32 else 1#32 := by
  have e : val_main_v25 (F := Ideal) (ix2 i j : S16x16.Idx) =
    (let q := IntOp.andi (BitVec.ofNat 32 i.val) (BitVec.ofNat 32 j.val)
     IntOp.andi (IntOp.addi (IntOp.addi (IntOp.addi (IntOp.andi q 1#32) (IntOp.andi (IntOp.shrsi .host q 1#32) 1#32))
      (IntOp.andi (IntOp.shrsi .host q 2#32) 1#32)) (IntOp.andi (IntOp.shrsi .host q 3#32) 1#32)) 1#32) := by
    simp only [val_main_v25_apply, val_main_v24_apply, val_main_c_6_apply, val_main_v23_apply, val_main_v22_apply, val_main_v21_apply,
      val_main_c_5_apply, val_main_v20_apply, val_main_v19_apply, val_main_c_4_apply, val_main_v18_apply, val_main_v17_apply,
      val_main_v16_apply, val_main_c_3_apply, val_main_v15_apply, val_main_v14_apply, val_main_c_2_apply, val_main_v13_apply,
      val_main_v12_apply, val_main_v11_apply, val_main_c_1_apply, val_main_v10_apply, val_main_v9_apply, val_main_c_0_apply,
      val_main_v8_apply, val_main_v7_apply, val_main_c_apply, val_main_v6_apply, val_main_v5_apply, val_main_v4_apply,
      val_main_v3_apply, val_main_v2_apply, val_main_v1_apply, val_main_v0_apply]
    rfl
  rw [e]
  revert i j; decide +kernel

/-- The reference's matrix, entry by entry. -/
theorem matrix (i j : Fin 16) : val_main_v36 (F := Ideal) x1 (ix2 i j : S16x16.Idx) = had i j * sg x1 j := by
  rw [val_main_v36_apply, val_main_v35_apply, val_main_v32_apply, val_main_v31_apply, val_main_cst_8_apply, val_main_v30_apply,
    val_main_v29_apply, val_main_cst_7_apply, val_main_v28_apply, val_main_v27_apply, val_main_cst_apply, val_main_v26_apply,
    parity, val_main_v34_apply, val_main_v33_apply]
  have ei : idx_main_v33 (idx_main_v34 (ix2 i j : S16x16.Idx)) = (ix1 j : S16.Idx) := by
    funext a; match a with | ⟨0, _⟩ => rfl
  rw [ei]
  have h : FloatOps.mulf (F := Ideal) (φ := .f32) (FloatOps.ofBits .f32 0x3E800000#32) (FloatOps.subf (FloatOps.ofBits .f32 0x3F800000#32)
      (FloatOps.mulf (FloatOps.ofBits .f32 0x40000000#32) (FloatOps.sitofp .f32 (if evn i j then 0#32 else 1#32)))) = had i j := by
    show Ideal.ofBits .f32 0x3E800000#32 * (Ideal.ofBits .f32 0x3F800000#32 - Ideal.ofBits .f32 0x40000000#32
      * ((((if evn i j then 0#32 else 1#32 : BitVec 32).toInt : ℤ) : ℝ) : EReal)) = had i j
    rw [lit_quarter, lit_one, lit_two, ← EReal.coe_mul, ← EReal.coe_sub, ← EReal.coe_mul]
    unfold had
    by_cases e : evn i j
    · rw [if_pos e, if_pos e]; congr 1; norm_num
    · rw [if_neg e, if_neg e]; congr 1; norm_num
  show FloatOps.mulf (F := Ideal) (φ := .f32) _ _ = _
  rw [h]
  rfl

/-- One absolute value of the reference. -/
theorem abs_apply (ch : Fin 28672) (n : Fin 96) (i : Fin 16) :
    val_main_v40 (F := Ideal) x0 x1 (ix4 0 ch n i : S1x28672x96x16.Idx) = rowAbs (sg x1) (colA x0 n ch) i := by
  rw [val_main_v40_apply, val_main_v39_apply, val_main_v38_apply, Ideal.hostAbsf_def, Ideal.absf_def]
  have e : (∑ k : Fin 16, (val_main_v36 (F := Ideal) x1) (lidx_main_v38 (idx_main_v39 (ix4 0 ch n i : S1x28672x96x16.Idx)) k)
      * (val_main_v37 (F := Ideal) x0) (ridx_main_v38 (idx_main_v39 (ix4 0 ch n i : S1x28672x96x16.Idx)) k) : EReal)
      = ∑ j, had i j * sg x1 j * colA x0 n ch j := by
    refine Finset.sum_congr rfl fun j _ => ?_
    have hl : lidx_main_v38 (idx_main_v39 (ix4 0 ch n i : S1x28672x96x16.Idx)) j = (ix2 i j : S16x16.Idx) := by
      funext a; match a with
      | ⟨0, _⟩ => rfl
      | ⟨1, _⟩ => rfl
    rw [hl, matrix, val_main_v37_apply]
    unfold colA
    congr 2
    funext a
    have hn := n.isLt
    have hj := j.isLt
    have hch := ch.isLt
    match a with
    | ⟨0, _⟩ => rfl
    | ⟨1, _⟩ =>
      apply Fin.ext
      show (((0 * 96 + n.val) * 16 + j.val) * 28672 + ch.val) / 28672 % 1536 = 16 * n.val + j.val
      omega
    | ⟨2, _⟩ =>
      apply Fin.ext
      show (((0 * 96 + n.val) * 16 + j.val) * 28672 + ch.val) % 28672 = ch.val
      omega
  exact congrArg₂ max e (congrArg Neg.neg e)

/-- The reference's first result: the largest absolute value of each transform. -/
theorem result2 (n : Fin 96) (ch : Fin 28672) :
    val_main_v47 (F := Ideal) x0 x1 (ix2 n ch : S96x28672.Idx) = cell (sg x1) (colA x0 n ch) := by
  have hn := n.isLt
  have hch := ch.isLt
  rw [val_main_v47_apply, val_main_v46_apply]
  have ei : idx_main_v46 (idx_main_v47 (ix2 n ch : S96x28672.Idx)) = (ix3 0 ch n : S1x28672x96.Idx) := by
    funext a; match a with
    | ⟨0, _⟩ => rfl
    | ⟨1, _⟩ => apply Fin.ext; show (ch.val * 96 + n.val) / 96 % 28672 = ch.val; omega
    | ⟨2, _⟩ => apply Fin.ext; show (ch.val * 96 + n.val) % 96 = n.val; omega
  rw [ei]
  unfold val_main_v45 val_main_cst_13
  have a := abs_apply x0 x1 ch n
  generalize val_main_v40 (F := Ideal) x0 x1 = y at a
  pointwise
  rw [lit_bot]
  refine eq_of_forall_ge_iff fun w => ?_
  rw [fold_le_iff, cell_le_iff]
  exact forall_congr' fun i => by rw [← a i]

/-- The reference's largest absolute value. -/
theorem largest (i : S_.Idx) : val_main_v41 (F := Ideal) x0 x1 i = amax (sg x1) x0 := by
  unfold val_main_v41
  rw [Host.reduce_eq_fold]
  have eb : val_main_cst_9 (F := Ideal) (Shape.Idx.first h_S_) = ⊥ := by rw [val_main_cst_9_apply]; exact lit_bot
  rw [eb]
  refine eq_of_forall_ge_iff fun w => ?_
  rw [amax_le_iff]
  have hf : (Finset.univ.filter fun k : S1x28672x96x16.Idx => reducesTo_S1x28672x96x16_S_d0_1_2_3.drop k = i) = Finset.univ :=
    Finset.filter_true_of_mem fun k _ => funext fun a => a.elim0
  rw [hf]
  refine (fold_le_iff _ w).trans ?_
  constructor
  · intro h n ch
    rw [cell_le_iff]
    intro i
    rw [← abs_apply]
    exact h _
  · intro h k
    have e : k = (ix4 0 (k 1) (k 2) (k 3) : S1x28672x96x16.Idx) := by
      funext a; match a with
      | ⟨0, _⟩ => exact Subsingleton.elim (α := Fin 1) _ _
      | ⟨1, _⟩ => rfl
      | ⟨2, _⟩ => rfl
      | ⟨3, _⟩ => rfl
    rw [e]
    have := abs_apply x0 x1 (k 1) (k 2) (k 3)
    exact this.le.trans ((cell_le_iff _ _ w).1 (h (k 2) (k 1)) _)

/-- The reference's second result: the tensor scale of the largest absolute value. -/
theorem result3 (i : S1.Idx) : val_main_v48 (F := Ideal) x0 x1 i = tscale (amax (sg x1) x0) := by
  have e : ∀ j, val_main_v44 (F := Ideal) x0 x1 j = tscale (amax (sg x1) x0) := by
    intro j
    rw [val_main_v44_apply, val_main_v42_apply, val_main_v43_apply, largest, val_main_cst_10_apply, val_main_cst_11_apply,
      val_main_call0_v0_apply, val_main_cst_12_apply]
    generalize amax (sg x1) x0 = M
    show Scalar.select (Ideal.cmp .ogt M (Ideal.ofBits .f32 0x00000000#32)) (FloatOps.hostDivf (F := Ideal) (φ := .f32) M (Ideal.ofBits .f32 0x45280000#32))
      (Ideal.ofBits .f32 0x3F800000#32) = tscale M
    rw [lit_2688, show Ideal.ofBits .f32 0x3F800000#32 = (1 : EReal) from lit_one.trans EReal.coe_one, Ideal.hostDivf_def, Ideal.div_coe (by norm_num : (2688 : ℝ) ≠ 0)]
    unfold tscale
    pointwise
  unfold val_main_v48
  generalize val_main_v44 (F := Ideal) x0 x1 = y at e
  exact e _

end Cert.AmaxRefIdeal.RefValue

end
-- ==== Proof.Scale.lean ====
module

public import proofs.«01_k».proof.Proof.Gen.Quant.Value
public import Idealize.ShloMosaic.Lib.Pipeline.ValueKit

@[expose] public section

set_option maxRecDepth 16384

noncomputable section

namespace Cert.Quant.Scale

open Cert.Quant Cert.Quant.Gen Idealize.ShloMosaic Idealize.ShloMosaic.TcCoe Idealize.SL.Sem

variable {F : FTy → Type} [BitOps F]

/-- One block scale: a block's maximum over six times the tensor scale, cast to float8_e4m3fn. -/
def one (ts v : F .f32) : F .fp8e4m3 :=
  FloatOps.truncf .fp8e4m3 bitsLt_fp8e4m3_f32 (FloatOps.divf v (Scalar.mulf (Scalar.ofBits .f32 0x40C00000#32) ts))

/-- The columns of each tile lie inside the block. -/
theorem inbT (k : Fin 8) : ∀ b, (![0, 128 * k.val] : Fin 2 → ℕ) b + S96x128.size b ≤ S96x1024.size b := by
  intro b
  have := k.isLt
  match b with
  | ⟨0, _⟩ => exact Nat.le_refl 96
  | ⟨1, _⟩ => show 128 * k.val + 128 ≤ 1024; omega

/-- The tile of 128 columns at position `k` of the block. -/
abbrev trect (k : Fin 8) : Rect S96x1024 := Rect.unit (s := S96x1024) ![0, 128 * k.val] S96x128.size (inbT k)

/-- The tensor scale, as the body loads it. -/
def tsv (x1 : Vec F S1 .f32) : Elt F .f32 :=
  View.ld x1 (Rect.unit (s := S1) ![0] S1.size inb_S1_S1_0) (Shape.Idx.first (numel1_S1.symm ▸ Nat.one_pos))

/-- The eight stores of block scales, the last first. -/
def pieces (ts : Elt F .f32) (X : Vec F S96x1024 .f32) : List (View.Piece (Elt F) S96x1024 .fp8e4m3) :=
  [7, 6, 5, 4, 3, 2, 1, 0].map fun k => ⟨trect k, k0_pay2041 ts (View.ld X (trect k))⟩

/-- Every store puts the scales of the maxima at the same positions. -/
theorem pieces_apply (ts : Elt F .f32) (X : Vec F S96x1024 .f32) :
    ∀ p ∈ pieces ts X, ∀ x : p.1.shape.Idx, p.2 x = one ts (X (p.1.emb x)) := by
  intro p hp x
  obtain ⟨k, -, rfl⟩ := List.mem_map.1 hp
  rfl

section
variable (c : Dev nD) (i : grid0.Coords) (arg1 : Memref sig .tc .smem S16 .f32) (harg1 : arg1.IsWhole) (arg2 : Memref sig .tc .smem S1 .f32) (harg2 : arg2.IsWhole) (arg3 : Memref sig .tc .vmem S192x4x16x128 .bf16) (harg3 : arg3.IsWhole) (arg4 : Memref sig .tc .vmem S96x1024 .f32) (harg4 : arg4.IsWhole) (arg5 : Memref sig .tc .vmem S1024x1536 .i8) (harg5 : arg5.IsWhole) (arg6 : Memref sig .tc .vmem S1024x768 .i8) (harg6 : arg6.IsWhole) (arg7 : Memref sig .tc .vmem S96x1024 .fp8e4m3) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2x2x2x96x128 .f32) (harg10 : arg10.IsWhole)
    (x0 : Vec F S16 .f32) (x1 : Vec F S1 .f32) (x2 : Vec F S192x4x16x128 .bf16) (x3 : Vec F S96x1024 .f32) (x4 : Vec F S1024x1536 .i8)

/-- The block of scales that the first grid point leaves. -/
theorem outA (hc0 : cond0_0 i) :
    out0_A_6 c i arg1 harg1 arg2 harg2 arg3 harg3 arg4 harg4 arg5 harg5 arg6 harg6 arg7 harg7 arg8 harg8 arg9 harg9 arg10 harg10 hc0 x0 x1 x2 x3 x4
      = fun y => one (tsv x1) (x3 y) := by
  have cov := cover0_A_6 c i arg1 harg1 arg2 harg2 arg3 harg3 arg4 harg4 arg5 harg5 arg6 harg6 arg7 harg7 arg8 harg8 arg9 harg9 arg10 harg10 hc0 x0 x1 x2 x3 x4
  have e : (kernelRun0_A c i arg1 harg1 arg2 harg2 arg3 harg3 arg4 harg4 arg5 harg5 arg6 harg6 arg7 harg7 arg8 harg8 arg9 harg9 arg10 harg10 hc0 x0 x1 x2 x3 x4).2.1
      = pieces (tsv (arg2.view.read (Elt F) (harg2.unread x1))) (arg4.view.read (Elt F) (harg4.unread x3)) := by
    sl_kernel_rfl
  unfold out0_A_6
  rw [View.read_writes_eq_canon _ _ _ cov]
  rw [e, harg2.read_unread, harg4.read_unread] at cov ⊢
  exact funext fun y => View.canon_apply_of_pieces (fun y => one (tsv x1) (x3 y)) _ (pieces_apply _ _) y (cov y)

/-- The block of scales that a later grid point leaves. -/
theorem outB (hc0 : ¬cond0_0 i) (xs0 xs1 : Vec F S256x256 .bf16) :
    out0_B_6 c i arg1 harg1 arg2 harg2 arg3 harg3 arg4 harg4 arg5 harg5 arg6 harg6 arg7 harg7 arg8 harg8 arg9 harg9 arg10 harg10 hc0 x0 x1 x2 x3 x4 xs0 xs1
      = fun y => one (tsv x1) (x3 y) := by
  have cov := cover0_B_6 c i arg1 harg1 arg2 harg2 arg3 harg3 arg4 harg4 arg5 harg5 arg6 harg6 arg7 harg7 arg8 harg8 arg9 harg9 arg10 harg10 hc0 x0 x1 x2 x3 x4 xs0 xs1
  have e : (kernelRun0_B c i arg1 harg1 arg2 harg2 arg3 harg3 arg4 harg4 arg5 harg5 arg6 harg6 arg7 harg7 arg8 harg8 arg9 harg9 arg10 harg10 hc0 x0 x1 x2 x3 x4 xs0 xs1).2.1
      = pieces (tsv (arg2.view.read (Elt F) (harg2.unread x1))) (arg4.view.read (Elt F) (harg4.unread x3)) := by
    sl_kernel_rfl
  unfold out0_B_6
  rw [View.read_writes_eq_canon _ _ _ cov]
  rw [e, harg2.read_unread, harg4.read_unread] at cov ⊢
  exact funext fun y => View.canon_apply_of_pieces (fun y => one (tsv x1) (x3 y)) _ (pieces_apply _ _) y (cov y)

end

variable (m : (ℓ : Loc nD τ sig) → Buf (Elt F) ℓ) (c : Dev nD)

/-- The argument with the tensor scale, at its type. -/
def tsArg : Vec F S1 .f32 := m ((c : Thread nD τ).loc main_arg2)

/-- The argument with the blocks' maxima, at its type. -/
def amaxArg : Vec F S96x28672 .f32 := m ((c : Thread nD τ).loc main_arg3)

/-- The block of maxima that a grid point reads. -/
theorem iblk3_apply (t : Fin cfg0.N) (y : S96x1024.Idx) (i : S96x28672.Idx) (h0 : (i 0).val = (y 0).val) (h1 : (i 1).val = 1024 * t.val + (y 1).val) :
    (iblk m c 3 t : Vec F S96x1024 .f32) y = amaxArg m c i := by
  have idx3 : ∀ t : Fin grid0.N, win0_3.index t = ![0, t.val] := by decide +kernel
  have e : i = ((cfg0.win 3).blk t).view.emb y := by
    funext b
    match b with
    | ⟨0, _⟩ => apply Fin.ext; refine h0.trans ?_; symm; blk_simp [idx3 t]; rfl
    | ⟨1, _⟩ => apply Fin.ext; refine h1.trans ?_; symm; blk_simp [idx3 t]; have hy : (y 1).val = (y ⟨1, by decide⟩).val := rfl; omega
  rw [e]
  show V m c main_arg3 _ = _
  rw [V_main_arg3]
  rfl

/-- The tensor scale that a grid point reads. -/
theorem iblk1_eq (t : Fin cfg0.N) : (iblk m c 1 t : Vec F S1 .f32) = tsArg m c := by
  have idx1 : ∀ t : Fin grid0.N, win0_1.index t = ![0] := by decide +kernel
  funext y
  have e : y = ((cfg0.win 1).blk t).view.emb y := by
    funext b
    match b with
    | ⟨0, _⟩ => apply Fin.ext; symm; blk_simp [idx1 t]
  show V m c main_arg2 _ = _
  rw [V_main_arg2]
  exact congrArg (tsArg m c) e.symm

/-- The block of scales after a grid point. -/
theorem block (t : Fin cfg0.N) : (outsAt0 m c t.val t.isLt).2.1 = fun y => one (tsv (tsArg m c)) ((iblk m c 3 t : Vec F S96x1024 .f32) y) := by
  by_cases h : t.val % 28 = 0
  · rw [outsAt0_A m c t h, ← iblk1_eq m c t]
    dsimp only
    exact outA (F := F) _ _ _ _ _ _ _ _ _ _ _ _ _ _ _ _ _ _ _ _ _ _ _ _ _ _ _ _
  · rw [outsAt0_B m c t h, ← iblk1_eq m c t]
    dsimp only
    exact outB (F := F) _ _ _ _ _ _ _ _ _ _ _ _ _ _ _ _ _ _ _ _ _ _ _ _ _ _ _ _ _ _

/-- The block scales after the run: each the scale of the maximum at its place. -/
theorem final : (dats m 0 c).arrAt 6 cfg0.N = fun i : S96x28672.Idx => one (tsv (tsArg m c)) (amaxArg m c i) := by
  have idx6 : ∀ t : Fin grid0.N, win0_6.index t = ![0, t.val] := by decide +kernel
  refine (dats m 0 c).arrAt_eq_of_covers 6 _ (by decide +kernel) fun t hf y => ?_
  rw [after0_6, block]
  have e0 : (((cfg0.win 6).blk t).view.emb y 0).val = (y 0).val := by blk_simp [idx6 t]
  have e1 : (((cfg0.win 6).blk t).view.emb y 1).val = 1024 * t.val + (y 1).val := by blk_simp [idx6 t]; omega
  exact congrArg (one (tsv (tsArg m c))) (iblk3_apply m c t y _ e0 e1).symm

end Cert.Quant.Scale

end
-- ==== Proof.ScaleRefVal.lean ====
module

public import proofs.«01_k».proof.Proof.Gen.ScaleRef.Value
public import Idealize.ShloMosaic.Lib.Pipeline.ValueKit

@[expose] public section

set_option maxRecDepth 16384

noncomputable section

namespace Cert.ScaleRef.Scale

open Cert.ScaleRef Cert.ScaleRef.Gen Idealize.ShloMosaic Idealize.ShloMosaic.TcCoe Idealize.SL.Sem

variable {F : FTy → Type} [FloatOps F]

/-- The tensor scale, as the body loads it. -/
def tsv (x0 : Vec F S1 .f32) : Elt F .f32 :=
  View.ld x0 (Rect.unit (s := S1) ![0] S1.size inb_S1_S1_0) (Shape.Idx.first (numel1_S1.symm ▸ Nat.one_pos))

/-- What the body leaves in the result's buffer. -/
theorem out (c : Dev nD) (arg0 : Memref sig .tc .smem S1 .f32) (harg0 : arg0.IsWhole) (arg1 : Memref sig .tc .vmem S96x28672 .f32) (harg1 : arg1.IsWhole) (arg2 : Memref sig .tc .vmem S96x28672 .fp8e4m3) (harg2 : arg2.IsWhole)
    (x0 : Vec F S1 .f32) (x1 : Vec F S96x28672 .f32) :
    out0_A_2 c arg0 harg0 arg1 harg1 arg2 harg2 x0 x1 = k0_pay1 x1 (tsv x0) := by
  have e : (kernelRun0_A c arg0 harg0 arg1 harg1 arg2 harg2 x0 x1).1
      = [⟨Rect.unit (s := S96x28672) ![0, 0] S96x28672.size inb_S96x28672_S96x28672_0_0,
          k0_pay1 (View.ld (arg1.view.read (Elt F) (harg1.unread x1)) (Rect.unit (s := S96x28672) ![0, 0] S96x28672.size inb_S96x28672_S96x28672_0_0))
            (tsv (arg0.view.read (Elt F) (harg0.unread x0)))⟩] := by
    sl_kernel_rfl
  unfold out0_A_2
  rw [View.read_writes_eq_canon _ _ _ (cover0_A_2 c arg0 harg0 arg1 harg1 arg2 harg2 x0 x1), e, harg0.read_unread, harg1.read_unread,
    View.ld_unit_lit' _ _ (by decide)]
  exact View.canon_cons_unit_lit' _ _ _ (by decide)

variable (m : (ℓ : Loc nD τ sig) → Buf (Elt F) ℓ) (c : Dev nD)

/-- The argument with the tensor scale, at its type. -/
def tsArg : Vec F S1 .f32 := m ((c : Thread nD τ).loc main_arg2)

/-- The argument with the blocks' maxima, at its type. -/
def amaxArg : Vec F S96x28672 .f32 := m ((c : Thread nD τ).loc main_arg3)

/-- The maxima that the body reads are the whole argument. -/
theorem iblk1_eq (t : Fin cfg0.N) : (iblk m c 1 t : Vec F S96x28672 .f32) = amaxArg m c := by
  have idx : ∀ t : Fin grid0.N, win0_1.index t = ![0, 0] := by decide +kernel
  funext y
  have e : y = ((cfg0.win 1).blk t).view.emb y := by
    funext b
    match b with
    | ⟨0, _⟩ => apply Fin.ext; symm; blk_simp [idx t]
    | ⟨1, _⟩ => apply Fin.ext; symm; blk_simp [idx t]
  show V m c main_arg3 _ = _
  rw [V_main_arg3]
  exact congrArg (amaxArg m c) e.symm

/-- The tensor scale that the body reads is the argument. -/
theorem iblk0_eq (t : Fin cfg0.N) : (iblk m c 0 t : Vec F S1 .f32) = tsArg m c := by
  have idx : ∀ t : Fin grid0.N, win0_0.index t = ![0] := by decide +kernel
  funext y
  have e : y = ((cfg0.win 0).blk t).view.emb y := by
    funext b
    match b with
    | ⟨0, _⟩ => apply Fin.ext; symm; blk_simp [idx t]
  show V m c main_arg2 _ = _
  rw [V_main_arg2]
  exact congrArg (tsArg m c) e.symm

/-- The reference's result: the line of its body, of the whole arguments. -/
theorem final : (dats m 0 c).arrAt 2 cfg0.N = k0_pay1 (amaxArg m c) (tsv (tsArg m c)) := by
  have idx : ∀ t : Fin grid0.N, win0_2.index t = ![0, 0] := by decide +kernel
  refine (dats m 0 c).arrAt_eq_of_covers 2 _ (by decide +kernel) fun t hf y => ?_
  rw [after0_2]
  unfold outsAt0
  rw [out, iblk0_eq, iblk1_eq]
  have e : ((cfg0.win 2).blk t).view.emb y = y := by
    funext b
    match b with
    | ⟨0, _⟩ => apply Fin.ext; blk_simp [idx t]
    | ⟨1, _⟩ => apply Fin.ext; blk_simp [idx t]
  exact congrArg (k0_pay1 (amaxArg m c) (tsv (tsArg m c))) e.symm

end Cert.ScaleRef.Scale

end
-- ==== Proof.Nibble.lean ====
module

public import Idealize.ShloMosaic.PureOps
public import Idealize.ShloMosaic.Lib.BitcastPair
public import Idealize.ShloMosaic.Lib.Pointwise

@[expose] public section

noncomputable section

namespace Cert.Nibble

open Idealize.ShloMosaic

/-- No four-bit code of the word is a negative zero: where a code's sign bit is set, one of its three lower bits is. -/
def Good {w : ℕ} (b : BitVec w) : Prop :=
  ∀ j : ℕ, b.getLsbD (4 * j + 3) = true → (b.getLsbD (4 * j) || b.getLsbD (4 * j + 1) || b.getLsbD (4 * j + 2)) = true

/-- The word with seven in each of its eight codes. -/
abbrev sevens : BitVec 32 := 2004318071#32

theorem sevens_bits : ∀ j : Fin 8, sevens.getLsbD (4 * j.val) = true ∧ sevens.getLsbD (4 * j.val + 1) = true
    ∧ sevens.getLsbD (4 * j.val + 2) = true ∧ sevens.getLsbD (4 * j.val + 3) = false := by decide

/-- Adding sevens to codes below eight carries nothing from one code into the next. -/
theorem no_carry (y : BitVec 32) : ∀ j : ℕ, j ≤ 8 → BitVec.carry (4 * j) (y &&& sevens) sevens false = false
  | 0, _ => by simp [BitVec.carry, Nat.mod_one]
  | j + 1, h => by
    obtain ⟨-, -, -, s3⟩ := sevens_bits ⟨j, by omega⟩
    dsimp only at s3
    have e : 4 * (j + 1) = (4 * j + 3) + 1 := by omega
    rw [e, BitVec.carry_succ, BitVec.getLsbD_and, s3]
    simp [Bool.atLeastTwo]

/-- Clearing the sign of every code whose three lower bits are zero leaves no negative zero. -/
theorem good_clean (y : BitVec 32) : Good (y &&& (((y &&& sevens) + sevens) ||| sevens)) := by
  intro j h3
  have hj : j < 8 := by
    by_contra hj
    rw [BitVec.getLsbD_of_ge _ _ (by omega)] at h3
    exact absurd h3 (by decide)
  obtain ⟨s0, s1, s2, s3⟩ := sevens_bits ⟨j, hj⟩
  dsimp only at s0 s1 s2 s3
  have c0 := no_carry y j (by omega)
  rw [BitVec.getLsbD_and, BitVec.getLsbD_or, BitVec.getLsbD_add (by omega), BitVec.carry_succ, BitVec.carry_succ, BitVec.carry_succ, c0] at h3
  simp only [BitVec.getLsbD_and, BitVec.getLsbD_or, s0, s1, s2, s3, Bool.or_true] at h3 ⊢
  revert h3
  generalize y.getLsbD (4 * j) = a0
  generalize y.getLsbD (4 * j + 1) = a1
  generalize y.getLsbD (4 * j + 2) = a2
  generalize y.getLsbD (4 * j + 3) = a3
  revert a0 a1 a2 a3
  simp only [Bool.atLeastTwo]
  decide

/-- A reinterpretation between word sizes that are multiples of four bits moves every code whole. -/
theorem good_bitcast {s t : Shape} {v w : ℕ} (v' w' : ℕ) (hv : v = 4 * v') (hw : w = 4 * w') (hv0 : 0 < v') (x : s.Idx → BitVec v)
    (h : s.Bitcasts v t w) (hx : ∀ i, Good (x i)) (j : t.Idx) : Good (bitcast t w x h j) := by
  subst hv hw
  intro J h3
  have hJ : J < w' := by
    by_contra hJ
    rw [BitVec.getLsbD_of_ge _ _ (by omega)] at h3
    exact absurd h3 (by decide)
  have pos : 0 < 4 * v' := by omega
  have hd : ∀ k : ℕ, k < 4 → (t.row j * (4 * w') + (4 * J + k)) / (4 * v') = (t.row j * w' + J) / v' := by
    intro k hk
    rw [show t.row j * (4 * w') + (4 * J + k) = 4 * (t.row j * w' + J) + k by ring, ← Nat.div_div_eq_div_mul]
    congr 1; omega
  have hm : ∀ k : ℕ, k < 4 → (t.row j * (4 * w') + (4 * J + k)) % (4 * v') = 4 * ((t.row j * w' + J) % v') + k := by
    intro k hk
    rw [show t.row j * (4 * w') + (4 * J + k) = 4 * (t.row j * w' + J) + k by ring, Nat.mod_mul]
    rw [show (4 * (t.row j * w' + J) + k) / 4 = t.row j * w' + J by omega, show (4 * (t.row j * w' + J) + k) % 4 = k by omega]
    omega
  have hp : ∀ a : Fin s.rank, a.val + 2 = s.rank → (t.row j * w' + J) / v' < s.size a := fun a ha => by
    rw [← hd 0 (by omega)]
    exact (Nat.div_lt_iff_lt_mul pos).2 (h.pos_lt j (4 * J + 0) (by omega) a ha)
  have bit : ∀ k : ℕ, k < 4 → (bitcast t (4 * w') x h j).getLsbD (4 * J + k)
      = (x (h.srcIdx j ((t.row j * w' + J) / v') hp)).getLsbD (4 * ((t.row j * w' + J) % v') + k) := by
    intro k hk
    rw [bitcast_getLsbD x h j (4 * J + k) (by omega) pos, hm k hk, h.srcIdx_congr j (hd k hk) _ hp]
  have b0 := bit 0 (by omega)
  simp only [Nat.add_zero] at b0
  rw [bit 3 (by omega)] at h3
  rw [b0, bit 1 (by omega), bit 2 (by omega)]
  exact hx _ _ h3

/-- Neither code of a byte of good codes is eight, compared as words. -/
theorem byte_ok : ∀ b : BitVec 8, (b.getLsbD 3 = true → (b.getLsbD 0 || b.getLsbD 1 || b.getLsbD 2) = true)
    → (b.getLsbD 7 = true → (b.getLsbD 4 || b.getLsbD 5 || b.getLsbD 6) = true)
    → IntOp.cmpi .ne (b.setWidth 32 &&& 15#32) 8#32 &&& IntOp.cmpi .ne (IntOp.shrsi .host (b.setWidth 32) 4#32) 8#32 = 1#1 := by
  decide +kernel

end Cert.Nibble

end
-- ==== Proof.CodesVal.lean ====
module

public import proofs.«01_k».proof.Proof.Gen.Codes.Value
public import proofs.«01_k».proof.Proof.Nibble
public import Idealize.ShloMosaic.Lib.Pipeline.ValueKit

@[expose] public section

set_option maxRecDepth 16384

noncomputable section

namespace Cert.Codes.NoNegZero

open Cert.Codes Cert.Codes.Gen Cert.Nibble Idealize.ShloMosaic Idealize.ShloMosaic.TcCoe Idealize.SL.Sem

variable {F : FTy → Type} [BitOps F]

/-- Clearing the negative zeros leaves none. -/
theorem good_and (z : IVec S64x128 32) (i : S64x128.Idx) :
    Good (andi z (ori (addi (andi z (broadcast S64x128 2004318071#32)) (broadcast S64x128 2004318071#32)) (broadcast S64x128 2004318071#32)) i) :=
  good_clean (z i)

/-- The words read as half words. -/
theorem good_b16 (x : IVec S64x128 32) (h : S64x128.Bitcasts 32 S128x128 16) (hx : ∀ i, Good (x i)) (i : S128x128.Idx) :
    Good (bitcast S128x128 16 x h i) :=
  good_bitcast 8 4 rfl rfl (by decide) x _ hx i

/-- The half words turned. -/
theorem good_tr (x : IVec S128x128 16) (h : S128x128.Transposes [1, 0] S128x128) (hx : ∀ i, Good (x i)) (i : S128x128.Idx) :
    Good (transpose S128x128 [1, 0] x h i) :=
  hx _

/-- The half words read as words again. -/
theorem good_b32 (x : IVec S128x128 16) (h : S128x128.Bitcasts 16 S64x128 32) (hx : ∀ i, Good (x i)) (i : S64x128.Idx) :
    Good (bitcast S64x128 32 x h i) :=
  good_bitcast 4 8 rfl rfl (by decide) x _ hx i

/-- The words read as bytes. -/
theorem good_b8 (x : IVec S64x128 32) (h : S64x128.Bitcasts 32 S256x128 8) (hx : ∀ i, Good (x i)) (i : S256x128.Idx) :
    Good (bitcast S256x128 8 x h i) :=
  good_bitcast 8 2 rfl rfl (by decide) x _ hx i

/-- A half of the bytes. -/
theorem good_half (off : Fin 2 → ℕ) (x : IVec S256x128 8) (h : S256x128.Slices off S128x128) (hx : ∀ i, Good (x i)) (i : S128x128.Idx) :
    Good (extractStridedSlice S128x128 off x h i) := by
  unfold extractStridedSlice
  exact hx _

/-- The bytes of the last tile of a trip. -/
theorem good_pay5 (z : IVec S64x128 32) : ∀ i, Good (k0_pay5 z i) := by
  intro i
  unfold k0_pay5
  exact good_b8 _ _ (good_b32 _ _ (good_tr _ _ (good_b16 _ _ (good_and _)))) i

section
variable (arg3 : Memref sig .tc .vmem S192x4x16x128 .bf16) (arg5 : Memref sig .tc .vmem S1024x1536 .i8) (arg8 : Memref sig .tc .vmem S256x256 .bf16) (arg9 : Memref sig .tc .vmem S256x256 .bf16) (arg10 : Memref sig .tc .vmem S2x2x2x96x128 .f32) (X_arg3 : BufTy.Contents (Elt F) arg3.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (k : Fin k0_t1_loop.trips)

/-! The bytes of the other eleven tiles of a trip. -/

theorem good_v18412 : ∀ i, Good (trip_k0_t1.sl.v18412 (F := F) arg3 arg5 arg8 arg9 arg10 X_arg3 X_arg5 X_arg8 X_arg9 X_arg10 k i) := by
  delta trip_k0_t1.sl.v18412
  refine good_b8 _ _ ?_
  delta trip_k0_t1.sl.v18411
  refine good_b32 _ _ ?_
  delta trip_k0_t1.sl.v18410
  refine good_tr _ _ ?_
  delta trip_k0_t1.sl.v18409
  refine good_b16 _ _ ?_
  delta trip_k0_t1.sl.v18408
  exact good_and _

theorem good_v16616 : ∀ i, Good (trip_k0_t1.sl.v16616 (F := F) arg3 arg5 arg8 arg9 arg10 X_arg3 X_arg5 X_arg8 X_arg9 X_arg10 k i) := by
  delta trip_k0_t1.sl.v16616
  refine good_b8 _ _ ?_
  delta trip_k0_t1.sl.v16615
  refine good_b32 _ _ ?_
  delta trip_k0_t1.sl.v16614
  refine good_tr _ _ ?_
  delta trip_k0_t1.sl.v16613
  refine good_b16 _ _ ?_
  delta trip_k0_t1.sl.v16612
  exact good_and _

theorem good_v12988 : ∀ i, Good (trip_k0_t1.sl.v12988 (F := F) arg3 arg5 arg8 arg9 arg10 X_arg3 X_arg5 X_arg8 X_arg9 X_arg10 k i) := by
  delta trip_k0_t1.sl.v12988
  refine good_b8 _ _ ?_
  delta trip_k0_t1.sl.v12987
  refine good_b32 _ _ ?_
  delta trip_k0_t1.sl.v12986
  refine good_tr _ _ ?_
  delta trip_k0_t1.sl.v12985
  refine good_b16 _ _ ?_
  delta trip_k0_t1.sl.v12984
  exact good_and _

theorem good_v11156 : ∀ i, Good (trip_k0_t1.sl.v11156 (F := F) arg3 arg5 arg8 arg9 arg10 X_arg3 X_arg5 X_arg8 X_arg9 X_arg10 k i) := by
  delta trip_k0_t1.sl.v11156
  refine good_b8 _ _ ?_
  delta trip_k0_t1.sl.v11155
  refine good_b32 _ _ ?_
  delta trip_k0_t1.sl.v11154
  refine good_tr _ _ ?_
  delta trip_k0_t1.sl.v11153
  refine good_b16 _ _ ?_
  delta trip_k0_t1.sl.v11152
  exact good_and _

theorem good_v9360 : ∀ i, Good (trip_k0_t1.sl.v9360 (F := F) arg3 arg5 arg8 arg9 arg10 X_arg3 X_arg5 X_arg8 X_arg9 X_arg10 k i) := by
  delta trip_k0_t1.sl.v9360
  refine good_b8 _ _ ?_
  delta trip_k0_t1.sl.v9359
  refine good_b32 _ _ ?_
  delta trip_k0_t1.sl.v9358
  refine good_tr _ _ ?_
  delta trip_k0_t1.sl.v9357
  refine good_b16 _ _ ?_
  delta trip_k0_t1.sl.v9356
  exact good_and _

theorem good_v5732 : ∀ i, Good (trip_k0_t1.sl.v5732 (F := F) arg3 arg5 arg8 arg9 arg10 X_arg3 X_arg5 X_arg8 X_arg9 X_arg10 k i) := by
  delta trip_k0_t1.sl.v5732
  refine good_b8 _ _ ?_
  delta trip_k0_t1.sl.v5731
  refine good_b32 _ _ ?_
  delta trip_k0_t1.sl.v5730
  refine good_tr _ _ ?_
  delta trip_k0_t1.sl.v5729
  refine good_b16 _ _ ?_
  delta trip_k0_t1.sl.v5728
  exact good_and _

theorem good_v3900 : ∀ i, Good (trip_k0_t1.sl.v3900 (F := F) arg3 arg5 arg8 arg9 arg10 X_arg3 X_arg5 X_arg8 X_arg9 X_arg10 k i) := by
  delta trip_k0_t1.sl.v3900
  refine good_b8 _ _ ?_
  delta trip_k0_t1.sl.v3899
  refine good_b32 _ _ ?_
  delta trip_k0_t1.sl.v3898
  refine good_tr _ _ ?_
  delta trip_k0_t1.sl.v3897
  refine good_b16 _ _ ?_
  delta trip_k0_t1.sl.v3896
  exact good_and _

theorem good_v20244 : ∀ i, Good (trip_k0_t1.sl.v20244 (F := F) arg3 arg5 arg8 arg9 arg10 X_arg3 X_arg5 X_arg8 X_arg9 X_arg10 k i) := by
  delta trip_k0_t1.sl.v20244
  refine good_b8 _ _ ?_
  delta trip_k0_t1.sl.v20243
  refine good_b32 _ _ ?_
  delta trip_k0_t1.sl.v20242
  refine good_tr _ _ ?_
  delta trip_k0_t1.sl.r_1657
  intro i
  unfold k0_pay1866
  exact good_b16 _ _ (good_and _) i

theorem good_1364 : ∀ i, Good (k0_pay1364 (trip_k0_t1.sl.r_1209 (F := F) arg3 arg5 arg8 arg9 arg10 X_arg3 X_arg5 X_arg8 X_arg9 X_arg10 k) (trip_k0_t1.sl.r_1210 (F := F) arg3 arg5 arg8 arg9 arg10 X_arg3 X_arg5 X_arg8 X_arg9 X_arg10 k) i) := by
  intro i
  unfold k0_pay1364
  refine good_b8 _ _ (good_b32 _ _ (good_tr _ _ (good_b16 _ _ ?_))) i
  delta trip_k0_t1.sl.r_1210
  unfold k0_pay1363
  exact good_and _

theorem good_v2104 : ∀ i, Good (trip_k0_t1.sl.v2104 (F := F) arg3 arg5 arg8 arg9 arg10 X_arg3 X_arg5 X_arg8 X_arg9 X_arg10 k i) := by
  delta trip_k0_t1.sl.v2104
  refine good_b8 _ _ ?_
  delta trip_k0_t1.sl.v2103
  refine good_b32 _ _ ?_
  delta trip_k0_t1.sl.v2102
  refine good_tr _ _ ?_
  delta trip_k0_t1.sl.r_155
  intro i
  unfold k0_pay186
  exact good_b16 _ _ (good_and _) i

theorem good_r602 : ∀ i, Good (trip_k0_t1.sl.r_602 (F := F) arg3 arg5 arg8 arg9 arg10 X_arg3 X_arg5 X_arg8 X_arg9 X_arg10 k i) := by
  delta trip_k0_t1.sl.r_602
  intro i
  unfold k0_pay688
  exact good_b8 _ _ (good_b32 _ _ (good_tr _ _ (good_b16 _ _ (good_and _)))) i

end

/-- Bytes without a negative zero, at the type of a buffer's elements. -/
abbrev GoodE (b : Elt F .i8) : Prop := Good (w := 8) b

section
variable (𝒱 : Variants) (c : Dev nD) (bd : Option 𝒱.V) (i : grid0.Coords) (arg1 : Memref sig .tc .smem S16 .f32) (harg1 : arg1.IsWhole) (arg2 : Memref sig .tc .smem S1 .f32) (harg2 : arg2.IsWhole) (arg3 : Memref sig .tc .vmem S192x4x16x128 .bf16) (harg3 : arg3.IsWhole) (arg4 : Memref sig .tc .vmem S96x1024 .f32) (harg4 : arg4.IsWhole) (arg5 : Memref sig .tc .vmem S1024x1536 .i8) (harg5 : arg5.IsWhole) (arg6 : Memref sig .tc .vmem S1024x768 .i8) (harg6 : arg6.IsWhole) (arg7 : Memref sig .tc .vmem S96x1024 .fp8e4m3) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2x2x2x96x128 .f32) (harg10 : arg10.IsWhole) (X_arg3 : BufTy.Contents (Elt F) arg3.view.ty) (X_arg5 : BufTy.Contents (Elt F) arg5.view.ty) (X_arg8 : BufTy.Contents (Elt F) arg8.view.ty) (X_arg9 : BufTy.Contents (Elt F) arg9.view.ty) (X_arg10 : BufTy.Contents (Elt F) arg10.view.ty)

/-- Every store of one trip of the loop puts bytes without a negative zero. -/
theorem trip_good (k : Fin k0_t1_loop.trips) :
    ∀ p ∈ (trip_k0_t1 (F := F) 𝒱 c bd i arg1 harg1 arg2 harg2 arg3 harg3 arg4 harg4 arg5 harg5 arg6 harg6 arg7 harg7 arg8 harg8 arg9 harg9 arg10 harg10 X_arg3 X_arg5 X_arg8 X_arg9 X_arg10 k).1,
      ∀ x : p.1.shape.Idx, GoodE (F := F) (p.2 x) := by
  delta trip_k0_t1
  refine List.forall_mem_cons.2 ⟨?_, ?_⟩
  · refine good_half _ _ _ ?_
    exact good_pay5 _
  refine List.forall_mem_cons.2 ⟨?_, ?_⟩
  · refine good_half _ _ _ ?_
    exact good_pay5 _
  refine List.forall_mem_cons.2 ⟨?_, ?_⟩
  · refine good_half _ _ _ ?_
    exact good_v20244 _ _ _ _ _ _ _ _ _ _ _
  refine List.forall_mem_cons.2 ⟨?_, ?_⟩
  · refine good_half _ _ _ ?_
    exact good_v20244 _ _ _ _ _ _ _ _ _ _ _
  refine List.forall_mem_cons.2 ⟨?_, ?_⟩
  · refine good_half _ _ _ ?_
    exact good_v18412 _ _ _ _ _ _ _ _ _ _ _
  refine List.forall_mem_cons.2 ⟨?_, ?_⟩
  · refine good_half _ _ _ ?_
    exact good_v18412 _ _ _ _ _ _ _ _ _ _ _
  refine List.forall_mem_cons.2 ⟨?_, ?_⟩
  · refine good_half _ _ _ ?_
    exact good_v16616 _ _ _ _ _ _ _ _ _ _ _
  refine List.forall_mem_cons.2 ⟨?_, ?_⟩
  · refine good_half _ _ _ ?_
    exact good_v16616 _ _ _ _ _ _ _ _ _ _ _
  refine List.forall_mem_cons.2 ⟨?_, ?_⟩
  · refine good_half _ _ _ ?_
    exact good_1364 _ _ _ _ _ _ _ _ _ _ _
  refine List.forall_mem_cons.2 ⟨?_, ?_⟩
  · refine good_half _ _ _ ?_
    exact good_1364 _ _ _ _ _ _ _ _ _ _ _
  refine List.forall_mem_cons.2 ⟨?_, ?_⟩
  · refine good_half _ _ _ ?_
    exact good_v12988 _ _ _ _ _ _ _ _ _ _ _
  refine List.forall_mem_cons.2 ⟨?_, ?_⟩
  · refine good_half _ _ _ ?_
    exact good_v12988 _ _ _ _ _ _ _ _ _ _ _
  refine List.forall_mem_cons.2 ⟨?_, ?_⟩
  · refine good_half _ _ _ ?_
    exact good_v11156 _ _ _ _ _ _ _ _ _ _ _
  refine List.forall_mem_cons.2 ⟨?_, ?_⟩
  · refine good_half _ _ _ ?_
    exact good_v11156 _ _ _ _ _ _ _ _ _ _ _
  refine List.forall_mem_cons.2 ⟨?_, ?_⟩
  · refine good_half _ _ _ ?_
    exact good_v9360 _ _ _ _ _ _ _ _ _ _ _
  refine List.forall_mem_cons.2 ⟨?_, ?_⟩
  · refine good_half _ _ _ ?_
    exact good_v9360 _ _ _ _ _ _ _ _ _ _ _
  refine List.forall_mem_cons.2 ⟨?_, ?_⟩
  · refine good_half _ _ _ ?_
    exact good_r602 _ _ _ _ _ _ _ _ _ _ _
  refine List.forall_mem_cons.2 ⟨?_, ?_⟩
  · refine good_half _ _ _ ?_
    exact good_r602 _ _ _ _ _ _ _ _ _ _ _
  refine List.forall_mem_cons.2 ⟨?_, ?_⟩
  · refine good_half _ _ _ ?_
    exact good_v5732 _ _ _ _ _ _ _ _ _ _ _
  refine List.forall_mem_cons.2 ⟨?_, ?_⟩
  · refine good_half _ _ _ ?_
    exact good_v5732 _ _ _ _ _ _ _ _ _ _ _
  refine List.forall_mem_cons.2 ⟨?_, ?_⟩
  · refine good_half _ _ _ ?_
    exact good_v3900 _ _ _ _ _ _ _ _ _ _ _
  refine List.forall_mem_cons.2 ⟨?_, ?_⟩
  · refine good_half _ _ _ ?_
    exact good_v3900 _ _ _ _ _ _ _ _ _ _ _
  refine List.forall_mem_cons.2 ⟨?_, ?_⟩
  · refine good_half _ _ _ ?_
    exact good_v2104 _ _ _ _ _ _ _ _ _ _ _
  refine List.forall_mem_cons.2 ⟨?_, ?_⟩
  · refine good_half _ _ _ ?_
    exact good_v2104 _ _ _ _ _ _ _ _ _ _ _
  exact List.forall_mem_nil _

/-- So do the stores of all trips before one. -/
theorem loop_good : ∀ n : ℕ, ∀ p ∈ pb_k0_t1 (F := F) 𝒱 c bd i arg1 harg1 arg2 harg2 arg3 harg3 arg4 harg4 arg5 harg5 arg6 harg6 arg7 harg7 arg8 harg8 arg9 harg9 arg10 harg10 X_arg3 X_arg5 X_arg8 X_arg9 X_arg10 n,
      ∀ x : p.1.shape.Idx, GoodE (F := F) (p.2 x)
  | 0 => List.forall_mem_nil _
  | n + 1 => by
    rw [pb_k0_t1.eq_2]
    unfold pb_k0_t1Step
    split
    · exact List.forall_mem_append.2 ⟨trip_good _ _ _ _ _ _ _ _ _ _ _ _ _ _ _ _ _ _ _ _ _ _ _ _ _ _ _ _ _ _, loop_good n⟩
    · exact loop_good n

end

/-- Pieces without a negative zero leave none where they cover. -/
theorem canon_good {S : Shape} : ∀ (L : List (View.Piece (Elt F) S .i8)) (_ : ∀ p ∈ L, ∀ x : p.1.shape.Idx, GoodE (F := F) (p.2 x)) (y : S.Idx)
    (_ : ∃ p ∈ L, y ∈ p.1.set), GoodE (F := F) (View.canon L y)
  | [], _, _, hy => by obtain ⟨p, hp, _⟩ := hy; simp at hp
  | p :: L, hL, y, hy => by
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_good L (fun q hq => hL q (by simp [hq])) y ?_
      obtain ⟨q, hq, hyq⟩ := hy
      rcases List.mem_cons.mp hq with rfl | hq'
      · exact absurd hyq hm
      · exact ⟨q, hq', hyq⟩

section
variable (c : Dev nD) (i : grid0.Coords) (arg1 : Memref sig .tc .smem S16 .f32) (harg1 : arg1.IsWhole) (arg2 : Memref sig .tc .smem S1 .f32) (harg2 : arg2.IsWhole) (arg3 : Memref sig .tc .vmem S192x4x16x128 .bf16) (harg3 : arg3.IsWhole) (arg4 : Memref sig .tc .vmem S96x1024 .f32) (harg4 : arg4.IsWhole) (arg5 : Memref sig .tc .vmem S1024x1536 .i8) (harg5 : arg5.IsWhole) (arg6 : Memref sig .tc .vmem S1024x768 .i8) (harg6 : arg6.IsWhole) (arg7 : Memref sig .tc .vmem S96x1024 .fp8e4m3) (harg7 : arg7.IsWhole) (arg8 : Memref sig .tc .vmem S256x256 .bf16) (harg8 : arg8.IsWhole) (arg9 : Memref sig .tc .vmem S256x256 .bf16) (harg9 : arg9.IsWhole) (arg10 : Memref sig .tc .vmem S2x2x2x96x128 .f32) (harg10 : arg10.IsWhole)
    (x0 : Vec F S16 .f32) (x1 : Vec F S1 .f32) (x2 : Vec F S192x4x16x128 .bf16) (x3 : Vec F S96x1024 .f32) (x4 : Vec F S1024x1536 .i8)

/-- The block of codes that the first grid point leaves has no negative zero. -/
theorem outA (hc0 : cond0_0 i) (y : S1024x768.Idx) :
    GoodE (F := F) (out0_A_5 c i arg1 harg1 arg2 harg2 arg3 harg3 arg4 harg4 arg5 harg5 arg6 harg6 arg7 harg7 arg8 harg8 arg9 harg9 arg10 harg10 hc0 x0 x1 x2 x3 x4 y) := by
  have cov := cover0_A_5 c i arg1 harg1 arg2 harg2 arg3 harg3 arg4 harg4 arg5 harg5 arg6 harg6 arg7 harg7 arg8 harg8 arg9 harg9 arg10 harg10 hc0 x0 x1 x2 x3 x4
  unfold out0_A_5
  rw [View.read_writes_eq_canon _ _ _ cov]
  refine canon_good _ ?_ y (cov y)
  delta kernelRun0_A
  exact loop_good (F := F) _ _ _ _ _ _ _ _ _ _ _ _ _ _ _ _ _ _ _ _ _ _ _ _ _ _ _ _ _ _

/-- The block of codes that a later grid point leaves has no negative zero. -/
theorem outB (hc0 : ¬cond0_0 i) (xs0 xs1 : Vec F S256x256 .bf16) (y : S1024x768.Idx) :
    GoodE (F := F) (out0_B_5 c i arg1 harg1 arg2 harg2 arg3 harg3 arg4 harg4 arg5 harg5 arg6 harg6 arg7 harg7 arg8 harg8 arg9 harg9 arg10 harg10 hc0 x0 x1 x2 x3 x4 xs0 xs1 y) := by
  have cov := cover0_B_5 c i arg1 harg1 arg2 harg2 arg3 harg3 arg4 harg4 arg5 harg5 arg6 harg6 arg7 harg7 arg8 harg8 arg9 harg9 arg10 harg10 hc0 x0 x1 x2 x3 x4 xs0 xs1
  unfold out0_B_5
  rw [View.read_writes_eq_canon _ _ _ cov]
  refine canon_good _ ?_ y (cov y)
  delta kernelRun0_B
  exact loop_good (F := F) _ _ _ _ _ _ _ _ _ _ _ _ _ _ _ _ _ _ _ _ _ _ _ _ _ _ _ _ _ _

end

variable (m : (ℓ : Loc nD τ sig) → Buf (Elt F) ℓ) (c : Dev nD)

/-- The block of codes after a grid point has no negative zero. -/
theorem block (t : Fin cfg0.N) (y : S1024x768.Idx) : GoodE (F := F) ((outsAt0 m c t.val t.isLt).1 y) := by
  by_cases h : t.val % 28 = 0
  · rw [outsAt0_A m c t h]
    dsimp only
    exact outA (F := F) _ _ _ _ _ _ _ _ _ _ _ _ _ _ _ _ _ _ _ _ _ _ _ _ _ _ _ _ _
  · rw [outsAt0_B m c t h]
    dsimp only
    exact outB (F := F) _ _ _ _ _ _ _ _ _ _ _ _ _ _ _ _ _ _ _ _ _ _ _ _ _ _ _ _ _ _ _

/-- The grid point that writes a row of the codes. -/
def pt (i : S28672x768.Idx) : Fin cfg0.N :=
  ⟨(i 0).val / 1024, show _ < 28 from Nat.div_lt_of_lt_mul (show (i 0).val < 1024 * 28 from (i 0).isLt)⟩

/-- The place of an element in its grid point's block. -/
def loc (i : S28672x768.Idx) : S1024x768.Idx := fun b =>
  match b with
  | ⟨0, _⟩ => ⟨(i 0).val % 1024, Nat.mod_lt _ (by decide)⟩
  | ⟨1, _⟩ => i 1

/-- The packed codes after the run: the blocks of the grid points, one below the other. -/
theorem final : (dats m 0 c).arrAt 5 cfg0.N = fun i : S28672x768.Idx => (outsAt0 m c (pt i).val (pt i).isLt).1 (loc i) := by
  have idx5 : ∀ t : Fin grid0.N, win0_5.index t = ![t.val, 0] := by decide +kernel
  refine (dats m 0 c).arrAt_eq_of_covers 5 _ (by decide +kernel) fun t hf y => ?_
  rw [after0_5]
  have e0 : (((cfg0.win 5).blk t).view.emb y 0).val = 1024 * t.val + (y 0).val := by blk_simp [idx5 t]; omega
  have e1 : (((cfg0.win 5).blk t).view.emb y 1).val = (y 1).val := by blk_simp [idx5 t]
  have hy : (y 0).val < 1024 := (y 0).isLt
  have hp : pt (((cfg0.win 5).blk t).view.emb y) = t := by
    apply Fin.ext
    show (((cfg0.win 5).blk t).view.emb y 0).val / 1024 = t.val
    omega
  have hl : loc (((cfg0.win 5).blk t).view.emb y) = y := by
    funext b
    match b with
    | ⟨0, _⟩ =>
      apply Fin.ext
      show (((cfg0.win 5).blk t).view.emb y 0).val % 1024 = (y 0).val
      omega
    | ⟨1, _⟩ => exact Fin.ext e1
  dsimp only
  rw [hp, hl]
  rfl

/-- No packed code is a negative zero. -/
theorem final_good (i : S28672x768.Idx) : GoodE (F := F) (((dats m 0 c).arrAt 5 cfg0.N : Vec F S28672x768 .i8) i) := by
  rw [final]
  exact block m c _ _

end Cert.Codes.NoNegZero

end
-- ==== Proof.lean ====
module

public import proofs.«01_k».proof.Defs
public import proofs.«01_k».proof.Proof.Gen.Amax
public import proofs.«01_k».proof.Proof.Gen.Amax.Skeleton
public import proofs.«01_k».proof.Proof.Gen.Amax.Launch
public import proofs.«01_k».proof.Proof.Gen.Amax.Points
public import proofs.«01_k».proof.Proof.Gen.Amax.Frame
public import proofs.«01_k».proof.Proof.Gen.AmaxIdeal
public import proofs.«01_k».proof.Proof.Gen.AmaxIdeal.Skeleton
public import proofs.«01_k».proof.Proof.Gen.AmaxIdeal.Launch
public import proofs.«01_k».proof.Proof.Gen.AmaxIdeal.Points
public import proofs.«01_k».proof.Proof.Gen.AmaxIdeal.Frame
public import proofs.«01_k».proof.Proof.Gen.AmaxRefIdeal
public import proofs.«01_k».proof.Proof.Gen.AmaxIdeal.Value
public import proofs.«01_k».proof.Proof.Gen.AmaxRefIdeal.Run
public import proofs.«01_k».proof.Proof.Gen.AmaxRefIdeal.Read
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.Quant.Value
public import proofs.«01_k».proof.Proof.Gen.ScaleRef
public import proofs.«01_k».proof.Proof.Gen.ScaleRef.Skeleton
public import proofs.«01_k».proof.Proof.Gen.ScaleRef.Launch
public import proofs.«01_k».proof.Proof.Gen.ScaleRef.Points
public import proofs.«01_k».proof.Proof.Gen.ScaleRef.Frame
public import proofs.«01_k».proof.Proof.Gen.ScaleRef.Value
public import proofs.«01_k».proof.Proof.Gen.Codes
public import proofs.«01_k».proof.Proof.Gen.Codes.Skeleton
public import proofs.«01_k».proof.Proof.Gen.Codes.Launch
public import proofs.«01_k».proof.Proof.Gen.Codes.Points
public import proofs.«01_k».proof.Proof.Gen.Codes.Frame
public import proofs.«01_k».proof.Proof.Gen.Codes.Value
public import proofs.«01_k».proof.Proof.Gen.Post_no_negative_zero
public import proofs.«01_k».proof.Proof.Top
public import proofs.«01_k».proof.Proof.Ref
public import proofs.«01_k».proof.Proof.Scale
public import proofs.«01_k».proof.Proof.ScaleRefVal
public import proofs.«01_k».proof.Proof.CodesVal
public import Idealize.ShloMosaic.Adequacy
public import Idealize.ShloMosaic.Init

@[expose] public section

noncomputable section

namespace Cert.Proof

open Idealize.ShloMosaic Idealize.ShloMosaic.TcCoe Idealize.SL.Sem Cert.Amax Cert.AmaxIdeal.Had

/-- The reference over the extended reals ends with its arguments unchanged; it declares no semaphore. -/
theorem frame_ref : Cert.quiescent_AmaxRefIdeal := fun m ρ _ =>
  (θ_run Cert.AmaxRefIdeal.defs _ _).mono
    (fun r h => ⟨fun c => (h c).2.2, Idealize.ShloMosaic.sem_eq_zero_of_no_sems (by decide) r.2⟩)
    (Cert.AmaxRefIdeal.Value.run (F := Ideal) m ρ)

/-- The signs the kernel multiplies by are the entries of its argument. -/
theorem signs_eq (m : (ℓ : Loc Cert.AmaxIdeal.nD Cert.AmaxIdeal.τ Cert.AmaxIdeal.sig) → Buf (Elt Ideal) ℓ) (c : Dev Cert.AmaxIdeal.nD) :
    Cert.AmaxIdeal.Tile.sg m c
      = Cert.AmaxRefIdeal.RefValue.sg (m ((c.tc : Thread Cert.AmaxIdeal.nD Cert.AmaxIdeal.τ).loc Cert.AmaxIdeal.main_arg1)) := by
  funext j
  refine congrArg (m ((c.tc : Thread Cert.AmaxIdeal.nD Cert.AmaxIdeal.τ).loc Cert.AmaxIdeal.main_arg1)) ?_
  funext a
  match a with
  | ⟨0, _⟩ => exact Fin.ext (by show j.val + 1 * 0 = j.val; omega)

/-- Kernel and reference end with the same two arrays over the extended reals: the largest absolute value of every
    block's transform, and the tensor scale of the largest of them all. -/
theorem values : Cert.algebraic_AmaxIdeal_AmaxRefIdeal := by
  intro m g m' g' _ hagree
  refine ⟨_, _, Cert.AmaxIdeal.Value.run_blocks (F := Ideal) m g, ?_⟩
  refine (θ_run Cert.AmaxRefIdeal.defs _ _).mono (fun r h c => ?_) (Cert.AmaxRefIdeal.Value.run (F := Ideal) m' g')
  obtain ⟨h47, h48, h0, h1⟩ := h c
  obtain ⟨a0, a1⟩ := hagree c
  refine ⟨?_, ?_, h0, h1⟩
  · rw [h47, Cert.AmaxRefIdeal.Read.val_main_v47_eq, a0, a1]
    funext i
    have e : i = (ix2 (i 0) (i 1) : Cert.AmaxRefIdeal.S96x28672.Idx) := by
      funext a; match a with
      | ⟨0, _⟩ => rfl
      | ⟨1, _⟩ => rfl
    rw [e]
    refine (Cert.AmaxRefIdeal.RefValue.result2 _ _ (i 0) (i 1)).trans ?_
    rw [← signs_eq]
    exact (Cert.AmaxIdeal.Tile.result2 m c (i 0) (i 1)).symm
  · rw [h48, Cert.AmaxRefIdeal.Read.val_main_v48_eq, a0, a1]
    funext i
    refine (Cert.AmaxRefIdeal.RefValue.result3 _ _ i).trans ?_
    rw [← signs_eq]
    exact (Cert.AmaxIdeal.Tile.result3 m c i).symm

/-- The second call and its reference end with the same words: each block's maximum over six times the tensor scale, cast to
    float8_e4m3fn. -/
theorem scales : Cert.bitexact_Quant_ScaleRef := by
  intro m g m' g' _ hagree
  refine ⟨fun c => (Cert.Quant.Gen.dats m 0 c).arrAt 6 Cert.Quant.cfg0.N, ?_, ?_⟩
  · exact (θ_run Cert.Quant.defs _ _).mono (fun r h c => (h c).2) (Cert.Quant.Value.run_blocks (F := Bits) m g)
  · refine (θ_run Cert.ScaleRef.defs _ _).mono (fun r h c => ?_) (Cert.ScaleRef.Value.run_blocks (F := Bits) m' g')
    obtain ⟨hv, hkept⟩ := h c
    obtain ⟨-, -, a2, a3, -⟩ := hagree c
    refine ⟨?_, hkept⟩
    rw [hv, Cert.ScaleRef.Scale.final]
    refine Eq.trans ?_ (Cert.Quant.Scale.final m c).symm
    have e2 : Cert.ScaleRef.Scale.tsArg m' c = Cert.Quant.Scale.tsArg m c := a2
    have e3 : Cert.ScaleRef.Scale.amaxArg m' c = Cert.Quant.Scale.amaxArg m c := a3
    rw [e2, e3]
    rfl

/-- The second call ends with packed codes of which none is a negative zero. -/
theorem codes : Cert.holds_Codes_no_negative_zero := by
  intro m g _
  refine (θ_run Cert.Codes.defs _ _).mono (fun r h c => ?_) (Cert.Codes.Value.run_blocks (F := Bits) m g)
  obtain ⟨hv, -, k0, k1, k2, k3, k4⟩ := h c
  refine ⟨k0, k1, k2, k3, k4, ?_⟩
  rw [hv]
  funext i
  have hg := Cert.Codes.NoNegZero.final_good (F := Bits) m c i
  exact Cert.Nibble.byte_ok _ (hg 0) (hg 1)

theorem claim : Cert.Claim := ⟨Cert.Amax.Gen.facts, Cert.AmaxIdeal.Gen.facts, Cert.AmaxRefIdeal.Gen.facts,
  Cert.Quant.Gen.facts, Cert.ScaleRef.Gen.facts, Cert.Codes.Gen.facts, Cert.Post_no_negative_zero.Gen.facts,
  fun m ρ _ => Cert.Amax.Gen.frame m ρ,
  fun m ρ _ => Cert.AmaxIdeal.Gen.frame m ρ,
  frame_ref,
  fun m ρ _ => Cert.Quant.Gen.frame m ρ,
  fun m ρ _ => Cert.ScaleRef.Gen.frame m ρ,
  fun m ρ _ => Cert.Codes.Gen.frame m ρ,
  IdealRules.named_const.statement Cert.AmaxIdeal.κ "inv2688" .f32 0x39C30C31#32 ((1 / 2688 : ℝ) : EReal) rfl,
  values,
  scales,
  codes⟩

end Cert.Proof

end
